-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v20)) (v1 : (c : Dev Cert.Kernel5Ideal.nD) → Buf (Elt Ideal) ((c.tc : Thread Cert.Kernel5Ideal.nD Cert.Kernel5Ideal.τ).loc Cert.Kernel5Ideal.main_v25)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20) = v0 c
          ∧ r.2.mem ((c.tc : Thread Cert.Kernel5Ideal.nD Cert.Kernel5Ideal.τ).loc Cert.Kernel5Ideal.main_v25) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v46) = v0 c
          ∧ r.2.mem ((c.tc : Thread Cert.Reference5Ideal.nD Cert.Reference5Ideal.τ).loc Cert.Reference5Ideal.main_v49) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v27)) (v1 : (c : Dev Cert.Kernel6Ideal.nD) → Buf (Elt Ideal) ((c.tc : Thread Cert.Kernel6Ideal.nD Cert.Kernel6Ideal.τ).loc Cert.Kernel6Ideal.main_v28)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v27) = v0 c
          ∧ r.2.mem ((c.tc : Thread Cert.Kernel6Ideal.nD Cert.Kernel6Ideal.τ).loc Cert.Kernel6Ideal.main_v28) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v55) = v0 c
          ∧ r.2.mem ((c.tc : Thread Cert.Reference6Ideal.nD Cert.Reference6Ideal.τ).loc Cert.Reference6Ideal.main_v56) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v28)) (v1 : (c : Dev Cert.Kernel7Ideal.nD) → Buf (Elt Ideal) ((c.tc : Thread Cert.Kernel7Ideal.nD Cert.Kernel7Ideal.τ).loc Cert.Kernel7Ideal.main_v30)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v28) = v0 c
          ∧ r.2.mem ((c.tc : Thread Cert.Kernel7Ideal.nD Cert.Kernel7Ideal.τ).loc Cert.Kernel7Ideal.main_v30) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v53) = v0 c
          ∧ r.2.mem ((c.tc : Thread Cert.Reference7Ideal.nD Cert.Reference7Ideal.τ).loc Cert.Reference7Ideal.main_v54) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v15_0)) (v1 : (c : Dev Cert.Kernel8Ideal.nD) → Buf (Elt Ideal) ((c.tc : Thread Cert.Kernel8Ideal.nD Cert.Kernel8Ideal.τ).loc Cert.Kernel8Ideal.main_v16)) (v2 : (c : Dev Cert.Kernel8Ideal.nD) → Buf (Elt Ideal) ((c.tc : Thread Cert.Kernel8Ideal.nD Cert.Kernel8Ideal.τ).loc Cert.Kernel8Ideal.main_v17)) (v3 : (c : Dev Cert.Kernel8Ideal.nD) → Buf (Elt Ideal) ((c.tc : Thread Cert.Kernel8Ideal.nD Cert.Kernel8Ideal.τ).loc Cert.Kernel8Ideal.main_v18)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v15_0) = v0 c
          ∧ r.2.mem ((c.tc : Thread Cert.Kernel8Ideal.nD Cert.Kernel8Ideal.τ).loc Cert.Kernel8Ideal.main_v16) = v1 c
          ∧ r.2.mem ((c.tc : Thread Cert.Kernel8Ideal.nD Cert.Kernel8Ideal.τ).loc Cert.Kernel8Ideal.main_v17) = v2 c
          ∧ r.2.mem ((c.tc : Thread Cert.Kernel8Ideal.nD Cert.Kernel8Ideal.τ).loc Cert.Kernel8Ideal.main_v18) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v54) = v0 c
          ∧ r.2.mem ((c.tc : Thread Cert.Reference8Ideal.nD Cert.Reference8Ideal.τ).loc Cert.Reference8Ideal.main_v18) = v1 c
          ∧ r.2.mem ((c.tc : Thread Cert.Reference8Ideal.nD Cert.Reference8Ideal.τ).loc Cert.Reference8Ideal.main_v21) = v2 c
          ∧ r.2.mem ((c.tc : Thread Cert.Reference8Ideal.nD Cert.Reference8Ideal.τ).loc Cert.Reference8Ideal.main_v56) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v14)) (v1 : (c : Dev Cert.Kernel9Ideal.nD) → Buf (Elt Ideal) ((c.tc : Thread Cert.Kernel9Ideal.nD Cert.Kernel9Ideal.τ).loc Cert.Kernel9Ideal.main_v15)) (v2 : (c : Dev Cert.Kernel9Ideal.nD) → Buf (Elt Ideal) ((c.tc : Thread Cert.Kernel9Ideal.nD Cert.Kernel9Ideal.τ).loc Cert.Kernel9Ideal.main_v16)) (v3 : (c : Dev Cert.Kernel9Ideal.nD) → Buf (Elt Ideal) ((c.tc : Thread Cert.Kernel9Ideal.nD Cert.Kernel9Ideal.τ).loc Cert.Kernel9Ideal.main_v17)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v14) = v0 c
          ∧ r.2.mem ((c.tc : Thread Cert.Kernel9Ideal.nD Cert.Kernel9Ideal.τ).loc Cert.Kernel9Ideal.main_v15) = v1 c
          ∧ r.2.mem ((c.tc : Thread Cert.Kernel9Ideal.nD Cert.Kernel9Ideal.τ).loc Cert.Kernel9Ideal.main_v16) = v2 c
          ∧ r.2.mem ((c.tc : Thread Cert.Kernel9Ideal.nD Cert.Kernel9Ideal.τ).loc Cert.Kernel9Ideal.main_v17) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v54) = v0 c
          ∧ r.2.mem ((c.tc : Thread Cert.Reference9Ideal.nD Cert.Reference9Ideal.τ).loc Cert.Reference9Ideal.main_v18) = v1 c
          ∧ r.2.mem ((c.tc : Thread Cert.Reference9Ideal.nD Cert.Reference9Ideal.τ).loc Cert.Reference9Ideal.main_v21) = v2 c
          ∧ r.2.mem ((c.tc : Thread Cert.Reference9Ideal.nD Cert.Reference9Ideal.τ).loc Cert.Reference9Ideal.main_v56) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S16384x256 : Shape := ⟨2, ![16384, 256]⟩
abbrev S2x256x4x64 : Shape := ⟨4, ![2, 256, 4, 64]⟩
abbrev S_ : Shape := ⟨0, ![]⟩

class Facts : Prop where
  bcast_S_S16384x256 : S_.BroadcastsInDim S16384x256 (![] : Fin 0 → Fin S16384x256.rank)
  bcast_S_S2x256x4x64 : S_.BroadcastsInDim S2x256x4x64 (![] : Fin 0 → Fin S2x256x4x64.rank)

variable [Facts]

def fn {F : FTy → Type} [FloatOps F] (main_arg0 : FVec F S16384x256 .f32) (main_arg1 : FVec F S2x256x4x64 .f32) (main_arg2 : FVec F S2x256x4x64 .f32) : IVec S16384x256 1 × IVec S2x256x4x64 1 :=
  let main_cst : FVec F S_ .f32 := constant S_ .f32 0x7F800000#32
  let main_v0 : FVec F S16384x256 .f32 := broadcastInDim S16384x256 ![] bcast_S_S16384x256 main_cst
  let main_v1 : IVec S16384x256 1 := cmpf .olt main_arg0 main_v0
  let main_cst_0 : FVec F S_ .f32 := constant S_ .f32 0xFF800000#32
  let main_v2 : FVec F S16384x256 .f32 := broadcastInDim S16384x256 ![] bcast_S_S16384x256 main_cst_0
  let main_v3 : IVec S16384x256 1 := cmpf .ogt main_arg0 main_v2
  let main_v4 : IVec S16384x256 1 := andi main_v1 main_v3
  let main_cst_1 : FVec F S_ .f32 := constant S_ .f32 0x7F800000#32
  let main_v5 : FVec F S2x256x4x64 .f32 := broadcastInDim S2x256x4x64 ![] bcast_S_S2x256x4x64 main_cst_1
  let main_v6 : IVec S2x256x4x64 1 := cmpf .olt main_arg1 main_v5
  let main_cst_2 : FVec F S_ .f32 := constant S_ .f32 0xFF800000#32
  let main_v7 : FVec F S2x256x4x64 .f32 := broadcastInDim S2x256x4x64 ![] bcast_S_S2x256x4x64 main_cst_2
  let main_v8 : IVec S2x256x4x64 1 := cmpf .ogt main_arg1 main_v7
  let main_v9 : IVec S2x256x4x64 1 := andi main_v6 main_v8
  (main_v4, main_v9)
-- ==== Kernel.lean ====
abbrev S2x8192x1024 : Shape := ⟨3, ![2, 8192, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩

abbrev nBuf : Space → Nat
  | .hbm => 15
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S16384x1024, .f32⟩
  | .hbm, ⟨7, _⟩ => ⟨S1x1024, .f32⟩
  | .hbm, ⟨8, _⟩ => ⟨S1024, .f32⟩
  | .hbm, ⟨9, _⟩ => ⟨S2x1024x2816, .bf16⟩
  | .hbm, ⟨10, _⟩ => ⟨S2x1024x2816, .bf16⟩
  | .hbm, ⟨11, _⟩ => ⟨S2x2816x1024, .bf16⟩
  | .hbm, ⟨12, _⟩ => ⟨S1x1024, .f32⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x8192x1024 : Shape := ⟨3, ![2, 8192, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S16384x1024 : Shape := ⟨2, ![16384, 1024]⟩

abbrev nBuf : Space → Nat
  | .hbm => 64
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S1x1024x2816, .f32⟩
  | .hbm, ⟨9, _⟩ => ⟨S1024x2816, .f32⟩
  | .hbm, ⟨10, _⟩ => ⟨S1x1024x2816, .f32⟩
  | .hbm, ⟨11, _⟩ => ⟨S1024x2816, .f32⟩
  | .hbm, ⟨12, _⟩ => ⟨S1x2816x1024, .f32⟩
  | .hbm, ⟨13, _⟩ => ⟨S2816x1024, .f32⟩
  | .hbm, ⟨14, _⟩ => ⟨S2x8192x1024, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S_, .f32⟩
  | .hbm, ⟨34, _⟩ => ⟨S2x8192x2816, .f32⟩
  | .hbm, ⟨35, _⟩ => ⟨S2x8192x2816, .f32⟩
  | .hbm, ⟨36, _⟩ => ⟨S_, .f32⟩
  | .hbm, ⟨37, _⟩ => ⟨S2x8192x2816, .f32⟩
  | .hbm, ⟨38, _⟩ => ⟨S2x8192x2816, .f32⟩
  | .hbm, ⟨39, _⟩ => ⟨S2x8192x2816, .f32⟩
  | .hbm, ⟨40, _⟩ => ⟨S2x8192x2816, .f32⟩
  | .hbm, ⟨41, _⟩ => ⟨S2x8192x2816, .f32⟩
  | .hbm, ⟨42, _⟩ => ⟨S2x8192x1024, .f32⟩
  | .hbm, ⟨43, _⟩ => ⟨S_, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S_, .f32⟩
  | .hbm, ⟨49, _⟩ => ⟨S2x8192, .f32⟩
  | .hbm, ⟨50, _⟩ => ⟨S2x8192x1, .f32⟩
  | .hbm, ⟨51, _⟩ => ⟨S_, .f32⟩
  | .hbm, ⟨52, _⟩ => ⟨S2x8192x1, .f32⟩
  | .hbm, ⟨53, _⟩ => ⟨S2x8192x1, .f32⟩
  | .hbm, ⟨54, _⟩ => ⟨S_, .f32⟩
  | .hbm, ⟨55, _⟩ => ⟨S2x8192x1, .f32⟩
  | .hbm, ⟨56, _⟩ => ⟨S2x8192x1, .f32⟩
  | .hbm, ⟨57, _⟩ => ⟨S2x8192x1, .f32⟩
  | .hbm, ⟨58, _⟩ => ⟨S2x8192x1024, .f32⟩
  | .hbm, ⟨59, _⟩ => ⟨S2x8192x1024, .f32⟩
  | .hbm, ⟨60, _⟩ => ⟨S1x1x1024, .f32⟩
  | .hbm, ⟨61, _⟩ => ⟨S2x8192x1024, .f32⟩
  | .hbm, ⟨62, _⟩ => ⟨S2x8192x1024, .f32⟩
  | .hbm, ⟨63, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S16384x1024 : Shape := ⟨2, ![16384, 1024]⟩
abbrev S1x1024 : Shape := ⟨2, ![1, 1024]⟩
abbrev S1024 : Shape := ⟨1, ![1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩

abbrev nBuf : Space → Nat
  | .hbm => 13
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S16384x1024, .f32⟩
  | .hbm, ⟨6, _⟩ => ⟨S1x1024, .f32⟩
  | .hbm, ⟨7, _⟩ => ⟨S1024, .f32⟩
  | .hbm, ⟨8, _⟩ => ⟨S2x1024x2816, .bf16⟩
  | .hbm, ⟨9, _⟩ => ⟨S2x1024x2816, .bf16⟩
  | .hbm, ⟨10, _⟩ => ⟨S2x2816x1024, .bf16⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S512x1024, .f32⟩
  | .local _ .vmem, ⟨7, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2x8192x1024 : Shape := ⟨3, ![2, 8192, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S16384x1024 : Shape := ⟨2, ![16384, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1x1024, .f32⟩
  | .hbm, ⟨6, _⟩ => ⟨S1024, .f32⟩
  | .hbm, ⟨7, _⟩ => ⟨S1x1024x2816, .f32⟩
  | .hbm, ⟨8, _⟩ => ⟨S1024x2816, .f32⟩
  | .hbm, ⟨9, _⟩ => ⟨S1x1024x2816, .f32⟩
  | .hbm, ⟨10, _⟩ => ⟨S1024x2816, .f32⟩
  | .hbm, ⟨11, _⟩ => ⟨S1x2816x1024, .f32⟩
  | .hbm, ⟨12, _⟩ => ⟨S2816x1024, .f32⟩
  | .hbm, ⟨13, _⟩ => ⟨S2x8192x1024, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x1024, .f32⟩
  | .hbm, ⟨25, _⟩ => ⟨S2x8192x1024, .f32⟩
  | .hbm, ⟨26, _⟩ => ⟨S1x1x1024, .f32⟩
  | .hbm, ⟨27, _⟩ => ⟨S2x8192x1024, .f32⟩
  | .hbm, ⟨28, _⟩ => ⟨S2x8192x1024, .f32⟩
  | .hbm, ⟨29, _⟩ => ⟨S2x8192x2816, .f32⟩
  | .hbm, ⟨30, _⟩ => ⟨S2x8192x2816, .f32⟩
  | .hbm, ⟨31, _⟩ => ⟨S2x8192x2816, .f32⟩
  | .hbm, ⟨32, _⟩ => ⟨S_, .f32⟩
  | .hbm, ⟨33, _⟩ => ⟨S2x8192x2816, .f32⟩
  | .hbm, ⟨34, _⟩ => ⟨S2x8192x2816, .f32⟩
  | .hbm, ⟨35, _⟩ => ⟨S_, .f32⟩
  | .hbm, ⟨36, _⟩ => ⟨S2x8192x2816, .f32⟩
  | .hbm, ⟨37, _⟩ => ⟨S2x8192x2816, .f32⟩
  | .hbm, ⟨38, _⟩ => ⟨S2x8192x2816, .f32⟩
  | .hbm, ⟨39, _⟩ => ⟨S2x8192x2816, .f32⟩
  | .hbm, ⟨40, _⟩ => ⟨S2x8192x2816, .f32⟩
  | .hbm, ⟨41, _⟩ => ⟨S2x8192x1024, .f32⟩
  | .hbm, ⟨42, _⟩ => ⟨S_, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kernel3.lean ====
abbrev S16384x256 : Shape := ⟨2, ![16384, 256]⟩
abbrev S2x256x4x64 : Shape := ⟨4, ![2, 256, 4, 64]⟩
abbrev S2x8192x256 : Shape := ⟨3, ![2, 8192, 256]⟩
abbrev S2x4x64x256 : Shape := ⟨4, ![2, 4, 64, 256]⟩
abbrev S2x256x256 : Shape := ⟨3, ![2, 256, 256]⟩
abbrev S1x2048x256 : Shape := ⟨3, ![1, 2048, 256]⟩
abbrev S1x256x256 : Shape := ⟨3, ![1, 256, 256]⟩
abbrev S2048x256 : Shape := ⟨2, ![2048, 256]⟩
abbrev S256x256 : Shape := ⟨2, ![256, 256]⟩
abbrev S2048x64 : Shape := ⟨2, ![2048, 64]⟩
abbrev S64x256 : Shape := ⟨2, ![64, 256]⟩
abbrev S2048 : Shape := ⟨1, ![2048]⟩
abbrev S2048x1 : Shape := ⟨2, ![2048, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x256, .f32⟩
  | .hbm, ⟨1, _⟩ => ⟨S2x256x4x64, .f32⟩
  | .hbm, ⟨2, _⟩ => ⟨S2x256x4x64, .f32⟩
  | .hbm, ⟨3, _⟩ => ⟨S2x8192x256, .f32⟩
  | .hbm, ⟨4, _⟩ => ⟨S2x4x64x256, .f32⟩
  | .hbm, ⟨5, _⟩ => ⟨S2x256x256, .f32⟩
  | .hbm, ⟨6, _⟩ => ⟨S2x4x64x256, .f32⟩
  | .hbm, ⟨7, _⟩ => ⟨S2x256x256, .f32⟩
  | .hbm, ⟨8, _⟩ => ⟨S2x8192x256, .f32⟩
  | .local _ .vmem, ⟨0, _⟩ => ⟨S1x2048x256, .f32⟩
  | .local _ .vmem, ⟨1, _⟩ => ⟨S1x2048x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x2048x256, .f32⟩
  | .local _ .vmem, ⟨7, _⟩ => ⟨S1x2048x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x256 : Shape := ⟨2, ![16384, 256]⟩
abbrev S2x256x4x64 : Shape := ⟨4, ![2, 256, 4, 64]⟩
abbrev S2x8192x4x64 : Shape := ⟨4, ![2, 8192, 4, 64]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩
abbrev S2x8192x256 : Shape := ⟨3, ![2, 8192, 256]⟩

abbrev nBuf : Space → Nat
  | .hbm => 25
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S2x256x4x64, .f32⟩
  | .hbm, ⟨2, _⟩ => ⟨S2x256x4x64, .f32⟩
  | .hbm, ⟨3, _⟩ => ⟨S2x8192x4x64, .f32⟩
  | .hbm, ⟨4, _⟩ => ⟨S2x4x8192x256, .f32⟩
  | .hbm, ⟨5, _⟩ => ⟨S_, .f32⟩
  | .hbm, ⟨6, _⟩ => ⟨S2x4x8192x256, .f32⟩
  | .hbm, ⟨7, _⟩ => ⟨S2x4x8192x256, .f32⟩
  | .hbm, ⟨8, _⟩ => ⟨S_, .f32⟩
  | .hbm, ⟨9, _⟩ => ⟨S2x4x8192, .f32⟩
  | .hbm, ⟨10, _⟩ => ⟨S_, .f32⟩
  | .hbm, ⟨11, _⟩ => ⟨S2x4x8192, .f32⟩
  | .hbm, ⟨12, _⟩ => ⟨S2x4x8192, .f32⟩
  | .hbm, ⟨13, _⟩ => ⟨S2x4x8192x1, .f32⟩
  | .hbm, ⟨14, _⟩ => ⟨S2x4x8192x256, .f32⟩
  | .hbm, ⟨15, _⟩ => ⟨S2x4x8192x256, .f32⟩
  | .hbm, ⟨16, _⟩ => ⟨S2x4x8192x256, .f32⟩
  | .hbm, ⟨17, _⟩ => ⟨S_, .f32⟩
  | .hbm, ⟨18, _⟩ => ⟨S2x4x8192, .f32⟩
  | .hbm, ⟨19, _⟩ => ⟨S2x4x8192x1, .f32⟩
  | .hbm, ⟨20, _⟩ => ⟨S2x4x8192x256, .f32⟩
  | .hbm, ⟨21, _⟩ => ⟨S2x4x8192x256, .f32⟩
  | .hbm, ⟨22, _⟩ => ⟨S2x4x64x8192, .f32⟩
  | .hbm, ⟨23, _⟩ => ⟨S2x8192x4x64, .f32⟩
  | .hbm, ⟨24, _⟩ => ⟨S2x8192x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel4.lean ====
abbrev S32x4x1024 : Shape := ⟨3, ![32, 4, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S128x1024 : Shape := ⟨2, ![128, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S128 : Shape := ⟨1, ![128]⟩
abbrev S128x1 : Shape := ⟨2, ![128, 1]⟩
abbrev S1x1024x1280 : Shape := ⟨3, ![1, 1024, 1280]⟩
abbrev S1024x1280 : Shape := ⟨2, ![1024, 1280]⟩
abbrev S128x1280 : Shape := ⟨2, ![128, 1280]⟩
abbrev S1x1280x1024 : Shape := ⟨3, ![1, 1280, 1024]⟩
abbrev S1280x1024 : Shape := ⟨2, ![1280, 1024]⟩
abbrev S1x1024x1536 : Shape := ⟨3, ![1, 1024, 1536]⟩
abbrev S1024x1536 : Shape := ⟨2, ![1024, 1536]⟩
abbrev S128x1536 : Shape := ⟨2, ![128, 1536]⟩
abbrev S1x1536x1024 : Shape := ⟨3, ![1, 1536, 1024]⟩
abbrev S1536x1024 : Shape := ⟨2, ![1536, 1024]⟩

abbrev nBuf : Space → Nat
  | .hbm => 15
  | .vmem => 7
  | .smem => 0
  | _ => 0

abbrev bufTy : (tb : Table) → Fin (tcTables nBuf tb) → BufTy
  | .hbm, ⟨0, _⟩ => ⟨S32x4x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S128x1024, .f32⟩
  | .hbm, ⟨7, _⟩ => ⟨S1x1024, .f32⟩
  | .hbm, ⟨8, _⟩ => ⟨S1024, .f32⟩
  | .hbm, ⟨9, _⟩ => ⟨S2x1024x2816, .bf16⟩
  | .hbm, ⟨10, _⟩ => ⟨S2x1024x2816, .bf16⟩
  | .hbm, ⟨11, _⟩ => ⟨S2x2816x1024, .bf16⟩
  | .hbm, ⟨12, _⟩ => ⟨S1x1024, .f32⟩
  | .hbm, ⟨13, _⟩ => ⟨S1x1024, .f32⟩
  | .hbm, ⟨14, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x2816x1024, .bf16⟩
  | .local _ .vmem, ⟨5, _⟩ => ⟨S1x1024, .f32⟩
  | .local _ .vmem, ⟨6, _⟩ => ⟨S128x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference4Ideal.lean ====
abbrev S32x4x1024 : Shape := ⟨3, ![32, 4, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x2816 : Shape := ⟨3, ![32, 4, 2816]⟩
abbrev S128x1024 : Shape := ⟨2, ![128, 1024]⟩

abbrev nBuf : Space → Nat
  | .hbm => 64
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S1x1024x2816, .f32⟩
  | .hbm, ⟨9, _⟩ => ⟨S1024x2816, .f32⟩
  | .hbm, ⟨10, _⟩ => ⟨S1x1024x2816, .f32⟩
  | .hbm, ⟨11, _⟩ => ⟨S1024x2816, .f32⟩
  | .hbm, ⟨12, _⟩ => ⟨S1x2816x1024, .f32⟩
  | .hbm, ⟨13, _⟩ => ⟨S2816x1024, .f32⟩
  | .hbm, ⟨14, _⟩ => ⟨S32x4x1024, .f32⟩
  | .hbm, ⟨15, _⟩ => ⟨S_, .f32⟩
  | .hbm, ⟨16, _⟩ => ⟨S32x4, .f32⟩
  | .hbm, ⟨17, _⟩ => ⟨S32x4x1, .f32⟩
  | .hbm, ⟨18, _⟩ => ⟨S_, .f32⟩
  | .hbm, ⟨19, _⟩ => ⟨S32x4x1, .f32⟩
  | .hbm, ⟨20, _⟩ => ⟨S32x4x1, .f32⟩
  | .hbm, ⟨21, _⟩ => ⟨S_, .f32⟩
  | .hbm, ⟨22, _⟩ => ⟨S32x4x1, .f32⟩
  | .hbm, ⟨23, _⟩ => ⟨S32x4x1, .f32⟩
  | .hbm, ⟨24, _⟩ => ⟨S32x4x1, .f32⟩
  | .hbm, ⟨25, _⟩ => ⟨S32x4x1024, .f32⟩
  | .hbm, ⟨26, _⟩ => ⟨S32x4x1024, .f32⟩
  | .hbm, ⟨27, _⟩ => ⟨S1x1x1024, .f32⟩
  | .hbm, ⟨28, _⟩ => ⟨S32x4x1024, .f32⟩
  | .hbm, ⟨29, _⟩ => ⟨S32x4x1024, .f32⟩
  | .hbm, ⟨30, _⟩ => ⟨S32x4x2816, .f32⟩
  | .hbm, ⟨31, _⟩ => ⟨S32x4x2816, .f32⟩
  | .hbm, ⟨32, _⟩ => ⟨S32x4x2816, .f32⟩
  | .hbm, ⟨33, _⟩ => ⟨S_, .f32⟩
  | .hbm, ⟨34, _⟩ => ⟨S32x4x2816, .f32⟩
  | .hbm, ⟨35, _⟩ => ⟨S32x4x2816, .f32⟩
  | .hbm, ⟨36, _⟩ => ⟨S_, .f32⟩
  | .hbm, ⟨37, _⟩ => ⟨S32x4x2816, .f32⟩
  | .hbm, ⟨38, _⟩ => ⟨S32x4x2816, .f32⟩
  | .hbm, ⟨39, _⟩ => ⟨S32x4x2816, .f32⟩
  | .hbm, ⟨40, _⟩ => ⟨S32x4x2816, .f32⟩
  | .hbm, ⟨41, _⟩ => ⟨S32x4x2816, .f32⟩
  | .hbm, ⟨42, _⟩ => ⟨S32x4x1024, .f32⟩
  | .hbm, ⟨43, _⟩ => ⟨S_, .f32⟩
  | .hbm, ⟨44, _⟩ => ⟨S32x4x1024, .f32⟩
  | .hbm, ⟨45, _⟩ => ⟨S32x4x1024, .f32⟩
  | .hbm, ⟨46, _⟩ => ⟨S32x4x1024, .f32⟩
  | .hbm, ⟨47, _⟩ => ⟨S32x4x1024, .f32⟩
  | .hbm, ⟨48, _⟩ => ⟨S_, .f32⟩
  | .hbm, ⟨49, _⟩ => ⟨S32x4, .f32⟩
  | .hbm, ⟨50, _⟩ => ⟨S32x4x1, .f32⟩
  | .hbm, ⟨51, _⟩ => ⟨S_, .f32⟩
  | .hbm, ⟨52, _⟩ => ⟨S32x4x1, .f32⟩
  | .hbm, ⟨53, _⟩ => ⟨S32x4x1, .f32⟩
  | .hbm, ⟨54, _⟩ => ⟨S_, .f32⟩
  | .hbm, ⟨55, _⟩ => ⟨S32x4x1, .f32⟩
  | .hbm, ⟨56, _⟩ => ⟨S32x4x1, .f32⟩
  | .hbm, ⟨57, _⟩ => ⟨S32x4x1, .f32⟩
  | .hbm, ⟨58, _⟩ => ⟨S32x4x1024, .f32⟩
  | .hbm, ⟨59, _⟩ => ⟨S32x4x1024, .f32⟩
  | .hbm, ⟨60, _⟩ => ⟨S1x1x1024, .f32⟩
  | .hbm, ⟨61, _⟩ => ⟨S32x4x1024, .f32⟩
  | .hbm, ⟨62, _⟩ => ⟨S32x4x1024, .f32⟩
  | .hbm, ⟨63, _⟩ => ⟨S128x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Kernel5.lean ====
abbrev S2x256x1024 : Shape := ⟨3, ![2, 256, 1024]⟩
abbrev S2x1024 : Shape := ⟨2, ![2, 1024]⟩
abbrev S2x1024x512 : Shape := ⟨3, ![2, 1024, 512]⟩
abbrev S1x1024 : Shape := ⟨2, ![1, 1024]⟩
abbrev S1024 : Shape := ⟨1, ![1024]⟩
abbrev S1x1024x512 : Shape := ⟨3, ![1, 1024, 512]⟩
abbrev S1024x512 : Shape := ⟨2, ![1024, 512]⟩
abbrev S512x1024 : Shape := ⟨2, ![512, 1024]⟩
abbrev S2x256x256 : Shape := ⟨3, ![2, 256, 256]⟩
abbrev S256x1024 : Shape := ⟨2, ![256, 1024]⟩
abbrev S1x256x256 : Shape := ⟨3, ![1, 256, 256]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S1x2x256x256 : Shape := ⟨4, ![1, 2, 256, 256]⟩
abbrev S2x2x256x256 : Shape := ⟨4, ![2, 2, 256, 256]⟩
abbrev S2x2x4x64x256 : Shape := ⟨5, ![2, 2, 4, 64, 256]⟩
abbrev S2x2x256x4x64 : Shape := ⟨5, ![2, 2, 256, 4, 64]⟩

abbrev nBuf : Space → Nat
  | .hbm => 31
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S2x1024, .f32⟩
  | .hbm, ⟨2, _⟩ => ⟨S2x1024x512, .f32⟩
  | .hbm, ⟨3, _⟩ => ⟨S1x1024, .f32⟩
  | .hbm, ⟨4, _⟩ => ⟨S1024, .f32⟩
  | .hbm, ⟨5, _⟩ => ⟨S1x1024x512, .f32⟩
  | .hbm, ⟨6, _⟩ => ⟨S1024x512, .f32⟩
  | .hbm, ⟨7, _⟩ => ⟨S1024x512, .bf16⟩
  | .hbm, ⟨8, _⟩ => ⟨S512x1024, .f32⟩
  | .hbm, ⟨9, _⟩ => ⟨S1x1024, .f32⟩
  | .hbm, ⟨10, _⟩ => ⟨S2x256x256, .f32⟩
  | .hbm, ⟨11, _⟩ => ⟨S2x256x256, .f32⟩
  | .hbm, ⟨12, _⟩ => ⟨S1x1024, .f32⟩
  | .hbm, ⟨13, _⟩ => ⟨S1024, .f32⟩
  | .hbm, ⟨14, _⟩ => ⟨S1x1024x512, .f32⟩
  | .hbm, ⟨15, _⟩ => ⟨S1024x512, .f32⟩
  | .hbm, ⟨16, _⟩ => ⟨S1024x512, .bf16⟩
  | .hbm, ⟨17, _⟩ => ⟨S512x1024, .f32⟩
  | .hbm, ⟨18, _⟩ => ⟨S1x1024, .f32⟩
  | .hbm, ⟨19, _⟩ => ⟨S2x256x256, .f32⟩
  | .hbm, ⟨20, _⟩ => ⟨S2x256x256, .f32⟩
  | .hbm, ⟨21, _⟩ => ⟨S1x2x256x256, .f32⟩
  | .hbm, ⟨22, _⟩ => ⟨S1x2x256x256, .f32⟩
  | .hbm, ⟨23, _⟩ => ⟨S2x2x256x256, .f32⟩
  | .hbm, ⟨24, _⟩ => ⟨S2x2x4x64x256, .f32⟩
  | .hbm, ⟨25, _⟩ => ⟨S2x2x256x4x64, .f32⟩
  | .hbm, ⟨26, _⟩ => ⟨S1x2x256x256, .f32⟩
  | .hbm, ⟨27, _⟩ => ⟨S1x2x256x256, .f32⟩
  | .hbm, ⟨28, _⟩ => ⟨S2x2x256x256, .f32⟩
  | .hbm, ⟨29, _⟩ => ⟨S2x2x4x64x256, .f32⟩
  | .hbm, ⟨30, _⟩ => ⟨S2x2x256x4x64, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x512, .bf16⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S256x512, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1024x512, .bf16⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S256x512, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Reference5Ideal.lean ====
abbrev S2x256x1024 : Shape := ⟨3, ![2, 256, 1024]⟩
abbrev S2x1024 : Shape := ⟨2, ![2, 1024]⟩
abbrev S2x1024x512 : Shape := ⟨3, ![2, 1024, 512]⟩
abbrev S1x1024 : Shape := ⟨2, ![1, 1024]⟩
abbrev S1024 : Shape := ⟨1, ![1024]⟩
abbrev S1x1024x512 : Shape := ⟨3, ![1, 1024, 512]⟩
abbrev S1024x512 : Shape := ⟨2, ![1024, 512]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x512 : Shape := ⟨3, ![2, 256, 512]⟩
abbrev S2x256x256 : Shape := ⟨3, ![2, 256, 256]⟩
abbrev S2x256x4x64 : Shape := ⟨4, ![2, 256, 4, 64]⟩
abbrev S1x2x256x4x64 : Shape := ⟨5, ![1, 2, 256, 4, 64]⟩
abbrev S2x2x256x4x64 : Shape := ⟨5, ![2, 2, 256, 4, 64]⟩

abbrev nBuf : Space → Nat
  | .hbm => 59
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x1024, .f32⟩
  | .hbm, ⟨2, _⟩ => ⟨S2x1024x512, .f32⟩
  | .hbm, ⟨3, _⟩ => ⟨S1x1024, .f32⟩
  | .hbm, ⟨4, _⟩ => ⟨S1024, .f32⟩
  | .hbm, ⟨5, _⟩ => ⟨S1x1024x512, .f32⟩
  | .hbm, ⟨6, _⟩ => ⟨S1024x512, .f32⟩
  | .hbm, ⟨7, _⟩ => ⟨S2x256x1024, .f32⟩
  | .hbm, ⟨8, _⟩ => ⟨S_, .f32⟩
  | .hbm, ⟨9, _⟩ => ⟨S2x256, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S_, .f32⟩
  | .hbm, ⟨15, _⟩ => ⟨S2x256x1, .f32⟩
  | .hbm, ⟨16, _⟩ => ⟨S2x256x1, .f32⟩
  | .hbm, ⟨17, _⟩ => ⟨S2x256x1, .f32⟩
  | .hbm, ⟨18, _⟩ => ⟨S2x256x1024, .f32⟩
  | .hbm, ⟨19, _⟩ => ⟨S2x256x1024, .f32⟩
  | .hbm, ⟨20, _⟩ => ⟨S1x1x1024, .f32⟩
  | .hbm, ⟨21, _⟩ => ⟨S2x256x1024, .f32⟩
  | .hbm, ⟨22, _⟩ => ⟨S2x256x1024, .f32⟩
  | .hbm, ⟨23, _⟩ => ⟨S2x256x512, .f32⟩
  | .hbm, ⟨24, _⟩ => ⟨S2x256x256, .f32⟩
  | .hbm, ⟨25, _⟩ => ⟨S2x256x256, .f32⟩
  | .hbm, ⟨26, _⟩ => ⟨S2x256x4x64, .f32⟩
  | .hbm, ⟨27, _⟩ => ⟨S2x256x4x64, .f32⟩
  | .hbm, ⟨28, _⟩ => ⟨S1x1024, .f32⟩
  | .hbm, ⟨29, _⟩ => ⟨S1024, .f32⟩
  | .hbm, ⟨30, _⟩ => ⟨S1x1024x512, .f32⟩
  | .hbm, ⟨31, _⟩ => ⟨S1024x512, .f32⟩
  | .hbm, ⟨32, _⟩ => ⟨S2x256x1024, .f32⟩
  | .hbm, ⟨33, _⟩ => ⟨S_, .f32⟩
  | .hbm, ⟨34, _⟩ => ⟨S2x256, .f32⟩
  | .hbm, ⟨35, _⟩ => ⟨S2x256x1, .f32⟩
  | .hbm, ⟨36, _⟩ => ⟨S_, .f32⟩
  | .hbm, ⟨37, _⟩ => ⟨S2x256x1, .f32⟩
  | .hbm, ⟨38, _⟩ => ⟨S2x256x1, .f32⟩
  | .hbm, ⟨39, _⟩ => ⟨S_, .f32⟩
  | .hbm, ⟨40, _⟩ => ⟨S2x256x1, .f32⟩
  | .hbm, ⟨41, _⟩ => ⟨S2x256x1, .f32⟩
  | .hbm, ⟨42, _⟩ => ⟨S2x256x1, .f32⟩
  | .hbm, ⟨43, _⟩ => ⟨S2x256x1024, .f32⟩
  | .hbm, ⟨44, _⟩ => ⟨S2x256x1024, .f32⟩
  | .hbm, ⟨45, _⟩ => ⟨S1x1x1024, .f32⟩
  | .hbm, ⟨46, _⟩ => ⟨S2x256x1024, .f32⟩
  | .hbm, ⟨47, _⟩ => ⟨S2x256x1024, .f32⟩
  | .hbm, ⟨48, _⟩ => ⟨S2x256x512, .f32⟩
  | .hbm, ⟨49, _⟩ => ⟨S2x256x256, .f32⟩
  | .hbm, ⟨50, _⟩ => ⟨S2x256x256, .f32⟩
  | .hbm, ⟨51, _⟩ => ⟨S2x256x4x64, .f32⟩
  | .hbm, ⟨52, _⟩ => ⟨S2x256x4x64, .f32⟩
  | .hbm, ⟨53, _⟩ => ⟨S1x2x256x4x64, .f32⟩
  | .hbm, ⟨54, _⟩ => ⟨S1x2x256x4x64, .f32⟩
  | .hbm, ⟨55, _⟩ => ⟨S2x2x256x4x64, .f32⟩
  | .hbm, ⟨56, _⟩ => ⟨S1x2x256x4x64, .f32⟩
  | .hbm, ⟨57, _⟩ => ⟨S1x2x256x4x64, .f32⟩
  | .hbm, ⟨58, _⟩ => ⟨S2x2x256x4x64, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== Kernel6.lean ====
abbrev S32x4x1024 : Shape := ⟨3, ![32, 4, 1024]⟩
abbrev S1024 : Shape := ⟨1, ![1024]⟩
abbrev S1024x512 : Shape := ⟨2, ![1024, 512]⟩
abbrev S128x1024 : Shape := ⟨2, ![128, 1024]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x1024 : Shape := ⟨2, ![1, 1024]⟩
abbrev S128x256 : Shape := ⟨2, ![128, 256]⟩
abbrev S1024x256 : Shape := ⟨2, ![1024, 256]⟩
abbrev S32x4x4x64 : Shape := ⟨4, ![32, 4, 4, 64]⟩

abbrev nBuf : Space → Nat
  | .hbm => 86
  | .vmem => 12
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x512, .f32⟩
  | .hbm, ⟨3, _⟩ => ⟨S128x1024, .f32⟩
  | .hbm, ⟨4, _⟩ => ⟨S1024x512, .bf16⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S128, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .i32⟩
  | .hbm, ⟨32, _⟩ => ⟨S_, .i1⟩
  | .hbm, ⟨33, _⟩ => ⟨S128, .i1⟩
  | .hbm, ⟨34, _⟩ => ⟨S128, .i1⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S128, .i32⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S128, .i32⟩
  | .hbm, ⟨49, _⟩ => ⟨S128, .i32⟩
  | .hbm, ⟨50, _⟩ => ⟨S_, .i32⟩
  | .hbm, ⟨51, _⟩ => ⟨S128, .i32⟩
  | .hbm, ⟨52, _⟩ => ⟨S128, .i1⟩
  | .hbm, ⟨53, _⟩ => ⟨S_, .i32⟩
  | .hbm, ⟨54, _⟩ => ⟨S128, .i32⟩
  | .hbm, ⟨55, _⟩ => ⟨S128, .i1⟩
  | .hbm, ⟨56, _⟩ => ⟨S_, .i32⟩
  | .hbm, ⟨57, _⟩ => ⟨S_, .i1⟩
  | .hbm, ⟨58, _⟩ => ⟨S128, .i1⟩
  | .hbm, ⟨59, _⟩ => ⟨S128, .i1⟩
  | .hbm, ⟨60, _⟩ => ⟨S128, .i1⟩
  | .hbm, ⟨61, _⟩ => ⟨S128, .i32⟩
  | .hbm, ⟨62, _⟩ => ⟨S128, .i32⟩
  | .hbm, ⟨63, _⟩ => ⟨S128, .i32⟩
  | .hbm, ⟨64, _⟩ => ⟨S_, .i32⟩
  | .hbm, ⟨65, _⟩ => ⟨S128, .i32⟩
  | .hbm, ⟨66, _⟩ => ⟨S128, .i1⟩
  | .hbm, ⟨67, _⟩ => ⟨S_, .i32⟩
  | .hbm, ⟨68, _⟩ => ⟨S128, .i32⟩
  | .hbm, ⟨69, _⟩ => ⟨S128, .i32⟩
  | .hbm, ⟨70, _⟩ => ⟨S128, .i32⟩
  | .hbm, ⟨71, _⟩ => ⟨S128x1, .i32⟩
  | .hbm, ⟨72, _⟩ => ⟨S128, .f32⟩
  | .hbm, ⟨73, _⟩ => ⟨S_, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S128x128, .f32⟩
  | .hbm, ⟨79, _⟩ => ⟨S128x128, .f32⟩
  | .hbm, ⟨80, _⟩ => ⟨S128x128, .f32⟩
  | .hbm, ⟨81, _⟩ => ⟨S1x1024, .f32⟩
  | .hbm, ⟨82, _⟩ => ⟨S128x256, .f32⟩
  | .hbm, ⟨83, _⟩ => ⟨S128x256, .f32⟩
  | .hbm, ⟨84, _⟩ => ⟨S32x4x4x64, .f32⟩
  | .hbm, ⟨85, _⟩ => ⟨S32x4x4x64, .f32⟩
  | .local _ .vmem, ⟨0, _⟩ => ⟨S1x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x1024, .f32⟩
  | .local _ .vmem, ⟨5, _⟩ => ⟨S1x1024, .f32⟩
  | .local _ .vmem, ⟨6, _⟩ => ⟨S1024x512, .bf16⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x256, .f32⟩
  | .local _ .vmem, ⟨11, _⟩ => ⟨S128x256, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v11 : Ref sig .tc := ⟨.hbm, 38, rfl⟩
abbrev main_c_2 : Ref sig .tc := ⟨.hbm, 39, rfl⟩
abbrev main_v12 : Ref sig .tc := ⟨.hbm, 40, rfl⟩
abbrev main_v13 : Ref sig .tc := ⟨.hbm, 41, rfl⟩
abbrev main_c_3 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v14 : Ref sig .tc := ⟨.hbm, 63, rfl⟩
abbrev main_c_4 : Ref sig .tc := ⟨.hbm, 64, rfl⟩
abbrev main_v15 : Ref sig .tc := ⟨.hbm, 65, rfl⟩
abbrev main_v16 : Ref sig .tc := ⟨.hbm, 66, rfl⟩
abbrev main_c_5 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_cst_6 : Ref sig .tc := ⟨.hbm, 73, rfl⟩
abbrev main_call2_v0 : Ref sig .tc := ⟨.hbm, 74, rfl⟩
abbrev main_call2_v1 : Ref sig .tc := ⟨.hbm, 75, rfl⟩
abbrev main_v22 : Ref sig .tc := ⟨.hbm, 76, rfl⟩
abbrev main_v23 : Ref sig .tc := ⟨.hbm, 77, rfl⟩
abbrev main_v24_0 : Ref sig .tc := ⟨.hbm, 78, rfl⟩
abbrev main_v24_1 : Ref sig .tc := ⟨.hbm, 79, rfl⟩
abbrev main_v24_2 : Ref sig .tc := ⟨.hbm, 80, rfl⟩
abbrev main_v25 : Ref sig .tc := ⟨.hbm, 81, rfl⟩
abbrev main_v26_0 : Ref sig .tc := ⟨.hbm, 82, rfl⟩
abbrev main_v26_1 : Ref sig .tc := ⟨.hbm, 83, rfl⟩
abbrev main_v27 : Ref sig .tc := ⟨.hbm, 84, rfl⟩
abbrev main_v28 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S128x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== Reference6Ideal.lean ====
abbrev S32x4x1024 : Shape := ⟨3, ![32, 4, 1024]⟩
abbrev S1024 : Shape := ⟨1, ![1024]⟩
abbrev S1024x512 : Shape := ⟨2, ![1024, 512]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x512 : Shape := ⟨3, ![32, 4, 512]⟩
abbrev S32x4x256 : Shape := ⟨3, ![32, 4, 256]⟩
abbrev S32x4x4x64 : Shape := ⟨4, ![32, 4, 4, 64]⟩
abbrev S4 : Shape := ⟨1, ![4]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S4x1x8 : Shape := ⟨3, ![4, 1, 8]⟩
abbrev S32x4x4x8 : Shape := ⟨4, ![32, 4, 4, 8]⟩
abbrev S1x4x1x8 : Shape := ⟨4, ![1, 4, 1, 8]⟩
abbrev S32x4x4x48 : Shape := ⟨4, ![32, 4, 4, 48]⟩

abbrev nBuf : Space → Nat
  | .hbm => 67
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x512, .f32⟩
  | .hbm, ⟨3, _⟩ => ⟨S32x4x1024, .f32⟩
  | .hbm, ⟨4, _⟩ => ⟨S_, .f32⟩
  | .hbm, ⟨5, _⟩ => ⟨S32x4, .f32⟩
  | .hbm, ⟨6, _⟩ => ⟨S32x4x1, .f32⟩
  | .hbm, ⟨7, _⟩ => ⟨S_, .f32⟩
  | .hbm, ⟨8, _⟩ => ⟨S32x4x1, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S32x4x1, .f32⟩
  | .hbm, ⟨14, _⟩ => ⟨S32x4x1024, .f32⟩
  | .hbm, ⟨15, _⟩ => ⟨S32x4x1024, .f32⟩
  | .hbm, ⟨16, _⟩ => ⟨S1x1x1024, .f32⟩
  | .hbm, ⟨17, _⟩ => ⟨S32x4x1024, .f32⟩
  | .hbm, ⟨18, _⟩ => ⟨S32x4x1024, .f32⟩
  | .hbm, ⟨19, _⟩ => ⟨S32x4x512, .f32⟩
  | .hbm, ⟨20, _⟩ => ⟨S32x4x256, .f32⟩
  | .hbm, ⟨21, _⟩ => ⟨S32x4x256, .f32⟩
  | .hbm, ⟨22, _⟩ => ⟨S32x4x4x64, .f32⟩
  | .hbm, ⟨23, _⟩ => ⟨S4, .i32⟩
  | .hbm, ⟨24, _⟩ => ⟨S_, .i32⟩
  | .hbm, ⟨25, _⟩ => ⟨S4, .i32⟩
  | .hbm, ⟨26, _⟩ => ⟨S4, .i32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S4, .f32⟩
  | .hbm, ⟨39, _⟩ => ⟨S4x1, .f32⟩
  | .hbm, ⟨40, _⟩ => ⟨S1x8, .f32⟩
  | .hbm, ⟨41, _⟩ => ⟨S4x8, .f32⟩
  | .hbm, ⟨42, _⟩ => ⟨S4x8, .f32⟩
  | .hbm, ⟨43, _⟩ => ⟨S4x8, .f32⟩
  | .hbm, ⟨44, _⟩ => ⟨S4x8, .f32⟩
  | .hbm, ⟨45, _⟩ => ⟨S4x1x8, .f32⟩
  | .hbm, ⟨46, _⟩ => ⟨S4x8, .f32⟩
  | .hbm, ⟨47, _⟩ => ⟨S4x1x8, .f32⟩
  | .hbm, ⟨48, _⟩ => ⟨S32x4x4x8, .f32⟩
  | .hbm, ⟨49, _⟩ => ⟨S32x4x4x8, .f32⟩
  | .hbm, ⟨50, _⟩ => ⟨S1x4x1x8, .f32⟩
  | .hbm, ⟨51, _⟩ => ⟨S32x4x4x8, .f32⟩
  | .hbm, ⟨52, _⟩ => ⟨S32x4x4x8, .f32⟩
  | .hbm, ⟨53, _⟩ => ⟨S1x4x1x8, .f32⟩
  | .hbm, ⟨54, _⟩ => ⟨S32x4x4x8, .f32⟩
  | .hbm, ⟨55, _⟩ => ⟨S32x4x4x8, .f32⟩
  | .hbm, ⟨56, _⟩ => ⟨S32x4x4x8, .f32⟩
  | .hbm, ⟨57, _⟩ => ⟨S1x4x1x8, .f32⟩
  | .hbm, ⟨58, _⟩ => ⟨S32x4x4x8, .f32⟩
  | .hbm, ⟨59, _⟩ => ⟨S32x4x4x8, .f32⟩
  | .hbm, ⟨60, _⟩ => ⟨S1x4x1x8, .f32⟩
  | .hbm, ⟨61, _⟩ => ⟨S32x4x4x8, .f32⟩
  | .hbm, ⟨62, _⟩ => ⟨S32x4x4x8, .f32⟩
  | .hbm, ⟨63, _⟩ => ⟨S32x4x4x8, .f32⟩
  | .hbm, ⟨64, _⟩ => ⟨S32x4x4x48, .f32⟩
  | .hbm, ⟨65, _⟩ => ⟨S32x4x4x64, .f32⟩
  | .hbm, ⟨66, _⟩ => ⟨S32x4x4x64, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩

abbrev nD : Nat := 1
abbrev τ : Topo := Topo.v7x

variable {F : FTy → Type} [FloatOps F]
-- ==== Kernel7.lean ====
abbrev S2x8192x1024 : Shape := ⟨3, ![2, 8192, 1024]⟩
abbrev S1024 : Shape := ⟨1, ![1024]⟩
abbrev S1024x512 : Shape := ⟨2, ![1024, 512]⟩
abbrev S16384x1024 : Shape := ⟨2, ![16384, 1024]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S8192x128 : Shape := ⟨2, ![8192, 128]⟩
abbrev S1024x128 : Shape := ⟨2, ![1024, 128]⟩
abbrev S1x1024 : Shape := ⟨2, ![1, 1024]⟩
abbrev S2x256x8192 : Shape := ⟨3, ![2, 256, 8192]⟩
abbrev S4x16384x128 : Shape := ⟨3, ![4, 16384, 128]⟩
abbrev S64x4x80x256 : Shape := ⟨4, ![64, 4, 80, 256]⟩
abbrev S64x1x256 : Shape := ⟨3, ![64, 1, 256]⟩
abbrev S256x1024 : Shape := ⟨2, ![256, 1024]⟩
abbrev S256x128 : Shape := ⟨2, ![256, 128]⟩
abbrev S1x256x256 : Shape := ⟨3, ![1, 256, 256]⟩
abbrev S4x256x128 : Shape := ⟨3, ![4, 256, 128]⟩
abbrev S1x4x80x256 : Shape := ⟨4, ![1, 4, 80, 256]⟩
abbrev S1x1x256 : Shape := ⟨3, ![1, 1, 256]⟩
abbrev S256x256 : Shape := ⟨2, ![256, 256]⟩
abbrev S256 : Shape := ⟨1, ![256]⟩
abbrev S256x1 : Shape := ⟨2, ![256, 1]⟩
abbrev S1024x256 : Shape := ⟨2, ![1024, 256]⟩
abbrev S256x64 : Shape := ⟨2, ![256, 64]⟩
abbrev S1x256x128 : Shape := ⟨3, ![1, 256, 128]⟩
abbrev S64x256 : Shape := ⟨2, ![64, 256]⟩
abbrev S1x1x64x256 : Shape := ⟨4, ![1, 1, 64, 256]⟩
abbrev S16x256 : Shape := ⟨2, ![16, 256]⟩
abbrev S1x1x16x256 : Shape := ⟨4, ![1, 1, 16, 256]⟩
abbrev S1x256 : Shape := ⟨2, ![1, 256]⟩
abbrev S2x4x64x8192 : Shape := ⟨4, ![2, 4, 64, 8192]⟩
abbrev S2x8192x4x64 : Shape := ⟨4, ![2, 8192, 4, 64]⟩

abbrev nBuf : Space → Nat
  | .hbm => 91
  | .vmem => 28
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x512, .f32⟩
  | .hbm, ⟨3, _⟩ => ⟨S16384x1024, .f32⟩
  | .hbm, ⟨4, _⟩ => ⟨S1024x512, .bf16⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S128, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .i32⟩
  | .hbm, ⟨32, _⟩ => ⟨S_, .i1⟩
  | .hbm, ⟨33, _⟩ => ⟨S128, .i1⟩
  | .hbm, ⟨34, _⟩ => ⟨S128, .i1⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S128, .i32⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S128, .i32⟩
  | .hbm, ⟨49, _⟩ => ⟨S128, .i32⟩
  | .hbm, ⟨50, _⟩ => ⟨S_, .i32⟩
  | .hbm, ⟨51, _⟩ => ⟨S128, .i32⟩
  | .hbm, ⟨52, _⟩ => ⟨S128, .i1⟩
  | .hbm, ⟨53, _⟩ => ⟨S_, .i32⟩
  | .hbm, ⟨54, _⟩ => ⟨S128, .i32⟩
  | .hbm, ⟨55, _⟩ => ⟨S128, .i1⟩
  | .hbm, ⟨56, _⟩ => ⟨S_, .i32⟩
  | .hbm, ⟨57, _⟩ => ⟨S_, .i1⟩
  | .hbm, ⟨58, _⟩ => ⟨S128, .i1⟩
  | .hbm, ⟨59, _⟩ => ⟨S128, .i1⟩
  | .hbm, ⟨60, _⟩ => ⟨S128, .i1⟩
  | .hbm, ⟨61, _⟩ => ⟨S128, .i32⟩
  | .hbm, ⟨62, _⟩ => ⟨S128, .i32⟩
  | .hbm, ⟨63, _⟩ => ⟨S128, .i32⟩
  | .hbm, ⟨64, _⟩ => ⟨S_, .i32⟩
  | .hbm, ⟨65, _⟩ => ⟨S128, .i32⟩
  | .hbm, ⟨66, _⟩ => ⟨S128, .i1⟩
  | .hbm, ⟨67, _⟩ => ⟨S_, .i32⟩
  | .hbm, ⟨68, _⟩ => ⟨S128, .i32⟩
  | .hbm, ⟨69, _⟩ => ⟨S128, .i32⟩
  | .hbm, ⟨70, _⟩ => ⟨S128, .i32⟩
  | .hbm, ⟨71, _⟩ => ⟨S128x1, .i32⟩
  | .hbm, ⟨72, _⟩ => ⟨S128, .f32⟩
  | .hbm, ⟨73, _⟩ => ⟨S_, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S8192x128, .f32⟩
  | .hbm, ⟨79, _⟩ => ⟨S8192x128, .f32⟩
  | .hbm, ⟨80, _⟩ => ⟨S8192x128, .f32⟩
  | .hbm, ⟨81, _⟩ => ⟨S1x1024, .f32⟩
  | .hbm, ⟨82, _⟩ => ⟨S2x256x8192, .f32⟩
  | .hbm, ⟨83, _⟩ => ⟨S2x256x8192, .f32⟩
  | .hbm, ⟨84, _⟩ => ⟨S4x16384x128, .bf16⟩
  | .hbm, ⟨85, _⟩ => ⟨S64x4x80x256, .bf16⟩
  | .hbm, ⟨86, _⟩ => ⟨S64x1x256, .f32⟩
  | .hbm, ⟨87, _⟩ => ⟨S2x4x64x8192, .f32⟩
  | .hbm, ⟨88, _⟩ => ⟨S2x8192x4x64, .f32⟩
  | .hbm, ⟨89, _⟩ => ⟨S2x4x64x8192, .f32⟩
  | .hbm, ⟨90, _⟩ => ⟨S2x8192x4x64, .f32⟩
  | .local _ .vmem, ⟨0, _⟩ => ⟨S1x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1024x512, .bf16⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S4x256x128, .bf16⟩
  | .local _ .vmem, ⟨22, _⟩ => ⟨S4x256x128, .bf16⟩
  | .local _ .vmem, ⟨23, _⟩ => ⟨S1x4x80x256, .bf16⟩
  | .local _ .vmem, ⟨24, _⟩ => ⟨S1x4x80x256, .bf16⟩
  | .local _ .vmem, ⟨25, _⟩ => ⟨S1x1x256, .f32⟩
  | .local _ .vmem, ⟨26, _⟩ => ⟨S1x1x256, .f32⟩
  | .local _ .vmem, ⟨27, _⟩ => ⟨S256x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v11 : Ref sig .tc := ⟨.hbm, 38, rfl⟩
abbrev main_c_2 : Ref sig .tc := ⟨.hbm, 39, rfl⟩
abbrev main_v12 : Ref sig .tc := ⟨.hbm, 40, rfl⟩
abbrev main_v13 : Ref sig .tc := ⟨.hbm, 41, rfl⟩
abbrev main_c_3 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v14 : Ref sig .tc := ⟨.hbm, 63, rfl⟩
abbrev main_c_4 : Ref sig .tc := ⟨.hbm, 64, rfl⟩
abbrev main_v15 : Ref sig .tc := ⟨.hbm, 65, rfl⟩
abbrev main_v16 : Ref sig .tc := ⟨.hbm, 66, rfl⟩
abbrev main_c_5 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_cst_6 : Ref sig .tc := ⟨.hbm, 73, rfl⟩
abbrev main_call2_v0 : Ref sig .tc := ⟨.hbm, 74, rfl⟩
abbrev main_call2_v1 : Ref sig .tc := ⟨.hbm, 75, rfl⟩
abbrev main_v22 : Ref sig .tc := ⟨.hbm, 76, rfl⟩
abbrev main_v23 : Ref sig .tc := ⟨.hbm, 77, rfl⟩
abbrev main_v24_0 : Ref sig .tc := ⟨.hbm, 78, rfl⟩
abbrev main_v24_1 : Ref sig .tc := ⟨.hbm, 79, rfl⟩
abbrev main_v24_2 : Ref sig .tc := ⟨.hbm, 80, rfl⟩
abbrev main_v25 : Ref sig .tc := ⟨.hbm, 81, rfl⟩
abbrev main_v26_0 : Ref sig .tc := ⟨.hbm, 82, rfl⟩
abbrev main_v26_1 : Ref sig .tc := ⟨.hbm, 83, rfl⟩
abbrev main_v26_2 : Ref sig .tc := ⟨.hbm, 84, rfl⟩
abbrev main_v26_3 : Ref sig .tc := ⟨.hbm, 85, rfl⟩
abbrev main_v26_4 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_scratch0 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_4 (i : grid1.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_5 (i : grid1.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_6 (i : grid1.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_7 (i : grid1.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4x256x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x4x80x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x1x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== Reference7Ideal.lean ====
abbrev S2x8192x1024 : Shape := ⟨3, ![2, 8192, 1024]⟩
abbrev S1024 : Shape := ⟨1, ![1024]⟩
abbrev S1024x512 : Shape := ⟨2, ![1024, 512]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x512 : Shape := ⟨3, ![2, 8192, 512]⟩
abbrev S2x8192x256 : Shape := ⟨3, ![2, 8192, 256]⟩
abbrev S2x8192x4x64 : Shape := ⟨4, ![2, 8192, 4, 64]⟩
abbrev S8192 : Shape := ⟨1, ![8192]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S2x8192x4x8 : Shape := ⟨4, ![2, 8192, 4, 8]⟩
abbrev S1x8192x1x8 : Shape := ⟨4, ![1, 8192, 1, 8]⟩
abbrev S2x8192x4x48 : Shape := ⟨4, ![2, 8192, 4, 48]⟩

abbrev nBuf : Space → Nat
  | .hbm => 64
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x512, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x512, .f32⟩
  | .hbm, ⟨20, _⟩ => ⟨S2x8192x256, .f32⟩
  | .hbm, ⟨21, _⟩ => ⟨S2x8192x256, .f32⟩
  | .hbm, ⟨22, _⟩ => ⟨S2x8192x4x64, .f32⟩
  | .hbm, ⟨23, _⟩ => ⟨S8192, .i32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8192, .f32⟩
  | .hbm, ⟨36, _⟩ => ⟨S8192x1, .f32⟩
  | .hbm, ⟨37, _⟩ => ⟨S1x8, .f32⟩
  | .hbm, ⟨38, _⟩ => ⟨S8192x8, .f32⟩
  | .hbm, ⟨39, _⟩ => ⟨S8192x8, .f32⟩
  | .hbm, ⟨40, _⟩ => ⟨S8192x8, .f32⟩
  | .hbm, ⟨41, _⟩ => ⟨S8192x8, .f32⟩
  | .hbm, ⟨42, _⟩ => ⟨S8192x1x8, .f32⟩
  | .hbm, ⟨43, _⟩ => ⟨S8192x8, .f32⟩
  | .hbm, ⟨44, _⟩ => ⟨S8192x1x8, .f32⟩
  | .hbm, ⟨45, _⟩ => ⟨S2x8192x4x8, .f32⟩
  | .hbm, ⟨46, _⟩ => ⟨S2x8192x4x8, .f32⟩
  | .hbm, ⟨47, _⟩ => ⟨S1x8192x1x8, .f32⟩
  | .hbm, ⟨48, _⟩ => ⟨S2x8192x4x8, .f32⟩
  | .hbm, ⟨49, _⟩ => ⟨S2x8192x4x8, .f32⟩
  | .hbm, ⟨50, _⟩ => ⟨S1x8192x1x8, .f32⟩
  | .hbm, ⟨51, _⟩ => ⟨S2x8192x4x8, .f32⟩
  | .hbm, ⟨52, _⟩ => ⟨S2x8192x4x8, .f32⟩
  | .hbm, ⟨53, _⟩ => ⟨S2x8192x4x8, .f32⟩
  | .hbm, ⟨54, _⟩ => ⟨S1x8192x1x8, .f32⟩
  | .hbm, ⟨55, _⟩ => ⟨S2x8192x4x8, .f32⟩
  | .hbm, ⟨56, _⟩ => ⟨S2x8192x4x8, .f32⟩
  | .hbm, ⟨57, _⟩ => ⟨S1x8192x1x8, .f32⟩
  | .hbm, ⟨58, _⟩ => ⟨S2x8192x4x8, .f32⟩
  | .hbm, ⟨59, _⟩ => ⟨S2x8192x4x8, .f32⟩
  | .hbm, ⟨60, _⟩ => ⟨S2x8192x4x8, .f32⟩
  | .hbm, ⟨61, _⟩ => ⟨S2x8192x4x48, .f32⟩
  | .hbm, ⟨62, _⟩ => ⟨S2x8192x4x64, .f32⟩
  | .hbm, ⟨63, _⟩ => ⟨S2x8192x4x64, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩

abbrev nD : Nat := 1
abbrev τ : Topo := Topo.v7x

variable {F : FTy → Type} [FloatOps F]
-- ==== Kernel8.lean ====
abbrev S32x4x1024 : Shape := ⟨3, ![32, 4, 1024]⟩
abbrev S2x1024 : Shape := ⟨2, ![2, 1024]⟩
abbrev S1x1024x3352 : Shape := ⟨3, ![1, 1024, 3352]⟩
abbrev S1x32x3x2304 : Shape := ⟨4, ![1, 32, 3, 2304]⟩
abbrev S1x4x2304 : Shape := ⟨3, ![1, 4, 2304]⟩
abbrev S128x1024 : Shape := ⟨2, ![128, 1024]⟩
abbrev S1x1024 : Shape := ⟨2, ![1, 1024]⟩
abbrev S1024 : Shape := ⟨1, ![1024]⟩
abbrev S1024x3352 : Shape := ⟨2, ![1024, 3352]⟩
abbrev S1024x3072 : Shape := ⟨2, ![1024, 3072]⟩
abbrev S1024x24 : Shape := ⟨2, ![1024, 24]⟩
abbrev S1024x256 : Shape := ⟨2, ![1024, 256]⟩
abbrev S_ : Shape := ⟨0, ![]⟩
abbrev S1024x128 : Shape := ⟨2, ![1024, 128]⟩
abbrev S1024x3456 : Shape := ⟨2, ![1024, 3456]⟩
abbrev S128x2304 : Shape := ⟨2, ![128, 2304]⟩
abbrev S128x768 : Shape := ⟨2, ![128, 768]⟩
abbrev S128x256 : Shape := ⟨2, ![128, 256]⟩
abbrev S128x128 : Shape := ⟨2, ![128, 128]⟩
abbrev S128 : Shape := ⟨1, ![128]⟩
abbrev S128x1 : Shape := ⟨2, ![128, 1]⟩
abbrev S1024x2304 : Shape := ⟨2, ![1024, 2304]⟩
abbrev S1024x768 : Shape := ⟨2, ![1024, 768]⟩
abbrev S32x4x2304 : Shape := ⟨3, ![32, 4, 2304]⟩
abbrev S32x3x2304 : Shape := ⟨3, ![32, 3, 2304]⟩
abbrev S4x2304 : Shape := ⟨2, ![4, 2304]⟩
abbrev S1x3x2304 : Shape := ⟨3, ![1, 3, 2304]⟩
abbrev S12x2304 : Shape := ⟨2, ![12, 2304]⟩
abbrev S3x2304 : Shape := ⟨2, ![3, 2304]⟩
abbrev S1x2304 : Shape := ⟨2, ![1, 2304]⟩
abbrev S32x4x768 : Shape := ⟨3, ![32, 4, 768]⟩
abbrev S32x4x256 : Shape := ⟨3, ![32, 4, 256]⟩

abbrev nBuf : Space → Nat
  | .hbm => 30
  | .vmem => 19
  | .smem => 0
  | _ => 0

abbrev bufTy : (tb : Table) → Fin (tcTables nBuf tb) → BufTy
  | .hbm, ⟨0, _⟩ => ⟨S32x4x1024, .f32⟩
  | .hbm, ⟨1, _⟩ => ⟨S2x1024, .f32⟩
  | .hbm, ⟨2, _⟩ => ⟨S1x1024x3352, .f32⟩
  | .hbm, ⟨3, _⟩ => ⟨S1x32x3x2304, .f32⟩
  | .hbm, ⟨4, _⟩ => ⟨S1x4x2304, .f32⟩
  | .hbm, ⟨5, _⟩ => ⟨S128x1024, .f32⟩
  | .hbm, ⟨6, _⟩ => ⟨S1x1024, .f32⟩
  | .hbm, ⟨7, _⟩ => ⟨S1024, .f32⟩
  | .hbm, ⟨8, _⟩ => ⟨S1024x3352, .f32⟩
  | .hbm, ⟨9, _⟩ => ⟨S1024x3072, .f32⟩
  | .hbm, ⟨10, _⟩ => ⟨S1024x24, .f32⟩
  | .hbm, ⟨11, _⟩ => ⟨S1024x256, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x3456, .f32⟩
  | .hbm, ⟨16, _⟩ => ⟨S1024x3456, .bf16⟩
  | .hbm, ⟨17, _⟩ => ⟨S1x1024, .f32⟩
  | .hbm, ⟨18, _⟩ => ⟨S128x2304, .f32⟩
  | .hbm, ⟨19, _⟩ => ⟨S128x768, .f32⟩
  | .hbm, ⟨20, _⟩ => ⟨S128x256, .f32⟩
  | .hbm, ⟨21, _⟩ => ⟨S128x128, .f32⟩
  | .hbm, ⟨22, _⟩ => ⟨S32x4x2304, .f32⟩
  | .hbm, ⟨23, _⟩ => ⟨S32x3x2304, .f32⟩
  | .hbm, ⟨24, _⟩ => ⟨S4x2304, .f32⟩
  | .hbm, ⟨25, _⟩ => ⟨S32x4x2304, .f32⟩
  | .hbm, ⟨26, _⟩ => ⟨S32x3x2304, .f32⟩
  | .hbm, ⟨27, _⟩ => ⟨S32x4x768, .f32⟩
  | .hbm, ⟨28, _⟩ => ⟨S32x4x256, .f32⟩
  | .hbm, ⟨29, _⟩ => ⟨S1x32x3x2304, .f32⟩
  | .local _ .vmem, ⟨0, _⟩ => ⟨S128x1024, .f32⟩
  | .local _ .vmem, ⟨1, _⟩ => ⟨S1x1024, .f32⟩
  | .local _ .vmem, ⟨2, _⟩ => ⟨S1024x3456, .bf16⟩
  | .local _ .vmem, ⟨3, _⟩ => ⟨S128x2304, .f32⟩
  | .local _ .vmem, ⟨4, _⟩ => ⟨S128x768, .f32⟩
  | .local _ .vmem, ⟨5, _⟩ => ⟨S128x256, .f32⟩
  | .local _ .vmem, ⟨6, _⟩ => ⟨S128x128, .f32⟩
  | .local _ .vmem, ⟨7, _⟩ => ⟨S1x4x2304, .f32⟩
  | .local _ .vmem, ⟨8, _⟩ => ⟨S1x4x2304, .f32⟩
  | .local _ .vmem, ⟨9, _⟩ => ⟨S1x4x2304, .f32⟩
  | .local _ .vmem, ⟨10, _⟩ => ⟨S1x4x2304, .f32⟩
  | .local _ .vmem, ⟨11, _⟩ => ⟨S1x3x2304, .f32⟩
  | .local _ .vmem, ⟨12, _⟩ => ⟨S1x3x2304, .f32⟩
  | .local _ .vmem, ⟨13, _⟩ => ⟨S4x2304, .f32⟩
  | .local _ .vmem, ⟨14, _⟩ => ⟨S1x4x2304, .f32⟩
  | .local _ .vmem, ⟨15, _⟩ => ⟨S1x4x2304, .f32⟩
  | .local _ .vmem, ⟨16, _⟩ => ⟨S1x3x2304, .f32⟩
  | .local _ .vmem, ⟨17, _⟩ => ⟨S1x3x2304, .f32⟩
  | .local _ .vmem, ⟨18, _⟩ => ⟨S12x2304, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev grid1 : Pipeline.Grid := ⟨2, ![32, 1], ![false, false]⟩

def k1_cond3 (i : grid1.Coords) : BitVec 1 :=
  let arg1 : BitVec 32 := BitVec.ofNat 32 (i 1).val
  let c0_i32_21 : BitVec 32 := 0#32
  let v45 : BitVec 1 := Scalar.cmpi .eq arg1 c0_i32_21
  let v46 : BitVec 32 := Scalar.extui v45
  let c0_i32_22 : BitVec 32 := 0#32
  let v47 : BitVec 1 := Scalar.cmpi .ne v46 c0_i32_22
  v47

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c1_i32_0 : BitVec 32 := 1#32
  let v1 : BitVec 32 := Scalar.subi v0 c1_i32_0
  let c0_i32 : BitVec 32 := 0#32
  let v2 : BitVec 32 := Scalar.maxsi v1 c0_i32
  let c0_i32_1 : BitVec 32 := 0#32
  let c0_i32_2 : BitVec 32 := 0#32
  ![arg0.toNat, v2.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4x2304 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4x2304 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x3x2304 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S4x2304 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x4x2304 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x3x2304 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== Reference8Ideal.lean ====
abbrev S32x4x1024 : Shape := ⟨3, ![32, 4, 1024]⟩
abbrev S2x1024 : Shape := ⟨2, ![2, 1024]⟩
abbrev S1x1024x3352 : Shape := ⟨3, ![1, 1024, 3352]⟩
abbrev S1x32x3x2304 : Shape := ⟨4, ![1, 32, 3, 2304]⟩
abbrev S1x4x2304 : Shape := ⟨3, ![1, 4, 2304]⟩
abbrev S1x1024 : Shape := ⟨2, ![1, 1024]⟩
abbrev S1024 : Shape := ⟨1, ![1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S1024x3352 : Shape := ⟨2, ![1024, 3352]⟩
abbrev S32x4x3352 : Shape := ⟨3, ![32, 4, 3352]⟩
abbrev S32x4x2304 : Shape := ⟨3, ![32, 4, 2304]⟩
abbrev S32x4x768 : Shape := ⟨3, ![32, 4, 768]⟩
abbrev S32x4x12 : Shape := ⟨3, ![32, 4, 12]⟩
abbrev S32x4x256 : Shape := ⟨3, ![32, 4, 256]⟩
abbrev S32x3x2304 : Shape := ⟨3, ![32, 3, 2304]⟩
abbrev S4x2304 : Shape := ⟨2, ![4, 2304]⟩
abbrev S32x7x2304 : Shape := ⟨3, ![32, 7, 2304]⟩
abbrev S1x2304 : Shape := ⟨2, ![1, 2304]⟩
abbrev S2304 : Shape := ⟨1, ![2304]⟩
abbrev S1x1x2304 : Shape := ⟨3, ![1, 1, 2304]⟩

abbrev nBuf : Space → Nat
  | .hbm => 74
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S2x1024, .f32⟩
  | .hbm, ⟨2, _⟩ => ⟨S1x1024x3352, .f32⟩
  | .hbm, ⟨3, _⟩ => ⟨S1x32x3x2304, .f32⟩
  | .hbm, ⟨4, _⟩ => ⟨S1x4x2304, .f32⟩
  | .hbm, ⟨5, _⟩ => ⟨S1x1024, .f32⟩
  | .hbm, ⟨6, _⟩ => ⟨S1024, .f32⟩
  | .hbm, ⟨7, _⟩ => ⟨S32x4x1024, .f32⟩
  | .hbm, ⟨8, _⟩ => ⟨S_, .f32⟩
  | .hbm, ⟨9, _⟩ => ⟨S32x4, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S_, .f32⟩
  | .hbm, ⟨15, _⟩ => ⟨S32x4x1, .f32⟩
  | .hbm, ⟨16, _⟩ => ⟨S32x4x1, .f32⟩
  | .hbm, ⟨17, _⟩ => ⟨S32x4x1, .f32⟩
  | .hbm, ⟨18, _⟩ => ⟨S32x4x1024, .f32⟩
  | .hbm, ⟨19, _⟩ => ⟨S32x4x1024, .f32⟩
  | .hbm, ⟨20, _⟩ => ⟨S1x1x1024, .f32⟩
  | .hbm, ⟨21, _⟩ => ⟨S32x4x1024, .f32⟩
  | .hbm, ⟨22, _⟩ => ⟨S32x4x1024, .f32⟩
  | .hbm, ⟨23, _⟩ => ⟨S1024x3352, .f32⟩
  | .hbm, ⟨24, _⟩ => ⟨S32x4x3352, .f32⟩
  | .hbm, ⟨25, _⟩ => ⟨S32x4x2304, .f32⟩
  | .hbm, ⟨26, _⟩ => ⟨S32x4x768, .f32⟩
  | .hbm, ⟨27, _⟩ => ⟨S32x4x12, .f32⟩
  | .hbm, ⟨28, _⟩ => ⟨S32x4x12, .f32⟩
  | .hbm, ⟨29, _⟩ => ⟨S32x4x256, .f32⟩
  | .hbm, ⟨30, _⟩ => ⟨S32x3x2304, .f32⟩
  | .hbm, ⟨31, _⟩ => ⟨S4x2304, .f32⟩
  | .hbm, ⟨32, _⟩ => ⟨S32x7x2304, .f32⟩
  | .hbm, ⟨33, _⟩ => ⟨S32x4x2304, .f32⟩
  | .hbm, ⟨34, _⟩ => ⟨S1x2304, .f32⟩
  | .hbm, ⟨35, _⟩ => ⟨S2304, .f32⟩
  | .hbm, ⟨36, _⟩ => ⟨S1x1x2304, .f32⟩
  | .hbm, ⟨37, _⟩ => ⟨S32x4x2304, .f32⟩
  | .hbm, ⟨38, _⟩ => ⟨S32x4x2304, .f32⟩
  | .hbm, ⟨39, _⟩ => ⟨S_, .f32⟩
  | .hbm, ⟨40, _⟩ => ⟨S32x4x2304, .f32⟩
  | .hbm, ⟨41, _⟩ => ⟨S32x4x2304, .f32⟩
  | .hbm, ⟨42, _⟩ => ⟨S32x4x2304, .f32⟩
  | .hbm, ⟨43, _⟩ => ⟨S1x2304, .f32⟩
  | .hbm, ⟨44, _⟩ => ⟨S2304, .f32⟩
  | .hbm, ⟨45, _⟩ => ⟨S1x1x2304, .f32⟩
  | .hbm, ⟨46, _⟩ => ⟨S32x4x2304, .f32⟩
  | .hbm, ⟨47, _⟩ => ⟨S32x4x2304, .f32⟩
  | .hbm, ⟨48, _⟩ => ⟨S32x4x2304, .f32⟩
  | .hbm, ⟨49, _⟩ => ⟨S32x4x2304, .f32⟩
  | .hbm, ⟨50, _⟩ => ⟨S1x2304, .f32⟩
  | .hbm, ⟨51, _⟩ => ⟨S2304, .f32⟩
  | .hbm, ⟨52, _⟩ => ⟨S1x1x2304, .f32⟩
  | .hbm, ⟨53, _⟩ => ⟨S32x4x2304, .f32⟩
  | .hbm, ⟨54, _⟩ => ⟨S32x4x2304, .f32⟩
  | .hbm, ⟨55, _⟩ => ⟨S32x4x2304, .f32⟩
  | .hbm, ⟨56, _⟩ => ⟨S32x4x2304, .f32⟩
  | .hbm, ⟨57, _⟩ => ⟨S1x2304, .f32⟩
  | .hbm, ⟨58, _⟩ => ⟨S2304, .f32⟩
  | .hbm, ⟨59, _⟩ => ⟨S1x1x2304, .f32⟩
  | .hbm, ⟨60, _⟩ => ⟨S32x4x2304, .f32⟩
  | .hbm, ⟨61, _⟩ => ⟨S32x4x2304, .f32⟩
  | .hbm, ⟨62, _⟩ => ⟨S32x4x2304, .f32⟩
  | .hbm, ⟨63, _⟩ => ⟨S32x4x2304, .f32⟩
  | .hbm, ⟨64, _⟩ => ⟨S32x4x2304, .f32⟩
  | .hbm, ⟨65, _⟩ => ⟨S_, .f32⟩
  | .hbm, ⟨66, _⟩ => ⟨S32x4x2304, .f32⟩
  | .hbm, ⟨67, _⟩ => ⟨S32x4x2304, .f32⟩
  | .hbm, ⟨68, _⟩ => ⟨S_, .f32⟩
  | .hbm, ⟨69, _⟩ => ⟨S32x4x2304, .f32⟩
  | .hbm, ⟨70, _⟩ => ⟨S32x4x2304, .f32⟩
  | .hbm, ⟨71, _⟩ => ⟨S32x4x2304, .f32⟩
  | .hbm, ⟨72, _⟩ => ⟨S32x3x2304, .f32⟩
  | .hbm, ⟨73, _⟩ => ⟨S1x32x3x2304, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== Kernel9.lean ====
abbrev S2x8192x1024 : Shape := ⟨3, ![2, 8192, 1024]⟩
abbrev S2x1024 : Shape := ⟨2, ![2, 1024]⟩
abbrev S1x1024x3352 : Shape := ⟨3, ![1, 1024, 3352]⟩
abbrev S1x4x2304 : Shape := ⟨3, ![1, 4, 2304]⟩
abbrev S_ : Shape := ⟨0, ![]⟩
abbrev S2x3x2304 : Shape := ⟨3, ![2, 3, 2304]⟩
abbrev S16384x1024 : Shape := ⟨2, ![16384, 1024]⟩
abbrev S1x1024 : Shape := ⟨2, ![1, 1024]⟩
abbrev S1024 : Shape := ⟨1, ![1024]⟩
abbrev S1024x3352 : Shape := ⟨2, ![1024, 3352]⟩
abbrev S1024x3072 : Shape := ⟨2, ![1024, 3072]⟩
abbrev S1024x24 : Shape := ⟨2, ![1024, 24]⟩
abbrev S1024x256 : Shape := ⟨2, ![1024, 256]⟩
abbrev S1024x128 : Shape := ⟨2, ![1024, 128]⟩
abbrev S1024x3456 : Shape := ⟨2, ![1024, 3456]⟩
abbrev S4x2304 : Shape := ⟨2, ![4, 2304]⟩
abbrev S16384x2304 : Shape := ⟨2, ![16384, 2304]⟩
abbrev S16384x768 : Shape := ⟨2, ![16384, 768]⟩
abbrev S16384x256 : Shape := ⟨2, ![16384, 256]⟩
abbrev S16384x128 : Shape := ⟨2, ![16384, 128]⟩
abbrev S256x1024 : Shape := ⟨2, ![256, 1024]⟩
abbrev S1x3x2304 : Shape := ⟨3, ![1, 3, 2304]⟩
abbrev S256x2304 : Shape := ⟨2, ![256, 2304]⟩
abbrev S256x768 : Shape := ⟨2, ![256, 768]⟩
abbrev S256x256 : Shape := ⟨2, ![256, 256]⟩
abbrev S256x128 : Shape := ⟨2, ![256, 128]⟩
abbrev S8x2304 : Shape := ⟨2, ![8, 2304]⟩
abbrev S256 : Shape := ⟨1, ![256]⟩
abbrev S256x1 : Shape := ⟨2, ![256, 1]⟩
abbrev S3x2304 : Shape := ⟨2, ![3, 2304]⟩
abbrev S1024x2304 : Shape := ⟨2, ![1024, 2304]⟩
abbrev S1024x768 : Shape := ⟨2, ![1024, 768]⟩
abbrev S1x2304 : Shape := ⟨2, ![1, 2304]⟩
abbrev S2x8192x2304 : Shape := ⟨3, ![2, 8192, 2304]⟩
abbrev S2x8192x768 : Shape := ⟨3, ![2, 8192, 768]⟩
abbrev S2x8192x256 : Shape := ⟨3, ![2, 8192, 256]⟩
abbrev S1x2x3x2304 : Shape := ⟨4, ![1, 2, 3, 2304]⟩

abbrev nBuf : Space → Nat
  | .hbm => 29
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S1x1024x3352, .f32⟩
  | .hbm, ⟨3, _⟩ => ⟨S1x4x2304, .f32⟩
  | .hbm, ⟨4, _⟩ => ⟨S_, .f32⟩
  | .hbm, ⟨5, _⟩ => ⟨S2x3x2304, .f32⟩
  | .hbm, ⟨6, _⟩ => ⟨S16384x1024, .f32⟩
  | .hbm, ⟨7, _⟩ => ⟨S1x1024, .f32⟩
  | .hbm, ⟨8, _⟩ => ⟨S1024, .f32⟩
  | .hbm, ⟨9, _⟩ => ⟨S1024x3352, .f32⟩
  | .hbm, ⟨10, _⟩ => ⟨S1024x3072, .f32⟩
  | .hbm, ⟨11, _⟩ => ⟨S1024x24, .f32⟩
  | .hbm, ⟨12, _⟩ => ⟨S1024x256, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x3456, .f32⟩
  | .hbm, ⟨17, _⟩ => ⟨S1024x3456, .bf16⟩
  | .hbm, ⟨18, _⟩ => ⟨S4x2304, .f32⟩
  | .hbm, ⟨19, _⟩ => ⟨S1x1024, .f32⟩
  | .hbm, ⟨20, _⟩ => ⟨S16384x2304, .f32⟩
  | .hbm, ⟨21, _⟩ => ⟨S16384x768, .f32⟩
  | .hbm, ⟨22, _⟩ => ⟨S16384x256, .f32⟩
  | .hbm, ⟨23, _⟩ => ⟨S16384x128, .f32⟩
  | .hbm, ⟨24, _⟩ => ⟨S2x3x2304, .f32⟩
  | .hbm, ⟨25, _⟩ => ⟨S2x8192x2304, .f32⟩
  | .hbm, ⟨26, _⟩ => ⟨S2x8192x768, .f32⟩
  | .hbm, ⟨27, _⟩ => ⟨S2x8192x256, .f32⟩
  | .hbm, ⟨28, _⟩ => ⟨S1x2x3x2304, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3456, .bf16⟩
  | .local _ .vmem, ⟨4, _⟩ => ⟨S1x3x2304, .f32⟩
  | .local _ .vmem, ⟨5, _⟩ => ⟨S1x3x2304, .f32⟩
  | .local _ .vmem, ⟨6, _⟩ => ⟨S4x2304, .f32⟩
  | .local _ .vmem, ⟨7, _⟩ => ⟨S256x2304, .f32⟩
  | .local _ .vmem, ⟨8, _⟩ => ⟨S256x2304, .f32⟩
  | .local _ .vmem, ⟨9, _⟩ => ⟨S256x768, .f32⟩
  | .local _ .vmem, ⟨10, _⟩ => ⟨S256x768, .f32⟩
  | .local _ .vmem, ⟨11, _⟩ => ⟨S256x256, .f32⟩
  | .local _ .vmem, ⟨12, _⟩ => ⟨S256x256, .f32⟩
  | .local _ .vmem, ⟨13, _⟩ => ⟨S256x128, .f32⟩
  | .local _ .vmem, ⟨14, _⟩ => ⟨S256x128, .f32⟩
  | .local _ .vmem, ⟨15, _⟩ => ⟨S1x3x2304, .f32⟩
  | .local _ .vmem, ⟨16, _⟩ => ⟨S1x3x2304, .f32⟩
  | .local _ .vmem, ⟨17, _⟩ => ⟨S8x2304, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev main_v13_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v107 : BitVec 1 := Scalar.cmpi .eq arg1 c31_i32
  let v108 : BitVec 32 := Scalar.extui v107
  let c0_i32_46 : BitVec 32 := 0#32
  let v109 : BitVec 1 := Scalar.cmpi .ne v108 c0_i32_46
  v109

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x3x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x2304 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference9Ideal.lean ====
abbrev S2x8192x1024 : Shape := ⟨3, ![2, 8192, 1024]⟩
abbrev S2x1024 : Shape := ⟨2, ![2, 1024]⟩
abbrev S1x1024x3352 : Shape := ⟨3, ![1, 1024, 3352]⟩
abbrev S1x4x2304 : Shape := ⟨3, ![1, 4, 2304]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x3352 : Shape := ⟨2, ![1024, 3352]⟩
abbrev S2x8192x3352 : Shape := ⟨3, ![2, 8192, 3352]⟩
abbrev S2x8192x2304 : Shape := ⟨3, ![2, 8192, 2304]⟩
abbrev S2x8192x768 : Shape := ⟨3, ![2, 8192, 768]⟩
abbrev S2x8192x12 : Shape := ⟨3, ![2, 8192, 12]⟩
abbrev S2x8192x256 : Shape := ⟨3, ![2, 8192, 256]⟩
abbrev S2x3x2304 : Shape := ⟨3, ![2, 3, 2304]⟩
abbrev S4x2304 : Shape := ⟨2, ![4, 2304]⟩
abbrev S2x8195x2304 : Shape := ⟨3, ![2, 8195, 2304]⟩
abbrev S1x2304 : Shape := ⟨2, ![1, 2304]⟩
abbrev S2304 : Shape := ⟨1, ![2304]⟩
abbrev S1x1x2304 : Shape := ⟨3, ![1, 1, 2304]⟩
abbrev S1x2x3x2304 : Shape := ⟨4, ![1, 2, 3, 2304]⟩

abbrev nBuf : Space → Nat
  | .hbm => 74
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S1x1024x3352, .f32⟩
  | .hbm, ⟨3, _⟩ => ⟨S1x4x2304, .f32⟩
  | .hbm, ⟨4, _⟩ => ⟨S1x1024, .f32⟩
  | .hbm, ⟨5, _⟩ => ⟨S1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S1024x3352, .f32⟩
  | .hbm, ⟨23, _⟩ => ⟨S2x8192x3352, .f32⟩
  | .hbm, ⟨24, _⟩ => ⟨S2x8192x2304, .f32⟩
  | .hbm, ⟨25, _⟩ => ⟨S2x8192x768, .f32⟩
  | .hbm, ⟨26, _⟩ => ⟨S2x8192x12, .f32⟩
  | .hbm, ⟨27, _⟩ => ⟨S2x8192x12, .f32⟩
  | .hbm, ⟨28, _⟩ => ⟨S2x8192x256, .f32⟩
  | .hbm, ⟨29, _⟩ => ⟨S_, .f32⟩
  | .hbm, ⟨30, _⟩ => ⟨S2x3x2304, .f32⟩
  | .hbm, ⟨31, _⟩ => ⟨S4x2304, .f32⟩
  | .hbm, ⟨32, _⟩ => ⟨S2x8195x2304, .f32⟩
  | .hbm, ⟨33, _⟩ => ⟨S2x8192x2304, .f32⟩
  | .hbm, ⟨34, _⟩ => ⟨S1x2304, .f32⟩
  | .hbm, ⟨35, _⟩ => ⟨S2304, .f32⟩
  | .hbm, ⟨36, _⟩ => ⟨S1x1x2304, .f32⟩
  | .hbm, ⟨37, _⟩ => ⟨S2x8192x2304, .f32⟩
  | .hbm, ⟨38, _⟩ => ⟨S2x8192x2304, .f32⟩
  | .hbm, ⟨39, _⟩ => ⟨S_, .f32⟩
  | .hbm, ⟨40, _⟩ => ⟨S2x8192x2304, .f32⟩
  | .hbm, ⟨41, _⟩ => ⟨S2x8192x2304, .f32⟩
  | .hbm, ⟨42, _⟩ => ⟨S2x8192x2304, .f32⟩
  | .hbm, ⟨43, _⟩ => ⟨S1x2304, .f32⟩
  | .hbm, ⟨44, _⟩ => ⟨S2304, .f32⟩
  | .hbm, ⟨45, _⟩ => ⟨S1x1x2304, .f32⟩
  | .hbm, ⟨46, _⟩ => ⟨S2x8192x2304, .f32⟩
  | .hbm, ⟨47, _⟩ => ⟨S2x8192x2304, .f32⟩
  | .hbm, ⟨48, _⟩ => ⟨S2x8192x2304, .f32⟩
  | .hbm, ⟨49, _⟩ => ⟨S2x8192x2304, .f32⟩
  | .hbm, ⟨50, _⟩ => ⟨S1x2304, .f32⟩
  | .hbm, ⟨51, _⟩ => ⟨S2304, .f32⟩
  | .hbm, ⟨52, _⟩ => ⟨S1x1x2304, .f32⟩
  | .hbm, ⟨53, _⟩ => ⟨S2x8192x2304, .f32⟩
  | .hbm, ⟨54, _⟩ => ⟨S2x8192x2304, .f32⟩
  | .hbm, ⟨55, _⟩ => ⟨S2x8192x2304, .f32⟩
  | .hbm, ⟨56, _⟩ => ⟨S2x8192x2304, .f32⟩
  | .hbm, ⟨57, _⟩ => ⟨S1x2304, .f32⟩
  | .hbm, ⟨58, _⟩ => ⟨S2304, .f32⟩
  | .hbm, ⟨59, _⟩ => ⟨S1x1x2304, .f32⟩
  | .hbm, ⟨60, _⟩ => ⟨S2x8192x2304, .f32⟩
  | .hbm, ⟨61, _⟩ => ⟨S2x8192x2304, .f32⟩
  | .hbm, ⟨62, _⟩ => ⟨S2x8192x2304, .f32⟩
  | .hbm, ⟨63, _⟩ => ⟨S2x8192x2304, .f32⟩
  | .hbm, ⟨64, _⟩ => ⟨S2x8192x2304, .f32⟩
  | .hbm, ⟨65, _⟩ => ⟨S_, .f32⟩
  | .hbm, ⟨66, _⟩ => ⟨S2x8192x2304, .f32⟩
  | .hbm, ⟨67, _⟩ => ⟨S2x8192x2304, .f32⟩
  | .hbm, ⟨68, _⟩ => ⟨S_, .f32⟩
  | .hbm, ⟨69, _⟩ => ⟨S2x8192x2304, .f32⟩
  | .hbm, ⟨70, _⟩ => ⟨S2x8192x2304, .f32⟩
  | .hbm, ⟨71, _⟩ => ⟨S2x8192x2304, .f32⟩
  | .hbm, ⟨72, _⟩ => ⟨S2x3x2304, .f32⟩
  | .hbm, ⟨73, _⟩ => ⟨S1x2x3x2304, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== Proof.Rows.lean ====
module

public import Idealize.ShloMosaic.Lib.Pipeline.ValueKit

@[expose] public section

set_option maxRecDepth 16384

noncomputable section

open Idealize.ShloMosaic

/-! The rows of the residual stream, over the extended reals: what one row becomes in a normalization, in a
    projection and in a feed-forward half step. -/

namespace Cert.Rows

/-- A row over its root mean square, times a gain per column. -/
def normed (x g : Fin 1024 → EReal) (k : Fin 1024) : EReal :=
  x k * Ideal.rsqrt (Ideal.div (∑ i, x i * x i) (Ideal.ofBits .f32 0x44800000#32) + Ideal.ofBits .f32 0x358637BD#32) * g k

/-- The normalized row times one column of a weight matrix. -/
def proj (x g w : Fin 1024 → EReal) : EReal := ∑ k, normed x g k * w k

/-- `silu` of `a`, times `b`. -/
def gated (a b : EReal) : EReal := a * Ideal.div 1 (1 + Ideal.exp (-a)) * b

/-- The row plus half of its feed-forward image. -/
def half (x g : Fin 1024 → EReal) (w1 w3 : Fin 1024 → Fin 2816 → EReal) (w2 : Fin 2816 → Fin 1024 → EReal) (j : Fin 1024) : EReal :=
  x j + Ideal.ofBits .f32 0x3F000000#32
    * ∑ h, gated (proj x g fun k => w1 k h) (proj x g fun k => w3 k h) * w2 h j

/-- The half step with its hidden layer in two pieces. -/
theorem half_split (x g : Fin 1024 → EReal) (w1 w3 : Fin 1024 → Fin 2816 → EReal) (w2 : Fin 2816 → Fin 1024 → EReal) (j : Fin 1024) :
    half x g w1 w3 w2 j = x j + Ideal.ofBits .f32 0x3F000000#32
      * ((∑ h : Fin 1280, gated (proj x g fun k => w1 k ⟨h, by omega⟩) (proj x g fun k => w3 k ⟨h, by omega⟩) * w2 ⟨h, by omega⟩ j)
        + ∑ h : Fin 1536, gated (proj x g fun k => w1 k ⟨1280 + h, by omega⟩) (proj x g fun k => w3 k ⟨1280 + h, by omega⟩) * w2 ⟨1280 + h, by omega⟩ j) := by
  rw [half, Fin.sum_univ_two_halves 1280 1536 (rfl : 1280 + 1536 = 2816)]

/-- The half step with the hidden layer in two pieces, each with its own weights. -/
def halves (x g : Fin 1024 → EReal) (u1 u3 : Fin 1024 → Fin 1280 → EReal) (u2 : Fin 1280 → Fin 1024 → EReal)
    (v1 v3 : Fin 1024 → Fin 1536 → EReal) (v2 : Fin 1536 → Fin 1024 → EReal) (j : Fin 1024) : EReal :=
  x j + Ideal.ofBits .f32 0x3F000000#32
    * ((∑ h, gated (proj x g fun k => u1 k h) (proj x g fun k => u3 k h) * u2 h j)
      + ∑ h, gated (proj x g fun k => v1 k h) (proj x g fun k => v3 k h) * v2 h j)

/-- The half step computed with the hidden layer in two pieces, from a row and from weights that are the given ones. -/
theorem half_of_pieces {x x' g g' : Fin 1024 → EReal} {w1 w3 : Fin 1024 → Fin 2816 → EReal} {w2 : Fin 2816 → Fin 1024 → EReal}
    {u1 u3 : Fin 1024 → Fin 1280 → EReal} {u2 : Fin 1280 → Fin 1024 → EReal} {v1 v3 : Fin 1024 → Fin 1536 → EReal} {v2 : Fin 1536 → Fin 1024 → EReal}
    (hx : ∀ k, x k = x' k) (hg : ∀ k, g k = g' k)
    (hu1 : ∀ k (h : Fin 1280), u1 k h = w1 k ⟨h, by omega⟩) (hu3 : ∀ k (h : Fin 1280), u3 k h = w3 k ⟨h, by omega⟩)
    (hu2 : ∀ (h : Fin 1280) k, u2 h k = w2 ⟨h, by omega⟩ k)
    (hv1 : ∀ k (h : Fin 1536), v1 k h = w1 k ⟨1280 + h, by omega⟩) (hv3 : ∀ k (h : Fin 1536), v3 k h = w3 k ⟨1280 + h, by omega⟩)
    (hv2 : ∀ (h : Fin 1536) k, v2 h k = w2 ⟨1280 + h, by omega⟩ k) :
    halves x g u1 u3 u2 v1 v3 v2 = half x' g' w1 w3 w2 := by
  obtain rfl : x = x' := funext hx
  obtain rfl : g = g' := funext hg
  funext j
  simp only [halves, hu1, hu3, hu2, hv1, hv3, hv2, half_split]

/-- Equal rows and gains have equal normalizations. -/
theorem normed_congr {x x' g g' : Fin 1024 → EReal} (hx : x = x') (hg : ∀ k, g k = g' k) (l : Fin 1024) :
    normed x g l = normed x' g' l := by
  subst hx
  obtain rfl : g = g' := funext hg
  rfl

end Cert.Rows

end
-- ==== Proof.FfnLast.lean ====
module

public import proofs.«01_k».proof.Proof.Gen.KernelIdeal.Frame
public import proofs.«01_k».proof.Proof.Gen.ReferenceIdeal
public import proofs.«01_k».proof.Proof.Rows
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ReferenceIdeal.Rows

open Cert.ReferenceIdeal Cert.ReferenceIdeal.Gen

/-- Every row of `x` over its root mean square. -/
def unitRows (x : FVec Ideal S2x8192x1024 .f32) : FVec Ideal S2x8192x1024 .f32 :=
  mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))

/-- A gain per column, repeated over the rows. -/
def spreadCols (g : FVec Ideal S1024 .f32) : FVec Ideal S2x8192x1024 .f32 :=
  broadcastInDim S2x8192x1024 ![0, 1, 2] bcast_S1x1x1024_S2x8192x1024_0_1_2 (broadcastInDim S1x1x1024 ![2] bcast_S1024_S1x1x1024_2 g)

/-- The normalized rows times one of the two input weight matrices. -/
def upRows (x : FVec Ideal S2x8192x1024 .f32) (g : FVec Ideal S2x1024 .f32) (w : FVec Ideal S2x1024x2816 .f32) : FVec Ideal S2x8192x2816 .f32 :=
  Host.dotGeneral dot_S2x8192x1024_S1024x2816_S2x8192x2816_2_0_01_1_n_n none (mulf (unitRows x) (spreadCols (shapeCast _ (extractStridedSlice S1x1024 ![1, 0] g slices_S2x1024_S1x1024_1_0) shapeCasts_S1x1024_S1024))) (shapeCast _ (extractStridedSlice S1x1024x2816 ![1, 0, 0] w slices_S2x1024x2816_S1x1024x2816_1_0_0) shapeCasts_S1x1024x2816_S1024x2816)

/-- The hidden layer: `silu` of the one product times the other. -/
def hiddenRows (x : FVec Ideal S2x8192x1024 .f32) (g : FVec Ideal S2x1024 .f32) (w1 w3 : FVec Ideal S2x1024x2816 .f32) : FVec Ideal S2x8192x2816 .f32 :=
  mulf (mulf (upRows x g w1) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (upRows x g w1)))))) (upRows x g w3)

/-- The halfStep after the feed-forward half step. -/
def halfStep (x : FVec Ideal S2x8192x1024 .f32) (g : FVec Ideal S2x1024 .f32) (w1 w3 : FVec Ideal S2x1024x2816 .f32) (w2 : FVec Ideal S2x2816x1024 .f32) : FVec Ideal S2x8192x1024 .f32 :=
  addf x (mulf (broadcastInDim S2x8192x1024 ![] bcast_S_S2x8192x1024 (constant S_ .f32 0x3F000000#32)) (Host.dotGeneral dot_S2x8192x2816_S2816x1024_S2x8192x1024_2_0_01_1_n_n none (hiddenRows x g w1 w3) (shapeCast _ (extractStridedSlice S1x2816x1024 ![1, 0, 0] w2 slices_S2x2816x1024_S1x2816x1024_1_0_0) shapeCasts_S1x2816x1024_S2816x1024)))

/-- What the reference computes: the last half step, then the final normalization. -/
def lastRows (x : FVec Ideal S2x8192x1024 .f32) (g : FVec Ideal S2x1024 .f32) (w1 w3 : FVec Ideal S2x1024x2816 .f32) (w2 : FVec Ideal S2x2816x1024 .f32) (f : FVec Ideal S1024 .f32) : FVec Ideal S16384x1024 .f32 :=
  shapeCast S16384x1024 (mulf (unitRows (halfStep x g w1 w3 w2)) (spreadCols f)) shapeCasts_S2x8192x1024_S16384x1024

open Cert.Rows (normed proj gated half)

/-- The reference's result, read at one row and one column. -/
theorem lastRows_at (x : FVec Ideal S2x8192x1024 .f32) (g : FVec Ideal S2x1024 .f32) (w1 w3 : FVec Ideal S2x1024x2816 .f32) (w2 : FVec Ideal S2x2816x1024 .f32) (f : FVec Ideal S1024 .f32) (r : Fin 16384) (l : Fin 1024) :
    lastRows x g w1 w3 w2 f (ix2 r l)
      = normed (half (fun k => x (ix3 ⟨r / 8192, by omega⟩ ⟨r % 8192, by omega⟩ k)) (fun k => g (ix2 1 k)) (fun k h => w1 (ix3 1 k h))
          (fun k h => w3 (ix3 1 k h)) (fun h k => w2 (ix3 1 h k))) (fun k => f (ix1 k)) l := by
  pointwise [lastRows, halfStep, hiddenRows, upRows, unitRows, spreadCols]
  rfl

end Cert.ReferenceIdeal.Rows

namespace Cert.KernelIdeal.Rows
open Cert.KernelIdeal Cert.KernelIdeal.Gen
open Cert.ReferenceIdeal.Rows (lastRows lastRows_at)
open Cert.Rows (normed proj gated half halves half_of_pieces normed_congr)

variable (m : (ℓ : Loc nD τ sig) → Buf (Elt Ideal) ℓ)

/-- Where each window's block lies at each grid point. -/
theorem idx : ∀ t : Fin cfg0.N, win0_0.index t = ![t.val, 0]
    ∧ win0_1.index t = ![0, 0]
    ∧ win0_2.index t = ![1, 0, 0]
    ∧ win0_3.index t = ![1, 0, 0]
    ∧ win0_4.index t = ![1, 0, 0]
    ∧ win0_5.index t = ![0, 0]
    ∧ win0_6.index t = ![t.val, 0] :=
  (by decide +kernel : ∀ t : Fin grid0.N, _)

/-- What the body computes from its blocks, read at one row and one column. -/
theorem pay_at (x : FVec Ideal S512x1024 .f32) (g : FVec Ideal S1x1024 .f32) (w1 w3 : FVec Ideal S1x1024x1280 .bf16)
    (w2 : FVec Ideal S1x1280x1024 .bf16) (v1 v3 : FVec Ideal S1x1024x1536 .bf16) (v2 : FVec Ideal S1x1536x1024 .bf16)
    (f : FVec Ideal S1x1024 .f32) (r : Fin 512) (l : Fin 1024) :
    k0_pay4 (F := Ideal) (k0_pay1 x) (k0_pay2 x g) (k0_pay3 x g w1 w3 w2) v1 v3 v2 f (ix2 r l)
      = normed (halves (fun k => x (ix2 r k)) (fun k => g (ix2 0 k)) (fun k h => w1 (ix3 0 k h)) (fun k h => w3 (ix3 0 k h))
            (fun h k => w2 (ix3 0 h k)) (fun k h => v1 (ix3 0 k h)) (fun k h => v3 (ix3 0 k h)) (fun h k => v2 (ix3 0 h k)))
          (fun k => f (ix2 0 k)) l := by
  pointwise [k0_pay4, k0_pay1, k0_pay2, k0_pay3]
  simp only [zero_sub, zero_add]
  rfl

/-- What a grid point stores is the reference's value at the same place. -/
theorem point (c : Dev nD) (t : Fin cfg0.N) (y) :
    k0_pay4 (k0_pay1 (iblk m c 0 t)) (k0_pay2 (iblk m c 0 t) (iblk m c 1 t)) (k0_pay3 (iblk m c 0 t) (iblk m c 1 t)
      (View.ld (iblk m c 2 t) r0_2) (View.ld (iblk m c 3 t) r0_2) (View.ld (iblk m c 4 t) r0_3)) (View.ld (iblk m c 2 t)
      r0_4) (View.ld (iblk m c 3 t) r0_4) (View.ld (iblk m c 4 t) r0_5) (iblk m c 5 t) y
      = lastRows (m ((c : Thread nD τ).loc main_arg0)) (m ((c : Thread nD τ).loc main_arg1)) (m ((c : Thread nD τ).loc
        main_arg2)) (m ((c : Thread nD τ).loc main_arg3)) (m ((c : Thread nD τ).loc main_arg4)) (m ((c : Thread nD
        τ).loc main_arg5)) (((cfg0.win 6).blk t).view.emb y) := by
  idx_vars y
  obtain ⟨R, hR⟩ : ∃ R : Fin 16384, (R : ℕ) = t.val * 512 + y0 := ⟨⟨t.val * 512 + y0, by idx_bounds; omega⟩, rfl⟩
  have he : (((cfg0.win 6).blk t).view.emb (ix2 y0 y1)) = (ix2 R y1 : S16384x1024.Idx) := by blk_ext [idx t, hR]
  rw [he]
  refine (pay_at _ _ _ _ _ _ _ _ _ y0 y1).trans (Eq.trans ?_ (lastRows_at _ _ _ _ _ _ R y1).symm)
  refine normed_congr (half_of_pieces (fun k => ?_) (fun k => ?_) (fun k h => ?_) (fun k h => ?_) (fun h k => ?_)
    (fun k h => ?_) (fun k h => ?_) (fun h k => ?_)) (fun k => ?_) y1
  all_goals pointwise
  all_goals blk_point [iblk, V, idx t]

/-- The array the calls leave is the reference's result. -/
theorem final (c : Dev nD) : (dats m 0 c).arrAt 6 (cfgs 0).N = lastRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp; rw [after0_6]; frame_out
  exact point m c t y

end Cert.KernelIdeal.Rows

end
-- ==== Proof.FfnStep.lean ====
module

public import proofs.«01_k».proof.Proof.Gen.Kernel2Ideal.Frame
public import proofs.«01_k».proof.Proof.Gen.Reference2Ideal
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference2Ideal.Rows

open Cert.Reference2Ideal Cert.Reference2Ideal.Gen

/-- Every row of `x` over its root mean square. -/
def unitRows (x : FVec Ideal S2x8192x1024 .f32) : FVec Ideal S2x8192x1024 .f32 :=
  mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))

/-- A gain per column, repeated over the rows. -/
def spreadCols (g : FVec Ideal S1024 .f32) : FVec Ideal S2x8192x1024 .f32 :=
  broadcastInDim S2x8192x1024 ![0, 1, 2] bcast_S1x1x1024_S2x8192x1024_0_1_2 (broadcastInDim S1x1x1024 ![2] bcast_S1024_S1x1x1024_2 g)

/-- The normalized rows times one of the two input weight matrices. -/
def upRows (x : FVec Ideal S2x8192x1024 .f32) (g : FVec Ideal S2x1024 .f32) (w : FVec Ideal S2x1024x2816 .f32) : FVec Ideal S2x8192x2816 .f32 :=
  Host.dotGeneral dot_S2x8192x1024_S1024x2816_S2x8192x2816_2_0_01_1_n_n none (mulf (unitRows x) (spreadCols (shapeCast _ (extractStridedSlice S1x1024 ![0, 0] g slices_S2x1024_S1x1024_0_0) shapeCasts_S1x1024_S1024))) (shapeCast _ (extractStridedSlice S1x1024x2816 ![0, 0, 0] w slices_S2x1024x2816_S1x1024x2816_0_0_0) shapeCasts_S1x1024x2816_S1024x2816)

/-- The hidden layer: `silu` of the one product times the other. -/
def hiddenRows (x : FVec Ideal S2x8192x1024 .f32) (g : FVec Ideal S2x1024 .f32) (w1 w3 : FVec Ideal S2x1024x2816 .f32) : FVec Ideal S2x8192x2816 .f32 :=
  mulf (mulf (upRows x g w1) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (upRows x g w1)))))) (upRows x g w3)

/-- The halfStep after the feed-forward half step. -/
def halfStep (x : FVec Ideal S2x8192x1024 .f32) (g : FVec Ideal S2x1024 .f32) (w1 w3 : FVec Ideal S2x1024x2816 .f32) (w2 : FVec Ideal S2x2816x1024 .f32) : FVec Ideal S2x8192x1024 .f32 :=
  addf x (mulf (broadcastInDim S2x8192x1024 ![] bcast_S_S2x8192x1024 (constant S_ .f32 0x3F000000#32)) (Host.dotGeneral dot_S2x8192x2816_S2816x1024_S2x8192x1024_2_0_01_1_n_n none (hiddenRows x g w1 w3) (shapeCast _ (extractStridedSlice S1x2816x1024 ![0, 0, 0] w2 slices_S2x2816x1024_S1x2816x1024_0_0_0) shapeCasts_S1x2816x1024_S2816x1024)))

/-- What the reference computes: the half step, as rows. -/
def stepRows (x : FVec Ideal S2x8192x1024 .f32) (g : FVec Ideal S2x1024 .f32) (w1 w3 : FVec Ideal S2x1024x2816 .f32) (w2 : FVec Ideal S2x2816x1024 .f32) : FVec Ideal S16384x1024 .f32 :=
  shapeCast S16384x1024 (halfStep x g w1 w3 w2) shapeCasts_S2x8192x1024_S16384x1024

open Cert.Rows (normed proj gated half)

/-- The reference's result, read at one row and one column. -/
theorem stepRows_at (x : FVec Ideal S2x8192x1024 .f32) (g : FVec Ideal S2x1024 .f32) (w1 w3 : FVec Ideal S2x1024x2816 .f32) (w2 : FVec Ideal S2x2816x1024 .f32) (r : Fin 16384) (l : Fin 1024) :
    stepRows x g w1 w3 w2 (ix2 r l)
      = half (fun k => x (ix3 ⟨r / 8192, by omega⟩ ⟨r % 8192, by omega⟩ k)) (fun k => g (ix2 0 k)) (fun k h => w1 (ix3 0 k h))
          (fun k h => w3 (ix3 0 k h)) (fun h k => w2 (ix3 0 h k)) l := by
  pointwise [stepRows, halfStep, hiddenRows, upRows, unitRows, spreadCols]
  rfl

end Cert.Reference2Ideal.Rows

namespace Cert.Kernel2Ideal.Rows
open Cert.Kernel2Ideal Cert.Kernel2Ideal.Gen
open Cert.Reference2Ideal.Rows (stepRows stepRows_at)
open Cert.Rows (normed proj gated half halves half_of_pieces)

variable (m : (ℓ : Loc nD τ sig) → Buf (Elt Ideal) ℓ)

/-- Where each window's block lies at each grid point. -/
theorem idx : ∀ t : Fin cfg0.N, win0_0.index t = ![t.val, 0]
    ∧ win0_1.index t = ![0, 0]
    ∧ win0_2.index t = ![0, 0, 0]
    ∧ win0_3.index t = ![0, 0, 0]
    ∧ win0_4.index t = ![0, 0, 0]
    ∧ win0_5.index t = ![t.val, 0] :=
  (by decide +kernel : ∀ t : Fin grid0.N, _)

/-- What the body computes from its blocks, read at one row and one column. -/
theorem pay_at (x : FVec Ideal S512x1024 .f32) (g : FVec Ideal S1x1024 .f32) (w1 w3 : FVec Ideal S1x1024x1280 .bf16)
    (w2 : FVec Ideal S1x1280x1024 .bf16) (v1 v3 : FVec Ideal S1x1024x1536 .bf16) (v2 : FVec Ideal S1x1536x1024 .bf16)
    (r : Fin 512) (l : Fin 1024) :
    k0_pay1 (F := Ideal) (k0_pay2 x) (k0_pay3 x g) (k0_pay4 x g w1 w3 w2) v1 v3 v2 (ix2 r l)
      = halves (fun k => x (ix2 r k)) (fun k => g (ix2 0 k)) (fun k h => w1 (ix3 0 k h)) (fun k h => w3 (ix3 0 k h))
            (fun h k => w2 (ix3 0 h k)) (fun k h => v1 (ix3 0 k h)) (fun k h => v3 (ix3 0 k h)) (fun h k => v2 (ix3 0 h k)) l := by
  pointwise [k0_pay1, k0_pay2, k0_pay3, k0_pay4]
  simp only [zero_sub, zero_add]
  rfl

/-- What a grid point stores is the reference's value at the same place. -/
theorem point (c : Dev nD) (t : Fin cfg0.N) (y) :
    k0_pay1 (k0_pay2 (iblk m c 0 t)) (k0_pay3 (iblk m c 0 t) (iblk m c 1 t)) (k0_pay4 (iblk m c 0 t) (iblk m c 1 t)
      (View.ld (iblk m c 2 t) r0_2) (View.ld (iblk m c 3 t) r0_2) (View.ld (iblk m c 4 t) r0_3)) (View.ld (iblk m c 2 t)
      r0_4) (View.ld (iblk m c 3 t) r0_4) (View.ld (iblk m c 4 t) r0_5) y
      = stepRows (m ((c : Thread nD τ).loc main_arg0)) (m ((c : Thread nD τ).loc main_arg1)) (m ((c : Thread nD τ).loc
        main_arg2)) (m ((c : Thread nD τ).loc main_arg3)) (m ((c : Thread nD τ).loc main_arg4)) (((cfg0.win 5).blk
        t).view.emb y) := by
  idx_vars y
  obtain ⟨R, hR⟩ : ∃ R : Fin 16384, (R : ℕ) = t.val * 512 + y0 := ⟨⟨t.val * 512 + y0, by idx_bounds; omega⟩, rfl⟩
  have he : (((cfg0.win 5).blk t).view.emb (ix2 y0 y1)) = (ix2 R y1 : S16384x1024.Idx) := by blk_ext [idx t, hR]
  rw [he]
  refine (pay_at _ _ _ _ _ _ _ _ y0 y1).trans (Eq.trans ?_ (stepRows_at _ _ _ _ _ R y1).symm)
  refine congrFun (half_of_pieces (fun k => ?_) (fun k => ?_) (fun k h => ?_) (fun k h => ?_) (fun h k => ?_)
    (fun k h => ?_) (fun k h => ?_) (fun h k => ?_)) y1
  all_goals pointwise
  all_goals blk_point [iblk, V, idx t]

/-- The array the calls leave is the reference's result. -/
theorem final (c : Dev nD) : (dats m 0 c).arrAt 5 (cfgs 0).N = stepRows (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]; frame_out
  exact point m c t y

end Cert.Kernel2Ideal.Rows

end
-- ==== Proof.MemAttnRef.lean ====
module

public import proofs.«01_k».proof.Proof.Gen.Reference3Ideal
public import Idealize.ShloMosaic.Lib.Pipeline.ValueKit

@[expose] public section

set_option maxRecDepth 16384

noncomputable section

open Idealize.ShloMosaic Idealize.ShloMosaic.TcCoe Idealize.SL.Sem

/-! One head of the memory attention, over the extended reals. -/

namespace Cert.Attn

/-- A query against a key, scaled. -/
def score (q k : Fin 64 → EReal) : EReal := (∑ d, q d * k d) * Ideal.ofBits .f32 0x3E000000#32

/-- The largest score. -/
def top (q : Fin 64 → EReal) (k : Fin 256 → Fin 64 → EReal) : EReal :=
  Finset.fold max (Ideal.ofBits .f32 0xFF800000#32) (fun n => score q (k n)) Finset.univ

/-- The exponential of a score less the largest one. -/
def weight (q : Fin 64 → EReal) (k : Fin 256 → Fin 64 → EReal) (n : Fin 256) : EReal :=
  Ideal.exp (score q (k n) - top q k)

/-- The weighted sum of the values over the sum of the weights. -/
def mean (q : Fin 64 → EReal) (k : Fin 256 → Fin 64 → EReal) (v : Fin 256 → EReal) : EReal :=
  Ideal.div (∑ n, weight q k n * v n) (∑ n, weight q k n)

/-- Equal queries, keys and values have equal means. -/
theorem mean_congr {q q' : Fin 64 → EReal} {k k' : Fin 256 → Fin 64 → EReal} {v v' : Fin 256 → EReal}
    (hq : ∀ d, q d = q' d) (hk : ∀ n d, k n d = k' n d) (hv : ∀ n, v n = v' n) : mean q k v = mean q' k' v' := by
  obtain rfl : q = q' := funext hq
  obtain rfl : k = k' := funext fun n => funext (hk n)
  obtain rfl : v = v' := funext hv
  rfl

/-- The starting value of the maximum is no larger than the maximum. -/
theorem max_top (q : Fin 64 → EReal) (k : Fin 256 → Fin 64 → EReal) :
    max (Ideal.ofBits .f32 0xFF800000#32) (top q k) = top q k :=
  max_eq_right ((Finset.le_fold_max _).2 (Or.inl le_rfl))

/-- A score of reals is a real. -/
theorem score_real {q k : Fin 64 → EReal} (hq : ∀ d, ∃ r : ℝ, q d = r) (hk : ∀ d, ∃ r : ℝ, k d = r) : ∃ r : ℝ, score q k = r := by
  choose a ha using hq
  choose b hb using hk
  obtain ⟨s, hs⟩ : ∃ s : ℝ, Ideal.ofBits .f32 0x3E000000#32 = s := ⟨_, rfl⟩
  refine ⟨(∑ d, a d * b d) * s, ?_⟩
  rw [score, hs]
  simp only [ha, hb]
  push_cast
  rfl

/-- The largest of finitely many reals is a real. -/
theorem fold_real (f : Fin 256 → ℝ) : ∃ r : ℝ, Finset.fold max (Ideal.ofBits .f32 0xFF800000#32) (fun n => (f n : EReal)) Finset.univ = r := by
  have hb : Ideal.ofBits .f32 0xFF800000#32 = ⊥ := by simp [Ideal.ofBits, Ideal.ieee]
  rw [hb]
  have h0 : ((f 0 : ℝ) : EReal) ≤ Finset.fold max ⊥ (fun n => (f n : EReal)) Finset.univ :=
    (Finset.le_fold_max _).2 (Or.inr ⟨0, Finset.mem_univ _, le_rfl⟩)
  have h1 : Finset.fold max ⊥ (fun n => (f n : EReal)) Finset.univ < ⊤ :=
    (Finset.fold_max_lt _).2 ⟨bot_lt_top, fun n _ => EReal.coe_lt_top _⟩
  exact ⟨_, (EReal.coe_toReal h1.ne (ne_bot_of_le_ne_bot (EReal.coe_ne_bot _) h0)).symm⟩

/-- Every weight is positive when the queries and the keys are real. -/
theorem weight_pos {q : Fin 64 → EReal} {k : Fin 256 → Fin 64 → EReal} (hq : ∀ d, ∃ r : ℝ, q d = r) (hk : ∀ n d, ∃ r : ℝ, k n d = r)
    (n : Fin 256) : 0 < weight q k n := by
  choose f hf using fun n => score_real hq (hk n)
  obtain ⟨t, ht⟩ := fold_real f
  have : weight q k n = ((Real.exp (f n - t) : ℝ) : EReal) := by
    rw [weight, top]
    simp only [hf]
    rw [ht]
    rfl
  rw [this]
  exact_mod_cast Real.exp_pos _

/-- Dividing the weights before the sum or the sum afterwards is the same: the divisor is positive. -/
theorem sum_shares (q : Fin 64 → EReal) (k : Fin 256 → Fin 64 → EReal) (v : Fin 256 → EReal)
    (hq : ∀ d, ∃ r : ℝ, q d = r) (hk : ∀ n d, ∃ r : ℝ, k n d = r) :
    ∑ n, v n * Ideal.div (weight q k n) (∑ n, weight q k n) = mean q k v := by
  rw [mean]
  have hd : 0 < ∑ n, weight q k n :=
    lt_of_lt_of_le (weight_pos hq hk 0) (Finset.single_le_sum (fun n _ => (weight_pos hq hk n).le) (Finset.mem_univ 0))
  generalize (∑ n, weight q k n) = d at hd ⊢
  have h0 : (0 : EReal) ≤ d⁻¹ := EReal.inv_nonneg_of_nonneg hd.le
  have h1 : d⁻¹ ≠ ⊤ := by
    induction d with
    | bot => simp
    | top => simp
    | coe r => rw [← EReal.coe_inv]; exact EReal.coe_ne_top _
  simp only [Ideal.div, if_neg hd.ne']
  have key : ∀ s : Finset (Fin 256), (∑ n ∈ s, weight q k n * v n) * d⁻¹ = ∑ n ∈ s, v n * (weight q k n * d⁻¹) := fun s => by
    induction s using Finset.induction_on with
    | empty => simp
    | insert a s ha ih =>
      rw [Finset.sum_insert ha, Finset.sum_insert ha, EReal.right_distrib_of_nonneg_of_ne_top h0 h1, ih]
      congr 1
      rw [mul_comm (weight q k a), mul_assoc]
  exact (key Finset.univ).symm

end Cert.Attn

namespace Cert.Reference3Ideal.Attn

open Cert.Reference3Ideal Cert.Reference3Ideal.Gen
open Cert.Attn

/-- Every query against every memory key, scaled. -/
def scores (q : FVec Ideal S16384x256 .f32) (k : FVec Ideal S2x256x4x64 .f32) : FVec Ideal S2x4x8192x256 .f32 :=
  mulf (Host.dotGeneral dot_S2x8192x4x64_S2x256x4x64_S2x4x8192x256_3_3_1_1_02_02 none (shapeCast _ q shapeCasts_S16384x256_S2x8192x4x64) k)
    (broadcastInDim S2x4x8192x256 ![] bcast_S_S2x4x8192x256 (constant S_ .f32 0x3E000000#32))

/-- The exponentials of an array less its maximum along the last axis. -/
def powers (s : FVec Ideal S2x4x8192x256 .f32) : FVec Ideal S2x4x8192x256 .f32 :=
  Host.exp (subf s (broadcastInDim S2x4x8192x256 ![0, 1, 2, 3] bcast_S2x4x8192x1_S2x4x8192x256_0_1_2_3
    (broadcastInDim S2x4x8192x1 ![0, 1, 2] bcast_S2x4x8192_S2x4x8192x1_0_1_2
      (maximumf (broadcastInDim S2x4x8192 ![] bcast_S_S2x4x8192 (constant S_ .f32 0xFF800000#32))
        (Host.reduce FloatOps.maximumf s (constant S_ .f32 0xFF800000#32) reducesTo_S2x4x8192x256_S2x4x8192_d3 h_S_)))))

/-- An array over its sum along the last axis. -/
def parts (w : FVec Ideal S2x4x8192x256 .f32) : FVec Ideal S2x4x8192x256 .f32 :=
  Host.divf w (broadcastInDim S2x4x8192x256 ![0, 1, 2, 3] bcast_S2x4x8192x1_S2x4x8192x256_0_1_2_3
    (broadcastInDim S2x4x8192x1 ![0, 1, 2] bcast_S2x4x8192_S2x4x8192x1_0_1_2
      (Host.reduceAdd w (constant S_ .f32 0x00000000#32) reducesTo_S2x4x8192x256_S2x4x8192_d3 h_S_)))

/-- The memory values of each head summed in given shares, heads side by side. -/
def gather (v : FVec Ideal S2x256x4x64 .f32) (p : FVec Ideal S2x4x8192x256 .f32) : FVec Ideal S2x8192x256 .f32 :=
  shapeCast _ (transpose S2x8192x4x64 [0, 3, 1, 2]
    (Host.dotGeneral dot_S2x256x4x64_S2x4x8192x256_S2x4x64x8192_1_3_3_2_02_01 none v p)
    transposes_S2x4x64x8192_S2x8192x4x64_0_3_1_2) shapeCasts_S2x8192x4x64_S2x8192x256

/-- What the reference computes: each head's sum of the memory values, in the shares. -/
def attended (q : FVec Ideal S16384x256 .f32) (k v : FVec Ideal S2x256x4x64 .f32) : FVec Ideal S2x8192x256 .f32 :=
  gather v (parts (powers (scores q k)))

/-- Every entry of an array is a real. -/
def AllReal {s : Shape} (a : FVec Ideal s .f32) : Prop := ∀ i, ∃ y : ℝ, a i = y

/-- The query's row and lane behind a head's coordinates. -/
theorem split_at (q : FVec Ideal S16384x256 .f32) (b : Fin 2) (r : Fin 8192) (h : Fin 4) (d : Fin 64) :
    shapeCast S2x8192x4x64 q shapeCasts_S16384x256_S2x8192x4x64 (ix4 b r h d) = q (ix2 ⟨b * 8192 + r, by omega⟩ ⟨h * 64 + d, by omega⟩) := by
  pointwise

theorem dot_at (q : FVec Ideal S2x8192x4x64 .f32) (k : FVec Ideal S2x256x4x64 .f32) (b : Fin 2) (h : Fin 4) (r : Fin 8192) (n : Fin 256) :
    Host.dotGeneral dot_S2x8192x4x64_S2x256x4x64_S2x4x8192x256_3_3_1_1_02_02 none q k (ix4 b h r n)
      = ∑ d : Fin 64, q (ix4 b r h d) * k (ix4 b n h d) := by
  pointwise

theorem scaled_at (s : FVec Ideal S2x4x8192x256 .f32) (i : S2x4x8192x256.Idx) :
    mulf s (broadcastInDim S2x4x8192x256 ![] bcast_S_S2x4x8192x256 (constant S_ .f32 0x3E000000#32)) i
      = s i * Ideal.ofBits .f32 0x3E000000#32 := rfl

theorem scores_at (q : FVec Ideal S16384x256 .f32) (k : FVec Ideal S2x256x4x64 .f32) (b : Fin 2) (h : Fin 4) (r : Fin 8192) (n : Fin 256) :
    scores q k (ix4 b h r n)
      = score (fun d => q (ix2 ⟨b * 8192 + r, by omega⟩ ⟨h * 64 + d, by omega⟩)) (fun d => k (ix4 b n h d)) := by
  rw [scores, scaled_at, dot_at]
  simp only [split_at]
  rw [score]

theorem largest_at (s : FVec Ideal S2x4x8192x256 .f32) (b : Fin 2) (h : Fin 4) (r : Fin 8192) :
    Host.reduce FloatOps.maximumf s (constant S_ .f32 0xFF800000#32) reducesTo_S2x4x8192x256_S2x4x8192_d3 h_S_ (ix3 b h r)
      = Finset.fold max (Ideal.ofBits .f32 0xFF800000#32) (fun n => s (ix4 b h r n)) Finset.univ := by
  pointwise

theorem spread_at (s : FVec Ideal S2x4x8192 .f32) (b : Fin 2) (h : Fin 4) (r : Fin 8192) (n : Fin 256) :
    broadcastInDim S2x4x8192x256 ![0, 1, 2, 3] bcast_S2x4x8192x1_S2x4x8192x256_0_1_2_3
      (broadcastInDim S2x4x8192x1 ![0, 1, 2] bcast_S2x4x8192_S2x4x8192x1_0_1_2 s) (ix4 b h r n) = s (ix3 b h r) := by
  pointwise

theorem floor_at (s : FVec Ideal S2x4x8192 .f32) (i : S2x4x8192.Idx) :
    maximumf (broadcastInDim S2x4x8192 ![] bcast_S_S2x4x8192 (constant S_ .f32 0xFF800000#32)) s i
      = max (Ideal.ofBits .f32 0xFF800000#32) (s i) := rfl

theorem exp_sub_at (s t : FVec Ideal S2x4x8192x256 .f32) (i : S2x4x8192x256.Idx) :
    Host.exp (subf s t) i = Ideal.exp (s i - t i) := rfl

theorem powers_at (s : FVec Ideal S2x4x8192x256 .f32) (b : Fin 2) (h : Fin 4) (r : Fin 8192) (n : Fin 256) :
    powers s (ix4 b h r n) = Ideal.exp (s (ix4 b h r n)
      - max (Ideal.ofBits .f32 0xFF800000#32) (Finset.fold max (Ideal.ofBits .f32 0xFF800000#32) (fun n => s (ix4 b h r n)) Finset.univ)) := by
  rw [powers, exp_sub_at, spread_at, floor_at, largest_at]

theorem parts_at (w : FVec Ideal S2x4x8192x256 .f32) (b : Fin 2) (h : Fin 4) (r : Fin 8192) (n : Fin 256) :
    parts w (ix4 b h r n) = Ideal.div (w (ix4 b h r n)) (∑ n, w (ix4 b h r n)) := by
  pointwise [parts]

theorem gather_at (v : FVec Ideal S2x256x4x64 .f32) (p : FVec Ideal S2x4x8192x256 .f32) (b : Fin 2) (r : Fin 8192) (l : Fin 256) :
    gather v p (ix3 b r l) = ∑ n : Fin 256, v (ix4 b n ⟨l / 64, by omega⟩ ⟨l % 64, by omega⟩) * p (ix4 b ⟨l / 64, by omega⟩ r n) := by
  pointwise [gather]

theorem weights_at (q : FVec Ideal S16384x256 .f32) (k : FVec Ideal S2x256x4x64 .f32) (b : Fin 2) (h : Fin 4) (r : Fin 8192) (n : Fin 256) :
    powers (scores q k) (ix4 b h r n)
      = weight (fun d => q (ix2 ⟨b * 8192 + r, by omega⟩ ⟨h * 64 + d, by omega⟩)) (fun n d => k (ix4 b n h d)) n := by
  rw [powers_at]
  simp only [scores_at]
  rw [weight, ← max_top, top]

/-- The reference's result, read at one position. -/
theorem attended_at (q : FVec Ideal S16384x256 .f32) (k v : FVec Ideal S2x256x4x64 .f32) (hq : AllReal q) (hk : AllReal k) (b : Fin 2) (r : Fin 8192) (l : Fin 256) :
    attended q k v (ix3 b r l)
      = mean (fun d => q (ix2 ⟨b * 8192 + r, by omega⟩ ⟨l / 64 * 64 + d, by omega⟩)) (fun n d => k (ix4 b n ⟨l / 64, by omega⟩ d))
          (fun n => v (ix4 b n ⟨l / 64, by omega⟩ ⟨l % 64, by omega⟩)) := by
  rw [attended, gather_at]
  simp only [parts_at, weights_at]
  exact sum_shares _ _ _ (fun _ => hq _) fun _ _ => hk _

end Cert.Reference3Ideal.Attn

end
-- ==== Proof.MemAttn.lean ====
module

public import proofs.«01_k».proof.Proof.Gen.Kernel3Ideal.Frame
public import proofs.«01_k».proof.Proof.MemAttnRef

@[expose] public section

set_option maxRecDepth 16384

noncomputable section

open Idealize.ShloMosaic Idealize.ShloMosaic.TcCoe Idealize.SL.Sem
open Idealize.ShloMosaic.Pipeline (Dat)

namespace Cert.Kernel3Ideal.Attn

open Cert.Kernel3Ideal Cert.Kernel3Ideal.Gen
open Cert.Reference3Ideal.Attn (attended attended_at AllReal)
open Cert.Attn

variable (m : (ℓ : Loc nD τ sig) → Buf (Elt Ideal) ℓ)

/-- Where each window's block lies at each grid point. -/
theorem idx : ∀ t : Fin cfg0.N, win0_0.index t = ![t.val / 4, t.val % 4, 0]
    ∧ win0_1.index t = ![t.val / 4, 0, 0]
    ∧ win0_2.index t = ![t.val / 4, 0, 0]
    ∧ win0_3.index t = ![t.val / 4, t.val % 4, 0] :=
  (by decide +kernel : ∀ t : Fin grid0.N, _)

/-- A head's queries against its keys, scaled. -/
def headScores (q : FVec Ideal S2048x64 .f32) (k : FVec Ideal S64x256 .f32) : FVec Ideal S2048x256 .f32 :=
  mulf (matmul dot_S2048x64_S64x256_S2048x256_1_0_0_1_n_n none (truncf .bf16 q bitsLt_bf16_f32 : FVec Ideal S2048x64 .bf16)
    (truncf .bf16 k bitsLt_bf16_f32 : FVec Ideal S64x256 .bf16) (constant S2048x256 .f32 0x00000000#32))
    (broadcast S2048x256 (Scalar.ofBits .f32 0x3E000000#32 : Ideal .f32))

/-- The exponentials of an array less its maximum along a row. -/
def headPowers (s : FVec Ideal S2048x256 .f32) : FVec Ideal S2048x256 .f32 :=
  exp (subf s (broadcastTo S2048x256 (shapeCast S2048x1
    (multiReduction .maximumf [1] S2048 s 0xFF800000#32 reduces_S2048x256_S2048 (.inl rfl) rfl) shapeCasts_S2048_S2048x1) broadcasts_S2048x1_S2048x256))

/-- The values summed in given weights, over the sum of the weights. -/
def headMean (w : FVec Ideal S2048x256 .f32) (v : FVec Ideal S64x256 .f32) : FVec Ideal S2048x64 .f32 :=
  divf (matmul dot_S2048x256_S64x256_S2048x64_1_1_0_0_n_n none (truncf .bf16 w bitsLt_bf16_f32 : FVec Ideal S2048x256 .bf16)
    (truncf .bf16 v bitsLt_bf16_f32 : FVec Ideal S64x256 .bf16) (constant S2048x64 .f32 0x00000000#32))
    (broadcastTo S2048x64 (shapeCast S2048x1 (multiReduction .add [1] S2048 w 0x00000000#32 reduces_S2048x256_S2048 (.inl rfl) rfl)
      shapeCasts_S2048_S2048x1) broadcasts_S2048x1_S2048x64)

theorem headScores_at (q : FVec Ideal S2048x64 .f32) (k : FVec Ideal S64x256 .f32) (r : Fin 2048) (n : Fin 256) :
    headScores q k (ix2 r n) = score (fun d => q (ix2 r d)) (fun d => k (ix2 d n)) := by
  rw [score]
  pointwise [headScores]

theorem largest_at (s : FVec Ideal S2048x256 .f32) (r : Fin 2048) :
    multiReduction .maximumf [1] S2048 s 0xFF800000#32 reduces_S2048x256_S2048 (.inl rfl) rfl (ix1 r)
      = Finset.fold max (Ideal.ofBits .f32 0xFF800000#32) (fun n => s (ix2 r n)) Finset.univ := by
  pointwise

theorem spread_at (s : FVec Ideal S2048 .f32) (r : Fin 2048) (n : Fin 256) :
    broadcastTo S2048x256 (shapeCast S2048x1 s shapeCasts_S2048_S2048x1) broadcasts_S2048x1_S2048x256 (ix2 r n) = s (ix1 r) := by
  pointwise

theorem exp_sub_at (s t : FVec Ideal S2048x256 .f32) (i : S2048x256.Idx) : exp (subf s t) i = Ideal.exp (s i - t i) := rfl

theorem headPowers_at (s : FVec Ideal S2048x256 .f32) (r : Fin 2048) (n : Fin 256) :
    headPowers s (ix2 r n) = Ideal.exp (s (ix2 r n)
      - Finset.fold max (Ideal.ofBits .f32 0xFF800000#32) (fun n => s (ix2 r n)) Finset.univ) := by
  rw [headPowers, exp_sub_at, spread_at, largest_at]

theorem headMean_at (w : FVec Ideal S2048x256 .f32) (v : FVec Ideal S64x256 .f32) (r : Fin 2048) (d : Fin 64) :
    headMean w v (ix2 r d) = Ideal.div (∑ n : Fin 256, w (ix2 r n) * v (ix2 d n)) (∑ n : Fin 256, w (ix2 r n)) := by
  pointwise [headMean]

/-- A head's attention read at one row and one lane. -/
theorem head_at (q : FVec Ideal S2048x64 .f32) (k v : FVec Ideal S64x256 .f32) (r : Fin 2048) (d : Fin 64) :
    headMean (headPowers (headScores q k)) v (ix2 r d)
      = mean (fun d => q (ix2 r d)) (fun n d => k (ix2 d n)) (fun n => v (ix2 d n)) := by
  rw [headMean_at]
  simp only [headPowers_at, headScores_at]
  rw [mean]
  simp only [weight, top]

/-- The heads side by side are what the body stores. -/
theorem pay_eq (q : FVec Ideal S1x2048x256 .f32) (k v : FVec Ideal S1x256x256 .f32) :
    k0_pay1 (F := Ideal) (k0_pay9 (k0_pay2 q) (k0_pay3 k) (k0_pay4 v) (k0_pay5 q k v) (k0_pay6 q k) (k0_pay7 q k) (k0_pay8 v))
      = shapeCast S1x2048x256 (concatenate S2048x256 1
          [⟨S2048x64, headMean (headPowers (headScores (extractStridedSlice S2048x64 ![0, 0] (k0_pay2 q) slices_S2048x256_o0_0_S2048x64)
              (extractStridedSlice S64x256 ![0, 0] (k0_pay3 k) slices_S256x256_o0_0_S64x256)))
              (extractStridedSlice S64x256 ![0, 0] (k0_pay4 v) slices_S256x256_o0_0_S64x256)⟩,
            ⟨S2048x64, headMean (headPowers (headScores (extractStridedSlice S2048x64 ![0, 64] (k0_pay2 q) slices_S2048x256_o0_64_S2048x64)
              (extractStridedSlice S64x256 ![64, 0] (k0_pay3 k) slices_S256x256_o64_0_S64x256)))
              (extractStridedSlice S64x256 ![64, 0] (k0_pay4 v) slices_S256x256_o64_0_S64x256)⟩,
            ⟨S2048x64, headMean (headPowers (headScores (extractStridedSlice S2048x64 ![0, 128] (k0_pay2 q) slices_S2048x256_o0_128_S2048x64)
              (extractStridedSlice S64x256 ![128, 0] (k0_pay3 k) slices_S256x256_o128_0_S64x256)))
              (extractStridedSlice S64x256 ![128, 0] (k0_pay4 v) slices_S256x256_o128_0_S64x256)⟩,
            ⟨S2048x64, headMean (headPowers (headScores (extractStridedSlice S2048x64 ![0, 192] (k0_pay2 q) slices_S2048x256_o0_192_S2048x64)
              (extractStridedSlice S64x256 ![192, 0] (k0_pay3 k) slices_S256x256_o192_0_S64x256)))
              (extractStridedSlice S64x256 ![192, 0] (k0_pay4 v) slices_S256x256_o192_0_S64x256)⟩]
          concatenates_S2048x64_S2048x64_S2048x64_S2048x64_S2048x256_d1) shapeCasts_S2048x256_S1x2048x256 := rfl

theorem side_at (a b c e : FVec Ideal S2048x64 .f32) (r : Fin 2048) (l : Fin 256) :
    shapeCast S1x2048x256 (concatenate S2048x256 1 [⟨S2048x64, a⟩, ⟨S2048x64, b⟩, ⟨S2048x64, c⟩, ⟨S2048x64, e⟩]
      concatenates_S2048x64_S2048x64_S2048x64_S2048x64_S2048x256_d1) shapeCasts_S2048x256_S1x2048x256 (ix3 0 r l)
      = if h0 : (l : ℕ) < 64 then a (ix2 r ⟨l, h0⟩) else if h1 : (l : ℕ) - 64 < 64 then b (ix2 r ⟨l - 64, h1⟩)
        else if h2 : (l : ℕ) - 64 - 64 < 64 then c (ix2 r ⟨l - 64 - 64, h2⟩) else e (ix2 r ⟨l - 64 - 64 - 64, by omega⟩) := by
  pointwise

theorem flat_at (q : FVec Ideal S1x2048x256 .f32) (r : Fin 2048) (l : Fin 256) : k0_pay2 (F := Ideal) q (ix2 r l) = q (ix3 0 r l) := by
  pointwise [k0_pay2]
theorem flat3_at (q : FVec Ideal S1x256x256 .f32) (r : Fin 256) (l : Fin 256) : k0_pay3 (F := Ideal) q (ix2 r l) = q (ix3 0 r l) := by
  pointwise [k0_pay3]
theorem flat4_at (q : FVec Ideal S1x256x256 .f32) (r : Fin 256) (l : Fin 256) : k0_pay4 (F := Ideal) q (ix2 r l) = q (ix3 0 r l) := by
  pointwise [k0_pay4]

/-- What the body computes from its blocks, read at one row and one column. -/
theorem pay_at (q : FVec Ideal S1x2048x256 .f32) (k v : FVec Ideal S1x256x256 .f32) (r : Fin 2048) (l : Fin 256) :
    k0_pay1 (F := Ideal) (k0_pay9 (k0_pay2 q) (k0_pay3 k) (k0_pay4 v) (k0_pay5 q k v) (k0_pay6 q k) (k0_pay7 q k) (k0_pay8 v)) (ix3 0 r l)
      = mean (fun d => q (ix3 0 r ⟨l / 64 * 64 + d, by omega⟩)) (fun n d => k (ix3 0 ⟨l / 64 * 64 + d, by omega⟩ n))
          (fun n => v (ix3 0 l n)) := by
  rw [pay_eq, side_at]
  split_ifs with h0 h1 h2
  · rw [head_at]
    refine mean_congr (fun d => ?_) (fun n d => ?_) fun n => ?_
    · pointwise; rw [flat_at]; congr 2; apply Fin.ext; show _ = (l : ℕ) / 64 * 64 + d; simp; omega
    · pointwise; rw [flat3_at]; congr 2; apply Fin.ext; show _ = (l : ℕ) / 64 * 64 + d; simp; omega
    · pointwise; rw [flat4_at]
      try (congr 2; apply Fin.ext; show _ = (l : ℕ); simp; omega)
  · rw [head_at]
    refine mean_congr (fun d => ?_) (fun n d => ?_) fun n => ?_
    · pointwise; rw [flat_at]; congr 2; apply Fin.ext; show _ = (l : ℕ) / 64 * 64 + d; simp; omega
    · pointwise; rw [flat3_at]; congr 2; apply Fin.ext; show _ = (l : ℕ) / 64 * 64 + d; simp; omega
    · pointwise; rw [flat4_at]
      try (congr 2; apply Fin.ext; show _ = (l : ℕ); simp; omega)
  · rw [head_at]
    refine mean_congr (fun d => ?_) (fun n d => ?_) fun n => ?_
    · pointwise; rw [flat_at]; congr 2; apply Fin.ext; show _ = (l : ℕ) / 64 * 64 + d; simp; omega
    · pointwise; rw [flat3_at]; congr 2; apply Fin.ext; show _ = (l : ℕ) / 64 * 64 + d; simp; omega
    · pointwise; rw [flat4_at]
      try (congr 2; apply Fin.ext; show _ = (l : ℕ); simp; omega)
  · rw [head_at]
    refine mean_congr (fun d => ?_) (fun n d => ?_) fun n => ?_
    · pointwise; rw [flat_at]; congr 2; apply Fin.ext; show _ = (l : ℕ) / 64 * 64 + d; simp; omega
    · pointwise; rw [flat3_at]; congr 2; apply Fin.ext; show _ = (l : ℕ) / 64 * 64 + d; simp; omega
    · pointwise; rw [flat4_at]
      try (congr 2; apply Fin.ext; show _ = (l : ℕ); simp; omega)

/-- What a grid point stores is the reference's value at the same place. -/
theorem point (c : Dev nD) (t : Fin cfg0.N) (hq : AllReal (m ((c : Thread nD τ).loc main_arg0)))
    (hk : AllReal (m ((c : Thread nD τ).loc main_arg1))) (y) :
    k0_pay1 (k0_pay9 (k0_pay2 (iblk m c 0 t)) (k0_pay3 (iblk m c 1 t)) (k0_pay4 (iblk m c 2 t)) (k0_pay5 (iblk m c 0
      t) (iblk m c 1 t) (iblk m c 2 t)) (k0_pay6 (iblk m c 0 t) (iblk m c 1 t)) (k0_pay7 (iblk m c 0 t) (iblk m c 1 t))
      (k0_pay8 (iblk m c 2 t))) y
      = attended (m ((c : Thread nD τ).loc main_arg0)) (m ((c : Thread nD τ).loc main_arg1)) (m ((c : Thread nD τ).loc
        main_arg2)) (((cfg0.win 3).blk t).view.emb y) := by
  idx_vars y
  obtain ⟨b, hb⟩ : ∃ b : Fin 2, (b : ℕ) = t.val / 4 := ⟨⟨t.val / 4, by have : t.val < 8 := t.isLt; omega⟩, rfl⟩
  obtain ⟨R, hR⟩ : ∃ R : Fin 8192, (R : ℕ) = t.val % 4 * 2048 + y1 := ⟨⟨t.val % 4 * 2048 + y1, by omega⟩, rfl⟩
  have h0 : y0 = 0 := Subsingleton.elim _ _
  subst h0
  have he : (((cfg0.win 3).blk t).view.emb (ix3 0 y1 y2)) = (ix3 b R y2 : S2x8192x256.Idx) := by blk_ext [idx t, hR, hb]
  rw [he]
  refine (pay_at _ _ _ y1 y2).trans (Eq.trans ?_ (attended_at _ _ _ hq hk b R y2).symm)
  refine mean_congr (fun d => ?_) (fun n d => ?_) fun n => ?_
  all_goals pointwise
  all_goals blk_point [iblk, V, idx t]

/-- The array the calls leave is the reference's result. -/
theorem final (c : Dev nD) (hq : AllReal (m ((c : Thread nD τ).loc main_arg0)))
    (hk : AllReal (m ((c : Thread nD τ).loc main_arg1))) :
    (dats m 0 c).arrAt 3 (cfgs 0).N = attended (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t hq hk y

/-- Where the precondition holds, the queries and the keys are real. -/
theorem real_of_finite {s : Shape} (a : FVec Ideal s .f32) (i : s.Idx)
    (h : andi (cmpf .olt a (fun _ => Ideal.ofBits .f32 0x7F800000#32)) (cmpf .ogt a (fun _ => Ideal.ofBits .f32 0xFF800000#32)) i = 1#1) :
    ∃ y : ℝ, a i = y := by
  have ht : Ideal.ofBits .f32 0x7F800000#32 = ⊤ := by simp [Ideal.ofBits, Ideal.ieee]
  have hb : Ideal.ofBits .f32 0xFF800000#32 = ⊥ := by simp [Ideal.ofBits, Ideal.ieee]
  rw [ht, hb] at h
  have h1 : a i ≠ ⊤ := fun e => by
    change IntOp.andi (Ideal.cmp .olt (a i) ⊤) (Ideal.cmp .ogt (a i) ⊥) = 1#1 at h
    rw [e] at h
    simp [Ideal.cmp, IntOp.andi] at h
  have h2 : a i ≠ ⊥ := fun e => by
    change IntOp.andi (Ideal.cmp .olt (a i) ⊤) (Ideal.cmp .ogt (a i) ⊥) = 1#1 at h
    rw [e] at h
    simp [Ideal.cmp, IntOp.andi] at h
  exact ⟨_, (EReal.coe_toReal h1 h2).symm⟩

end Cert.Kernel3Ideal.Attn

end
-- ==== Proof.FfnSample.lean ====
module

public import proofs.«01_k».proof.Proof.Gen.Kernel4Ideal.Frame
public import proofs.«01_k».proof.Proof.Gen.Reference4Ideal
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference4Ideal.Rows

open Cert.Reference4Ideal Cert.Reference4Ideal.Gen

/-- Every row of `x` over its root mean square. -/
def unitRows (x : FVec Ideal S32x4x1024 .f32) : FVec Ideal S32x4x1024 .f32 :=
  mulf x (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf x x) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))

/-- A gain per column, repeated over the rows. -/
def spreadCols (g : FVec Ideal S1024 .f32) : FVec Ideal S32x4x1024 .f32 :=
  broadcastInDim S32x4x1024 ![0, 1, 2] bcast_S1x1x1024_S32x4x1024_0_1_2 (broadcastInDim S1x1x1024 ![2] bcast_S1024_S1x1x1024_2 g)

/-- The normalized rows times one of the two input weight matrices. -/
def upRows (x : FVec Ideal S32x4x1024 .f32) (g : FVec Ideal S2x1024 .f32) (w : FVec Ideal S2x1024x2816 .f32) : FVec Ideal S32x4x2816 .f32 :=
  Host.dotGeneral dot_S32x4x1024_S1024x2816_S32x4x2816_2_0_01_1_n_n none (mulf (unitRows x) (spreadCols (shapeCast _ (extractStridedSlice S1x1024 ![1, 0] g slices_S2x1024_S1x1024_1_0) shapeCasts_S1x1024_S1024))) (shapeCast _ (extractStridedSlice S1x1024x2816 ![1, 0, 0] w slices_S2x1024x2816_S1x1024x2816_1_0_0) shapeCasts_S1x1024x2816_S1024x2816)

/-- The hidden layer: `silu` of the one product times the other. -/
def hiddenRows (x : FVec Ideal S32x4x1024 .f32) (g : FVec Ideal S2x1024 .f32) (w1 w3 : FVec Ideal S2x1024x2816 .f32) : FVec Ideal S32x4x2816 .f32 :=
  mulf (mulf (upRows x g w1) (Host.divf (broadcastInDim S32x4x2816 ![] bcast_S_S32x4x2816 (constant S_ .f32 0x3F800000#32)) (addf (broadcastInDim S32x4x2816 ![] bcast_S_S32x4x2816 (constant S_ .f32 0x3F800000#32)) (Host.exp (Host.negf (upRows x g w1)))))) (upRows x g w3)

/-- The halfStep after the feed-forward half step. -/
def halfStep (x : FVec Ideal S32x4x1024 .f32) (g : FVec Ideal S2x1024 .f32) (w1 w3 : FVec Ideal S2x1024x2816 .f32) (w2 : FVec Ideal S2x2816x1024 .f32) : FVec Ideal S32x4x1024 .f32 :=
  addf x (mulf (broadcastInDim S32x4x1024 ![] bcast_S_S32x4x1024 (constant S_ .f32 0x3F000000#32)) (Host.dotGeneral dot_S32x4x2816_S2816x1024_S32x4x1024_2_0_01_1_n_n none (hiddenRows x g w1 w3) (shapeCast _ (extractStridedSlice S1x2816x1024 ![1, 0, 0] w2 slices_S2x2816x1024_S1x2816x1024_1_0_0) shapeCasts_S1x2816x1024_S2816x1024)))

/-- What the reference computes: the last half step, then the final normalization. -/
def lastRows (x : FVec Ideal S32x4x1024 .f32) (g : FVec Ideal S2x1024 .f32) (w1 w3 : FVec Ideal S2x1024x2816 .f32) (w2 : FVec Ideal S2x2816x1024 .f32) (f : FVec Ideal S1024 .f32) : FVec Ideal S128x1024 .f32 :=
  shapeCast S128x1024 (mulf (unitRows (halfStep x g w1 w3 w2)) (spreadCols f)) shapeCasts_S32x4x1024_S128x1024

open Cert.Rows (normed proj gated half)

/-- The reference's result, read at one row and one column. -/
theorem lastRows_at (x : FVec Ideal S32x4x1024 .f32) (g : FVec Ideal S2x1024 .f32) (w1 w3 : FVec Ideal S2x1024x2816 .f32) (w2 : FVec Ideal S2x2816x1024 .f32) (f : FVec Ideal S1024 .f32) (r : Fin 128) (l : Fin 1024) :
    lastRows x g w1 w3 w2 f (ix2 r l)
      = normed (half (fun k => x (ix3 ⟨r / 4, by omega⟩ ⟨r % 4, by omega⟩ k)) (fun k => g (ix2 1 k)) (fun k h => w1 (ix3 1 k h))
          (fun k h => w3 (ix3 1 k h)) (fun h k => w2 (ix3 1 h k))) (fun k => f (ix1 k)) l := by
  pointwise [lastRows, halfStep, hiddenRows, upRows, unitRows, spreadCols]
  rfl

end Cert.Reference4Ideal.Rows

namespace Cert.Kernel4Ideal.Rows
open Cert.Kernel4Ideal Cert.Kernel4Ideal.Gen
open Cert.Reference4Ideal.Rows (lastRows lastRows_at)
open Cert.Rows (normed proj gated half halves half_of_pieces normed_congr)

variable (m : (ℓ : Loc nD τ sig) → Buf (Elt Ideal) ℓ)

/-- Where each window's block lies at each grid point. -/
theorem idx : ∀ t : Fin cfg0.N, win0_0.index t = ![t.val, 0]
    ∧ win0_1.index t = ![0, 0]
    ∧ win0_2.index t = ![1, 0, 0]
    ∧ win0_3.index t = ![1, 0, 0]
    ∧ win0_4.index t = ![1, 0, 0]
    ∧ win0_5.index t = ![0, 0]
    ∧ win0_6.index t = ![t.val, 0] :=
  (by decide +kernel : ∀ t : Fin grid0.N, _)

/-- What the body computes from its blocks, read at one row and one column. -/
theorem pay_at (x : FVec Ideal S128x1024 .f32) (g : FVec Ideal S1x1024 .f32) (w1 w3 : FVec Ideal S1x1024x1280 .bf16)
    (w2 : FVec Ideal S1x1280x1024 .bf16) (v1 v3 : FVec Ideal S1x1024x1536 .bf16) (v2 : FVec Ideal S1x1536x1024 .bf16)
    (f : FVec Ideal S1x1024 .f32) (r : Fin 128) (l : Fin 1024) :
    k0_pay4 (F := Ideal) (k0_pay1 x) (k0_pay2 x g) (k0_pay3 x g w1 w3 w2) v1 v3 v2 f (ix2 r l)
      = normed (halves (fun k => x (ix2 r k)) (fun k => g (ix2 0 k)) (fun k h => w1 (ix3 0 k h)) (fun k h => w3 (ix3 0 k h))
            (fun h k => w2 (ix3 0 h k)) (fun k h => v1 (ix3 0 k h)) (fun k h => v3 (ix3 0 k h)) (fun h k => v2 (ix3 0 h k)))
          (fun k => f (ix2 0 k)) l := by
  pointwise [k0_pay4, k0_pay1, k0_pay2, k0_pay3]
  simp only [zero_sub, zero_add]
  rfl

/-- What a grid point stores is the reference's value at the same place. -/
theorem point (c : Dev nD) (t : Fin cfg0.N) (y) :
    k0_pay4 (k0_pay1 (iblk m c 0 t)) (k0_pay2 (iblk m c 0 t) (iblk m c 1 t)) (k0_pay3 (iblk m c 0 t) (iblk m c 1 t)
      (View.ld (iblk m c 2 t) r0_2) (View.ld (iblk m c 3 t) r0_2) (View.ld (iblk m c 4 t) r0_3)) (View.ld (iblk m c 2 t)
      r0_4) (View.ld (iblk m c 3 t) r0_4) (View.ld (iblk m c 4 t) r0_5) (iblk m c 5 t) y
      = lastRows (m ((c : Thread nD τ).loc main_arg0)) (m ((c : Thread nD τ).loc main_arg1)) (m ((c : Thread nD τ).loc
        main_arg2)) (m ((c : Thread nD τ).loc main_arg3)) (m ((c : Thread nD τ).loc main_arg4)) (m ((c : Thread nD
        τ).loc main_arg5)) (((cfg0.win 6).blk t).view.emb y) := by
  idx_vars y
  obtain ⟨R, hR⟩ : ∃ R : Fin 128, (R : ℕ) = t.val * 128 + y0 := ⟨⟨t.val * 128 + y0, by idx_bounds; omega⟩, rfl⟩
  have he : (((cfg0.win 6).blk t).view.emb (ix2 y0 y1)) = (ix2 R y1 : S128x1024.Idx) := by blk_ext [idx t, hR]
  rw [he]
  refine (pay_at _ _ _ _ _ _ _ _ _ y0 y1).trans (Eq.trans ?_ (lastRows_at _ _ _ _ _ _ R y1).symm)
  refine normed_congr (half_of_pieces (fun k => ?_) (fun k => ?_) (fun k h => ?_) (fun k h => ?_) (fun h k => ?_)
    (fun k h => ?_) (fun k h => ?_) (fun h k => ?_)) (fun k => ?_) y1
  all_goals pointwise
  all_goals blk_point [iblk, V, idx t]

/-- The array the calls leave is the reference's result. -/
theorem final (c : Dev nD) : (dats m 0 c).arrAt 6 (cfgs 0).N = lastRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp; rw [after0_6]; frame_out
  exact point m c t y

end Cert.Kernel4Ideal.Rows

end
-- ==== Proof.MemKvRun.lean ====
module

public import proofs.«01_k».proof.Proof.Gen.Kernel5Ideal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

namespace Cert.Kernel5Ideal.Gen

variable {F : FTy → Type} [FloatOps F]
variable (m : (ℓ : Loc nD τ sig) → Buf (Elt F) ℓ) (ρ : Dev nD → PrngReg)

set_option backward.isDefEq.respectTransparency.types false in
/-- At the end of the program every buffer of the device's memory holds what the last stretch of host operations left. -/
theorem ends : θ_run defs (onTc (τ := τ) (main (F := F))) ⟨m, fun _ => 0, ρ⟩
    (fun r => ∀ c : Dev nD, ∀ b ∈ Pipeline.ucRefs τ sig, r.2.mem (((c : Thread nD τ)).1, b) = W5 m ρ c b) := by
  refine Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => ?_⟩)
    (hinit := ?_)
    (QY := fun c s => ∀ b ∈ Pipeline.ucRefs τ sig, s.mem (((c : Thread nD τ)).1, b) = W5 m ρ c b)
    (hfin := fun c s' => ?_)
    (hQ := fun s h _ => h)
  · iintro Hu; imodintro
    isplitl [Hu]
    · iapply (show (ownU (initOf (Pipeline.cells cfgs cellOf_inj) (Pipeline.launchToks cfgs cellOf_inj)) : sProp (MT nD τ sig Unit (Elt F) ℕ (UR sig nD τ) ℕ))
          ⊢ BI.own (emb₁ (initOf (Pipeline.cells cfgs cellOf_inj) (Pipeline.launchToks cfgs cellOf_inj))) from .rfl)
      iexact Hu
    iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
    iempintro
  · dsimp only [Pipeline.Seg.post, hseg, Pipeline.HostSeg.ofOps]
    iintro ⟨Hh, Hp, HO⟩
    isplitl [Hh Hp]
    · isplitl [Hh]
      · iexact Hh
      · iexact Hp
    · iexact HO
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]
    · iexact Hh
    isplitl [Hp]
    · iexists _; iexact Hp
    · iexists ∅; iexact HO
  · iintro ⟨⟨Hh, -⟩, HSI⟩
    unfold StableHlo.held
    imodintro
    iapply (pointsTo_read_all (Pipeline.ucRefs τ sig) (fun b => (((c : Thread nD τ)).1, b)) (W5 m ρ c) s')
    isplitl [Hh] <;> iassumption

end Cert.Kernel5Ideal.Gen

end
-- ==== Proof.MemKv.lean ====
module

public import proofs.«01_k».proof.Proof.MemKvRun
public import proofs.«01_k».proof.Proof.Gen.Reference5Ideal
public import proofs.«01_k».proof.Proof.Rows
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference5Ideal.MemKv

open Cert.Reference5Ideal Cert.Reference5Ideal.Gen
open Cert.Rows (normed proj)

/-- Every row of the memory over its root mean square, times a gain, times a weight matrix. -/
def projRows (x : FVec Ideal S2x256x1024 .f32) (g : FVec Ideal S1024 .f32) (w : FVec Ideal S1024x512 .f32) : FVec Ideal S2x256x512 .f32 :=
  Host.dotGeneral dot_S2x256x1024_S1024x512_S2x256x512_2_0_01_1_n_n none
    (mulf (mulf x (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf x x) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32))))))
      (broadcastInDim S2x256x1024 ![0, 1, 2] bcast_S1x1x1024_S2x256x1024_0_1_2 (broadcastInDim S1x1x1024 ![2] bcast_S1024_S1x1x1024_2 g))) w

/-- One entry of `projRows`. -/
theorem projRows_at (x : FVec Ideal S2x256x1024 .f32) (g : FVec Ideal S1024 .f32) (w : FVec Ideal S1024x512 .f32) (b : Fin 2) (r : Fin 256) (j : Fin 512) :
    projRows x g w (ix3 b r j) = proj (fun k => x (ix3 b r k)) (fun k => g (ix1 k)) (fun k => w (ix2 k j)) := by
  pointwise [projRows]
  rfl

/-- One layer's columns from `0`, by heads. -/
def headsLo (y : FVec Ideal S2x256x512 .f32) : FVec Ideal S1x2x256x4x64 .f32 :=
  broadcastInDim S1x2x256x4x64 ![1, 2, 3, 4] bcast_S2x256x4x64_S1x2x256x4x64_1_2_3_4 (shapeCast S2x256x4x64 (extractStridedSlice S2x256x256 ![0, 0, 0] y slices_S2x256x512_S2x256x256_0_0_0) shapeCasts_S2x256x256_S2x256x4x64)

/-- One layer's columns from `256`, by heads. -/
def headsHi (y : FVec Ideal S2x256x512 .f32) : FVec Ideal S1x2x256x4x64 .f32 :=
  broadcastInDim S1x2x256x4x64 ![1, 2, 3, 4] bcast_S2x256x4x64_S1x2x256x4x64_1_2_3_4 (shapeCast S2x256x4x64 (extractStridedSlice S2x256x256 ![0, 0, 256] y slices_S2x256x512_S2x256x256_0_0_256) shapeCasts_S2x256x256_S2x256x4x64)

/-- One entry of `headsLo`. -/
theorem headsLo_at (y : FVec Ideal S2x256x512 .f32) (b : Fin 2) (r : Fin 256) (h : Fin 4) (d : Fin 64) :
    headsLo y (ix5 0 b r h d) = y (ix3 b r ⟨h * 64 + d, by omega⟩) := by
  pointwise [headsLo]

/-- One entry of `headsHi`. -/
theorem headsHi_at (y : FVec Ideal S2x256x512 .f32) (b : Fin 2) (r : Fin 256) (h : Fin 4) (d : Fin 64) :
    headsHi y (ix5 0 b r h d) = y (ix3 b r ⟨256 + (h * 64 + d), by omega⟩) := by
  pointwise [headsHi]

/-- The two layers, one after the other. -/
def both (y z : FVec Ideal S1x2x256x4x64 .f32) : FVec Ideal S2x2x256x4x64 .f32 :=
  concatenate S2x2x256x4x64 0 [⟨S1x2x256x4x64, y⟩, ⟨S1x2x256x4x64, z⟩] concatenates_S1x2x256x4x64_S1x2x256x4x64_S2x2x256x4x64_d0

/-- One entry of `both`. -/
theorem both_at (y z : FVec Ideal S1x2x256x4x64 .f32) (l b : Fin 2) (r : Fin 256) (h : Fin 4) (d : Fin 64) :
    both y z (ix5 l b r h d) = if l.val < 1 then y (ix5 0 b r h d) else z (ix5 0 b r h d) := by
  pointwise [both]
  split
  · rw [show (⟨l.val, by omega⟩ : Fin 1) = 0 from Subsingleton.elim _ _]
  · rw [show (⟨l.val - 1, by omega⟩ : Fin 1) = 0 from Subsingleton.elim _ _]

/-- What the reference computes from the memory with each layer's gains and weights. -/
def proj0 (x : FVec Ideal S2x256x1024 .f32) (g : FVec Ideal S2x1024 .f32) (w : FVec Ideal S2x1024x512 .f32) : FVec Ideal S2x256x512 .f32 :=
  projRows x (shapeCast _ (extractStridedSlice S1x1024 ![0, 0] g slices_S2x1024_S1x1024_0_0) shapeCasts_S1x1024_S1024) (shapeCast _ (extractStridedSlice S1x1024x512 ![0, 0, 0] w slices_S2x1024x512_S1x1024x512_0_0_0) shapeCasts_S1x1024x512_S1024x512)
/-- The same for layer 1. -/
def proj1 (x : FVec Ideal S2x256x1024 .f32) (g : FVec Ideal S2x1024 .f32) (w : FVec Ideal S2x1024x512 .f32) : FVec Ideal S2x256x512 .f32 :=
  projRows x (shapeCast _ (extractStridedSlice S1x1024 ![1, 0] g slices_S2x1024_S1x1024_1_0) shapeCasts_S1x1024_S1024) (shapeCast _ (extractStridedSlice S1x1024x512 ![1, 0, 0] w slices_S2x1024x512_S1x1024x512_1_0_0) shapeCasts_S1x1024x512_S1024x512)

/-- One entry of `proj0`. -/
theorem proj0_at (x : FVec Ideal S2x256x1024 .f32) (g : FVec Ideal S2x1024 .f32) (w : FVec Ideal S2x1024x512 .f32) (b : Fin 2) (r : Fin 256) (j : Fin 512) :
    proj0 x g w (ix3 b r j) = proj (fun k => x (ix3 b r k)) (fun k => g (ix2 0 k)) (fun k => w (ix3 0 k j)) := by
  rw [proj0, projRows_at]
  pointwise
/-- One entry of `proj1`. -/
theorem proj1_at (x : FVec Ideal S2x256x1024 .f32) (g : FVec Ideal S2x1024 .f32) (w : FVec Ideal S2x1024x512 .f32) (b : Fin 2) (r : Fin 256) (j : Fin 512) :
    proj1 x g w (ix3 b r j) = proj (fun k => x (ix3 b r k)) (fun k => g (ix2 1 k)) (fun k => w (ix3 1 k j)) := by
  rw [proj1, projRows_at]
  pointwise

/-- The reference's keys. -/
def keys (x : FVec Ideal S2x256x1024 .f32) (g : FVec Ideal S2x1024 .f32) (w : FVec Ideal S2x1024x512 .f32) : FVec Ideal S2x2x256x4x64 .f32 :=
  both (headsLo (proj0 x g w)) (headsLo (proj1 x g w))
/-- The reference's values. -/
def vals (x : FVec Ideal S2x256x1024 .f32) (g : FVec Ideal S2x1024 .f32) (w : FVec Ideal S2x1024x512 .f32) : FVec Ideal S2x2x256x4x64 .f32 :=
  both (headsHi (proj0 x g w)) (headsHi (proj1 x g w))

/-- One entry of the reference's keys. -/
theorem keys_at (x : FVec Ideal S2x256x1024 .f32) (g : FVec Ideal S2x1024 .f32) (w : FVec Ideal S2x1024x512 .f32) (l b : Fin 2) (r : Fin 256) (h : Fin 4) (d : Fin 64) :
    keys x g w (ix5 l b r h d) = if l.val < 1
      then proj (fun k => x (ix3 b r k)) (fun k => g (ix2 0 k)) (fun k => w (ix3 0 k ⟨h * 64 + d, by omega⟩))
      else proj (fun k => x (ix3 b r k)) (fun k => g (ix2 1 k)) (fun k => w (ix3 1 k ⟨h * 64 + d, by omega⟩)) := by
  rw [keys, both_at, headsLo_at, headsLo_at, proj0_at, proj1_at]

/-- One entry of the reference's values. -/
theorem vals_at (x : FVec Ideal S2x256x1024 .f32) (g : FVec Ideal S2x1024 .f32) (w : FVec Ideal S2x1024x512 .f32) (l b : Fin 2) (r : Fin 256) (h : Fin 4) (d : Fin 64) :
    vals x g w (ix5 l b r h d) = if l.val < 1
      then proj (fun k => x (ix3 b r k)) (fun k => g (ix2 0 k)) (fun k => w (ix3 0 k ⟨256 + (h * 64 + d), by omega⟩))
      else proj (fun k => x (ix3 b r k)) (fun k => g (ix2 1 k)) (fun k => w (ix3 1 k ⟨256 + (h * 64 + d), by omega⟩)) := by
  rw [vals, both_at, headsHi_at, headsHi_at, proj0_at, proj1_at]

/-- What the reference ends with: its keys and values, the arguments as launched. -/
theorem ends_with (m : (ℓ : Loc nD τ sig) → Buf (Elt Ideal) ℓ) (ρ : Dev nD → PrngReg) : θ_run (defs (F := Ideal)) (onTc (τ := τ) (main (F := Ideal))) ⟨m, fun _ => 0, ρ⟩ (fun r => ∀ c : Dev nD,
      r.2.mem ((c.tc : Thread nD τ).loc main_v46) = keys (m ((c.tc : Thread nD τ).loc main_arg0)) (m ((c.tc : Thread nD τ).loc main_arg1)) (m ((c.tc : Thread nD τ).loc main_arg2))
      ∧ r.2.mem ((c.tc : Thread nD τ).loc main_v49) = vals (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run
  all_goals rfl

end Cert.Reference5Ideal.MemKv

namespace Cert.Kernel5Ideal.MemKv
open Cert.Kernel5Ideal Cert.Kernel5Ideal.Gen
open Cert.Rows (normed proj)

/-- Where each window's block lies at each grid point of the first call. -/
theorem idx0 : ∀ t : Fin cfg0.N, win0_0.index t = ![t.val, 0]
    ∧ win0_1.index t = ![0, 0]
    ∧ win0_2.index t = ![0, 0]
    ∧ win0_3.index t = ![t.val, 0, 0]
    ∧ win0_4.index t = ![t.val, 0, 0] :=
  (by decide +kernel : ∀ t : Fin grid0.N, _)

/-- The projected rows of one block, transposed. -/
theorem pay1_at0 (x : FVec Ideal S256x1024 .f32) (g : FVec Ideal S1x1024 .f32) (w : FVec Ideal S1024x512 .bf16) (r : Fin 256) (j : Fin 512) :
    k0_pay1 (F := Ideal) x g w (ix2 r j) = proj (fun k => x (ix2 r k)) (fun k => g (ix2 0 k)) (fun k => w (ix2 k j)) := by
  pointwise [k0_pay1]
  rfl

/-- A block transposed. -/
theorem pay2_at0 (y : FVec Ideal S256x256 .f32) (j r : Fin 256) : k0_pay2 (F := Ideal) y (ix3 0 j r) = y (ix2 r j) := by
  pointwise [k0_pay2]

/-- A block transposed. -/
theorem pay3_at0 (y : FVec Ideal S256x256 .f32) (j r : Fin 256) : k0_pay3 (F := Ideal) y (ix3 0 j r) = y (ix2 r j) := by
  pointwise [k0_pay3]

/-- Where each window's block lies at each grid point of the second call. -/
theorem idx1 : ∀ t : Fin cfg1.N, win1_0.index t = ![t.val, 0]
    ∧ win1_1.index t = ![0, 0]
    ∧ win1_2.index t = ![0, 0]
    ∧ win1_3.index t = ![t.val, 0, 0]
    ∧ win1_4.index t = ![t.val, 0, 0] :=
  (by decide +kernel : ∀ t : Fin grid1.N, _)

/-- The projected rows of one block, transposed. -/
theorem pay1_at1 (x : FVec Ideal S256x1024 .f32) (g : FVec Ideal S1x1024 .f32) (w : FVec Ideal S1024x512 .bf16) (r : Fin 256) (j : Fin 512) :
    k1_pay1 (F := Ideal) x g w (ix2 r j) = proj (fun k => x (ix2 r k)) (fun k => g (ix2 0 k)) (fun k => w (ix2 k j)) := by
  pointwise [k1_pay1]
  rfl

/-- A block transposed. -/
theorem pay2_at1 (y : FVec Ideal S256x256 .f32) (j r : Fin 256) : k1_pay2 (F := Ideal) y (ix3 0 j r) = y (ix2 r j) := by
  pointwise [k1_pay2]

/-- A block transposed. -/
theorem pay3_at1 (y : FVec Ideal S256x256 .f32) (j r : Fin 256) : k1_pay3 (F := Ideal) y (ix3 0 j r) = y (ix2 r j) := by
  pointwise [k1_pay3]

/-- The array a call leaves in its first output: row `j` of block `b` is column `j` of the projected rows of that block. -/
def outLo (X : FVec Ideal S512x1024 .f32) (G : FVec Ideal S1x1024 .f32) (W : FVec Ideal S1024x512 .bf16) : FVec Ideal S2x256x256 .f32 :=
  fun i => proj (fun k => X (ix2 ⟨(i 0).val * 256 + (i 2).val, by have := (i 0).isLt; have := (i 2).isLt; simp at *; omega⟩ k)) (fun k => G (ix2 0 k)) (fun k => W (ix2 k ⟨(i 1).val, by have := (i 1).isLt; simp at *; omega⟩))

/-- The array a call leaves in its second output. -/
def outHi (X : FVec Ideal S512x1024 .f32) (G : FVec Ideal S1x1024 .f32) (W : FVec Ideal S1024x512 .bf16) : FVec Ideal S2x256x256 .f32 :=
  fun i => proj (fun k => X (ix2 ⟨(i 0).val * 256 + (i 2).val, by have := (i 0).isLt; have := (i 2).isLt; simp at *; omega⟩ k)) (fun k => G (ix2 0 k)) (fun k => W (ix2 k ⟨256 + (i 1).val, by have := (i 1).isLt; simp at *; omega⟩))

/-- The first 256 columns, read in place. -/
theorem left_at (z : FVec Ideal S256x512 .f32) (r j : Fin 256) :
    z ((Rect.unit (s := S256x512) ![0, 0] ![256, 256] inb_S256x512_S256x256_0_0).idx (ix2 r j : S256x256.Idx)) = z (ix2 r ⟨j.val, by omega⟩) := by
  show View.ld (Val := Elt Ideal) (e' := .f32) z (Rect.unit (s := S256x512) ![0, 0] ![256, 256] inb_S256x512_S256x256_0_0) (ix2 r j : S256x256.Idx) = _
  pointwise

/-- The last 256 columns, read in place. -/
theorem right_at (z : FVec Ideal S256x512 .f32) (r j : Fin 256) :
    z ((Rect.unit (s := S256x512) ![0, 256] ![256, 256] inb_S256x512_S256x256_0_256).idx (ix2 r j : S256x256.Idx)) = z (ix2 r ⟨256 + j.val, by omega⟩) := by
  show View.ld (Val := Elt Ideal) (e' := .f32) z (Rect.unit (s := S256x512) ![0, 256] ![256, 256] inb_S256x512_S256x256_0_256) (ix2 r j : S256x256.Idx) = _
  pointwise

/-- One entry of `outLo`. -/
theorem outLo_at (X : FVec Ideal S512x1024 .f32) (G : FVec Ideal S1x1024 .f32) (W : FVec Ideal S1024x512 .bf16) (b : Fin 2) (j r : Fin 256) :
    outLo X G W (ix3 b j r) = proj (fun k => X (ix2 ⟨b.val * 256 + r.val, by omega⟩ k)) (fun k => G (ix2 0 k)) (fun k => W (ix2 k ⟨j.val, by omega⟩)) := rfl

/-- One entry of `outHi`. -/
theorem outHi_at (X : FVec Ideal S512x1024 .f32) (G : FVec Ideal S1x1024 .f32) (W : FVec Ideal S1024x512 .bf16) (b : Fin 2) (j r : Fin 256) :
    outHi X G W (ix3 b j r) = proj (fun k => X (ix2 ⟨b.val * 256 + r.val, by omega⟩ k)) (fun k => G (ix2 0 k)) (fun k => W (ix2 k ⟨256 + j.val, by omega⟩)) := rfl

/-- The projection of equal rows, gains and columns. -/
theorem proj_congr {x x' g g' w w' : Fin 1024 → EReal} (hx : ∀ k, x k = x' k) (hg : ∀ k, g k = g' k) (hw : ∀ k, w k = w' k) :
    proj x g w = proj x' g' w' := by
  obtain rfl : x = x' := funext hx
  obtain rfl : g = g' := funext hg
  obtain rfl : w = w' := funext hw
  rfl

variable (V : (c : Dev nD) → (b : Ref sig .tc) → Buf (Elt Ideal) ((c : Thread nD τ).loc b))

/-- What call 0 leaves in its output 0. -/
theorem lo0 (c : Dev nD) : (dat0 V c).arrAt 3 cfg0.N = outLo (V c main_v5) (V c main_v6) (V c main_v4) := by
  refine (dat0 V c).arrAt_eq_of_covers 3 _ (by decide +kernel) fun t hf y => ?_
  blk_simp; rw [after0_3]; unfold outsAt0; frame_out
  rw [View.readCov_eq_canon', View.canon_unit_zero (by decide)]
  idx_vars y
  have ht : t.val < 2 := lt_of_lt_of_eq t.isLt N_0
  have he : ((View.whole main_v7_0).slice (win0_3.rect t)).emb (ix3 y0 y1 y2) = (ix3 ⟨t.val, ht⟩ y1 y2 : S2x256x256.Idx) := by blk_ext [idx0 t]
  rw [he]
  obtain rfl : y0 = 0 := Subsingleton.elim _ _
  refine (pay2_at0 _ y1 y2).trans ?_
  refine (left_at _ y2 y1).trans ((pay1_at0 _ _ _ _ _).trans (proj_congr (fun k => ?_) (fun k => ?_) (fun k => ?_)))
  all_goals blk_point [iblk0, idx0 t]

/-- What call 0 leaves in its output 1. -/
theorem hi0 (c : Dev nD) : (dat0 V c).arrAt 4 cfg0.N = outHi (V c main_v5) (V c main_v6) (V c main_v4) := by
  refine (dat0 V c).arrAt_eq_of_covers 4 _ (by decide +kernel) fun t hf y => ?_
  blk_simp; rw [after0_4]; unfold outsAt0; frame_out
  rw [View.readCov_eq_canon', View.canon_unit_zero (by decide)]
  idx_vars y
  have ht : t.val < 2 := lt_of_lt_of_eq t.isLt N_0
  have he : ((View.whole main_v7_1).slice (win0_4.rect t)).emb (ix3 y0 y1 y2) = (ix3 ⟨t.val, ht⟩ y1 y2 : S2x256x256.Idx) := by blk_ext [idx0 t]
  rw [he]
  obtain rfl : y0 = 0 := Subsingleton.elim _ _
  refine (pay3_at0 _ y1 y2).trans ?_
  refine (right_at _ y2 y1).trans ((pay1_at0 _ _ _ _ _).trans (proj_congr (fun k => ?_) (fun k => ?_) (fun k => ?_)))
  all_goals blk_point [iblk0, idx0 t]

/-- What call 1 leaves in its output 0. -/
theorem lo1 (c : Dev nD) : (dat1 V c).arrAt 3 cfg1.N = outLo (V c main_v13) (V c main_v14) (V c main_v12) := by
  refine (dat1 V c).arrAt_eq_of_covers 3 _ (by decide +kernel) fun t hf y => ?_
  blk_simp; rw [after1_3]; unfold outsAt1; frame_out
  rw [View.readCov_eq_canon', View.canon_unit_zero (by decide)]
  idx_vars y
  have ht : t.val < 2 := lt_of_lt_of_eq t.isLt N_1
  have he : ((View.whole main_v15_0).slice (win1_3.rect t)).emb (ix3 y0 y1 y2) = (ix3 ⟨t.val, ht⟩ y1 y2 : S2x256x256.Idx) := by blk_ext [idx1 t]
  rw [he]
  obtain rfl : y0 = 0 := Subsingleton.elim _ _
  refine (pay2_at1 _ y1 y2).trans ?_
  refine (left_at _ y2 y1).trans ((pay1_at1 _ _ _ _ _).trans (proj_congr (fun k => ?_) (fun k => ?_) (fun k => ?_)))
  all_goals blk_point [iblk1, idx1 t]

/-- What call 1 leaves in its output 1. -/
theorem hi1 (c : Dev nD) : (dat1 V c).arrAt 4 cfg1.N = outHi (V c main_v13) (V c main_v14) (V c main_v12) := by
  refine (dat1 V c).arrAt_eq_of_covers 4 _ (by decide +kernel) fun t hf y => ?_
  blk_simp; rw [after1_4]; unfold outsAt1; frame_out
  rw [View.readCov_eq_canon', View.canon_unit_zero (by decide)]
  idx_vars y
  have ht : t.val < 2 := lt_of_lt_of_eq t.isLt N_1
  have he : ((View.whole main_v15_1).slice (win1_4.rect t)).emb (ix3 y0 y1 y2) = (ix3 ⟨t.val, ht⟩ y1 y2 : S2x256x256.Idx) := by blk_ext [idx1 t]
  rw [he]
  obtain rfl : y0 = 0 := Subsingleton.elim _ _
  refine (pay3_at1 _ y1 y2).trans ?_
  refine (right_at _ y2 y1).trans ((pay1_at1 _ _ _ _ _).trans (proj_congr (fun k => ?_) (fun k => ?_) (fun k => ?_)))
  all_goals blk_point [iblk1, idx1 t]

/-- The two layers' arrays, brought to the order the caller reads. -/
def ordered (y z : FVec Ideal S2x256x256 .f32) : FVec Ideal S2x2x256x4x64 .f32 :=
  transpose S2x2x256x4x64 [0, 1, 4, 2, 3] (shapeCast S2x2x4x64x256 (concatenate S2x2x256x256 0 [⟨S1x2x256x256, broadcastInDim S1x2x256x256 ![1, 2, 3] bcast_S2x256x256_S1x2x256x256_1_2_3 y⟩, ⟨S1x2x256x256, broadcastInDim S1x2x256x256 ![1, 2, 3] bcast_S2x256x256_S1x2x256x256_1_2_3 z⟩] concatenates_S1x2x256x256_S1x2x256x256_S2x2x256x256_d0) shapeCasts_S2x2x256x256_S2x2x4x64x256) transposes_S2x2x4x64x256_S2x2x256x4x64_0_1_4_2_3

/-- One entry of `ordered`. -/
theorem ordered_at (y z : FVec Ideal S2x256x256 .f32) (l b : Fin 2) (r : Fin 256) (h : Fin 4) (d : Fin 64) :
    ordered y z (ix5 l b r h d) = if l.val < 1 then y (ix3 b ⟨h * 64 + d, by omega⟩ r) else z (ix3 b ⟨h * 64 + d, by omega⟩ r) := by
  pointwise [ordered]
  split <;> rfl

variable (m : (ℓ : Loc nD τ sig) → Buf (Elt Ideal) ℓ) (ρ : Dev nD → PrngReg)

/-- The last host operations, over what the two calls left. -/
theorem tail_keys (W : Valuation τ sig (Elt Ideal)) : StableHlo.after hostOps2 W (Proc.devRef .tc main_v20) = ordered (W (Proc.devRef .tc main_v7_0)) (W (Proc.devRef .tc main_v15_0)) := by
  after_results
  rfl

/-- The same for the values. -/
theorem tail_vals (W : Valuation τ sig (Elt Ideal)) : StableHlo.after hostOps2 W (Proc.devRef .tc main_v25) = ordered (W (Proc.devRef .tc main_v7_1)) (W (Proc.devRef .tc main_v15_1)) := by
  after_results
  rfl

/-- What the first call finds in its operands. -/
theorem head0 (W : Valuation τ sig (Elt Ideal)) :
    StableHlo.after hostOps0 W (Proc.devRef .tc main_v5) = shapeCast S512x1024 (W (Proc.devRef .tc main_arg0) : FVec Ideal S2x256x1024 .f32) shapeCasts_S2x256x1024_S512x1024
    ∧ StableHlo.after hostOps0 W (Proc.devRef .tc main_v6) = shapeCast S1x1024 (shapeCast S1024 (extractStridedSlice S1x1024 ![0, 0] (W (Proc.devRef .tc main_arg1) : FVec Ideal S2x1024 .f32) slices_S2x1024_S1x1024_0_0) shapeCasts_S1x1024_S1024) shapeCasts_S1024_S1x1024
    ∧ StableHlo.after hostOps0 W (Proc.devRef .tc main_v4) = (truncf .bf16 (shapeCast S1024x512 (extractStridedSlice S1x1024x512 ![0, 0, 0] (W (Proc.devRef .tc main_arg2) : FVec Ideal S2x1024x512 .f32) slices_S2x1024x512_S1x1024x512_0_0_0) shapeCasts_S1x1024x512_S1024x512) bitsLt_bf16_f32 : FVec Ideal S1024x512 .bf16) := by
  refine ⟨?_, ?_, ?_⟩ <;> after_results <;> rfl

/-- What the second call finds in its operands. -/
theorem head1 (W : Valuation τ sig (Elt Ideal)) :
    StableHlo.after hostOps1 W (Proc.devRef .tc main_v13) = shapeCast S512x1024 (W (Proc.devRef .tc main_arg0) : FVec Ideal S2x256x1024 .f32) shapeCasts_S2x256x1024_S512x1024
    ∧ StableHlo.after hostOps1 W (Proc.devRef .tc main_v14) = shapeCast S1x1024 (shapeCast S1024 (extractStridedSlice S1x1024 ![1, 0] (W (Proc.devRef .tc main_arg1) : FVec Ideal S2x1024 .f32) slices_S2x1024_S1x1024_1_0) shapeCasts_S1x1024_S1024) shapeCasts_S1024_S1x1024
    ∧ StableHlo.after hostOps1 W (Proc.devRef .tc main_v12) = (truncf .bf16 (shapeCast S1024x512 (extractStridedSlice S1x1024x512 ![1, 0, 0] (W (Proc.devRef .tc main_arg2) : FVec Ideal S2x1024x512 .f32) slices_S2x1024x512_S1x1024x512_1_0_0) shapeCasts_S1x1024x512_S1024x512) bitsLt_bf16_f32 : FVec Ideal S1024x512 .bf16) := by
  refine ⟨?_, ?_, ?_⟩ <;> after_results <;> rfl

/-- One entry of the memory, as call 0 finds it. -/
theorem in0_x (c : Dev nD) (b : Fin 2) (r : Fin 256) (k : Fin 1024) :
    V1 m ρ c main_v5 (ix2 ⟨b.val * 256 + r.val, by omega⟩ k : S512x1024.Idx) = m ((c : Thread nD τ).loc main_arg0) (ix3 b r k : S2x256x1024.Idx) := by
  refine (congrFun (head0 (W0 m ρ c)).1 _).trans ?_
  rw [W0_args m ρ c main_arg0 (by decide)]
  pointwise

/-- One gain, as call 0 finds it. -/
theorem in0_g (c : Dev nD) (k : Fin 1024) :
    V1 m ρ c main_v6 (ix2 0 k : S1x1024.Idx) = m ((c : Thread nD τ).loc main_arg1) (ix2 0 k : S2x1024.Idx) := by
  refine (congrFun (head0 (W0 m ρ c)).2.1 _).trans ?_
  rw [W0_args m ρ c main_arg1 (by decide)]
  pointwise

/-- One weight, as call 0 finds it. -/
theorem in0_w (c : Dev nD) (k : Fin 1024) (j : Fin 512) :
    V1 m ρ c main_v4 (ix2 k j : S1024x512.Idx) = m ((c : Thread nD τ).loc main_arg2) (ix3 0 k j : S2x1024x512.Idx) := by
  refine (congrFun (head0 (W0 m ρ c)).2.2 _).trans ?_
  rw [W0_args m ρ c main_arg2 (by decide)]
  pointwise

/-- One entry of the memory, as call 1 finds it. -/
theorem in1_x (c : Dev nD) (b : Fin 2) (r : Fin 256) (k : Fin 1024) :
    V3 m ρ c main_v13 (ix2 ⟨b.val * 256 + r.val, by omega⟩ k : S512x1024.Idx) = m ((c : Thread nD τ).loc main_arg0) (ix3 b r k : S2x256x1024.Idx) := by
  refine (congrFun (head1 (W2 m ρ c)).1 _).trans ?_
  rw [W2_args m ρ c main_arg0 (by decide)]
  pointwise

/-- One gain, as call 1 finds it. -/
theorem in1_g (c : Dev nD) (k : Fin 1024) :
    V3 m ρ c main_v14 (ix2 0 k : S1x1024.Idx) = m ((c : Thread nD τ).loc main_arg1) (ix2 1 k : S2x1024.Idx) := by
  refine (congrFun (head1 (W2 m ρ c)).2.1 _).trans ?_
  rw [W2_args m ρ c main_arg1 (by decide)]
  pointwise

/-- One weight, as call 1 finds it. -/
theorem in1_w (c : Dev nD) (k : Fin 1024) (j : Fin 512) :
    V3 m ρ c main_v12 (ix2 k j : S1024x512.Idx) = m ((c : Thread nD τ).loc main_arg2) (ix3 1 k j : S2x1024x512.Idx) := by
  refine (congrFun (head1 (W2 m ρ c)).2.2 _).trans ?_
  rw [W2_args m ρ c main_arg2 (by decide)]
  pointwise

/-- The keys at the end of the program, over what the two calls left. -/
theorem end_keys (c : Dev nD) : W5 m ρ c (Proc.devRef .tc main_v20) = ordered (outLo (V1 m ρ c main_v5) (V1 m ρ c main_v6) (V1 m ρ c main_v4)) (outLo (V3 m ρ c main_v13) (V3 m ρ c main_v14) (V3 m ρ c main_v12)) := by
  refine (tail_keys (W4 m ρ c)).trans (congrArg₂ ordered ?_ ?_)
  · exact (W4_of m ρ c main_v7_0 (by decide)).trans ((W3_of m ρ c main_v7_0 (by decide)).trans ((W2_arr m ρ c 3).trans (lo0 _ c)))
  · exact (W4_arr m ρ c 3).trans (lo1 _ c)

/-- The values at the end of the program, over what the two calls left. -/
theorem end_vals (c : Dev nD) : W5 m ρ c (Proc.devRef .tc main_v25) = ordered (outHi (V1 m ρ c main_v5) (V1 m ρ c main_v6) (V1 m ρ c main_v4)) (outHi (V3 m ρ c main_v13) (V3 m ρ c main_v14) (V3 m ρ c main_v12)) := by
  refine (tail_vals (W4 m ρ c)).trans (congrArg₂ ordered ?_ ?_)
  · exact (W4_of m ρ c main_v7_1 (by decide)).trans ((W3_of m ρ c main_v7_1 (by decide)).trans ((W2_arr m ρ c 4).trans (hi0 _ c)))
  · exact (W4_arr m ρ c 4).trans (hi1 _ c)

open Cert.Reference5Ideal.MemKv (keys vals keys_at vals_at)

/-- The keys the program ends with are the reference's. -/
theorem final_keys (c : Dev nD) : W5 m ρ c (Proc.devRef .tc main_v20) = keys (m ((c : Thread nD τ).loc main_arg0)) (m ((c : Thread nD τ).loc main_arg1)) (m ((c : Thread nD τ).loc main_arg2)) := by
  rw [end_keys]
  funext i
  idx_vars i
  rw [ordered_at, keys_at, outLo_at, outLo_at]
  split
  · exact proj_congr (in0_x m ρ c i1 i2) (in0_g m ρ c) (fun k => in0_w m ρ c k _)
  · exact proj_congr (in1_x m ρ c i1 i2) (in1_g m ρ c) (fun k => in1_w m ρ c k _)

/-- The values the program ends with are the reference's. -/
theorem final_vals (c : Dev nD) : W5 m ρ c (Proc.devRef .tc main_v25) = vals (m ((c : Thread nD τ).loc main_arg0)) (m ((c : Thread nD τ).loc main_arg1)) (m ((c : Thread nD τ).loc main_arg2)) := by
  rw [end_vals]
  funext i
  idx_vars i
  rw [ordered_at, vals_at, outHi_at, outHi_at]
  split
  · exact proj_congr (in0_x m ρ c i1 i2) (in0_g m ρ c) (fun k => in0_w m ρ c k _)
  · exact proj_congr (in1_x m ρ c i1 i2) (in1_g m ρ c) (fun k => in1_w m ρ c k _)

/-- What the program ends with: the reference's keys and values, the arguments as launched. -/
theorem ends_with : θ_run defs (onTc (τ := τ) main) ⟨m, fun _ => 0, ρ⟩ (fun r => ∀ c : Dev nD,
      r.2.mem ((c.tc : Thread nD τ).loc main_v20) = keys (m ((c : Thread nD τ).loc main_arg0)) (m ((c : Thread nD τ).loc main_arg1)) (m ((c : Thread nD τ).loc main_arg2))
      ∧ r.2.mem ((c.tc : Thread nD τ).loc main_v25) = vals (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v20 (by decide))).trans (final_keys m ρ c), (h c _ (mem_uc main_v25 (by decide))).trans (final_vals m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (ends m ρ)

end Cert.Kernel5Ideal.MemKv

end
-- ==== Proof.KvSampleRun.lean ====
module

public import proofs.«01_k».proof.Proof.Gen.Kernel6Ideal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

namespace Cert.Kernel6Ideal.Gen

variable {F : FTy → Type} [FloatOps F]
variable (m : (ℓ : Loc nD τ sig) → Buf (Elt F) ℓ) (ρ : Dev nD → PrngReg)

set_option backward.isDefEq.respectTransparency.types false in
/-- At the end of the program every buffer of the device's memory holds what the last stretch of host operations left. -/
theorem ends : θ_run defs (onTc (τ := τ) (main (F := F))) ⟨m, fun _ => 0, ρ⟩
    (fun r => ∀ c : Dev nD, ∀ b ∈ Pipeline.ucRefs τ sig, r.2.mem (((c : Thread nD τ)).1, b) = W11 m ρ c b) := by
  refine Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => ?_⟩)
    (hinit := ?_)
    (QY := fun c s => ∀ b ∈ Pipeline.ucRefs τ sig, s.mem (((c : Thread nD τ)).1, b) = W11 m ρ c b)
    (hfin := fun c s' => ?_)
    (hQ := fun s h _ => h)
  · iintro Hu; imodintro
    isplitl [Hu]
    · iapply (show (ownU (initOf (Pipeline.cells cfgs cellOf_inj) (Pipeline.launchToks cfgs cellOf_inj)) : sProp (MT nD τ sig Unit (Elt F) ℕ (UR sig nD τ) ℕ))
          ⊢ BI.own (emb₁ (initOf (Pipeline.cells cfgs cellOf_inj) (Pipeline.launchToks cfgs cellOf_inj))) from .rfl)
      iexact Hu
    iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
    iempintro
  · dsimp only [Pipeline.Seg.post, hseg, Pipeline.HostSeg.ofOps]
    iintro ⟨Hh, Hp, HO⟩
    isplitl [Hh Hp]
    · isplitl [Hh]
      · iexact Hh
      · iexact Hp
    · iexact HO
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]
    · iexact Hh
    isplitl [Hp]
    · iexists _; iexact Hp
    · iexists ∅; iexact HO
  · iintro ⟨⟨Hh, -⟩, HSI⟩
    unfold StableHlo.held
    imodintro
    iapply (pointsTo_read_all (Pipeline.ucRefs τ sig) (fun b => (((c : Thread nD τ)).1, b)) (W11 m ρ c) s')
    isplitl [Hh] <;> iassumption

end Cert.Kernel6Ideal.Gen

end
-- ==== Proof.Rope.lean ====
module

public import Idealize.ShloMosaic.Lib.Pipeline.ValueKit

@[expose] public section

set_option maxRecDepth 16384

noncomputable section

open Idealize.ShloMosaic

/-! The turn of a head's first 16 columns by its position, over the extended reals. -/

namespace Cert.Rope

/-- The frequency of each of the 8 pairs of columns. -/
def freq (j : Fin 8) : EReal :=
  Ideal.pow (Ideal.ofBits .f32 0x48F42400#32) (Ideal.div (-FloatOps.sitofp (F := Ideal) .f32 (BitVec.ofNat 32 j.val) * Ideal.ofBits .f32 0x40000000#32) (Ideal.ofBits .f32 0x41800000#32))

/-- The angle at a position. -/
def angle (p : BitVec 32) (j : Fin 8) : EReal := FloatOps.sitofp (F := Ideal) .f32 p * freq j

/-- A head with its first 16 columns turned: column `e` of the first 8 with column `8 + e`. -/
def turn (a : Fin 8 → EReal) (k : Fin 64 → EReal) (e : Fin 64) : EReal :=
  if h : e.val < 8 then k e * Ideal.cos (a ⟨e.val, h⟩) - k ⟨8 + e.val, by omega⟩ * Ideal.sin (a ⟨e.val, h⟩)
  else if h' : e.val - 8 < 8 then k e * Ideal.cos (a ⟨e.val - 8, h'⟩) + k ⟨e.val - 8, by omega⟩ * Ideal.sin (a ⟨e.val - 8, h'⟩)
  else k e

/-- The turn computed as the column times a cosine, plus the column 8 above times one table, plus the column 8 below times another,
    the tables 0 where the column is not to be mixed in. -/
theorem turn_of_tables (a : Fin 8 → EReal) (k : Fin 64 → EReal) (e : Fin 64) (y yu yd C U D : EReal) (hy : y = k e)
    (hC : C = if h : e.val < 16 then Ideal.cos (a ⟨e.val % 8, by omega⟩) else 1)
    (hU : U = if h : e.val < 8 then 0 - Ideal.sin (a ⟨e.val % 8, by omega⟩) else 0)
    (hD : D = if h : 8 ≤ e.val ∧ e.val < 16 then Ideal.sin (a ⟨e.val % 8, by omega⟩) else 0)
    (hu : ∀ h : e.val < 8, yu = k ⟨8 + e.val, by omega⟩) (hd : ∀ h : 8 ≤ e.val ∧ e.val < 16, yd = k ⟨e.val - 8, by omega⟩) :
    y * C + yu * U + yd * D = turn a k e := by
  subst hy hC hU hD
  unfold turn
  by_cases h8 : e.val < 8
  · have hm : e.val % 8 = e.val := Nat.mod_eq_of_lt h8
    simp only [hm, dif_pos h8, dif_pos (show e.val < 16 by omega), dif_neg (show ¬ (8 ≤ e.val ∧ e.val < 16) by omega), hu h8, mul_zero, add_zero, zero_sub, mul_neg]
    rfl
  · by_cases h16 : e.val < 16
    · have hm : e.val % 8 = e.val - 8 := by omega
      have hq : e.val - 8 < 8 := by omega
      simp only [hm, dif_neg h8, dif_pos h16, dif_pos hq, dif_pos (show 8 ≤ e.val ∧ e.val < 16 by omega), hd (by omega), mul_zero, add_zero]
    · have hq : ¬ e.val - 8 < 8 := by omega
      simp only [dif_neg h8, dif_neg h16, dif_neg hq, dif_neg (show ¬ (8 ≤ e.val ∧ e.val < 16) by omega), mul_zero, add_zero, mul_one]

end Cert.Rope

end
-- ==== Proof.KvSampleRef.lean ====
module

public import proofs.«01_k».proof.Proof.Gen.Reference6Ideal
public import proofs.«01_k».proof.Proof.Rows
public import proofs.«01_k».proof.Proof.Rope
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference6Ideal.Kv

open Cert.Reference6Ideal Cert.Reference6Ideal.Gen
open Cert.Rows (normed proj)
open Cert.Rope (freq angle turn turn_of_tables)

/-- Every row over its root mean square, times a gain, times a weight matrix. -/
def projRows (x : FVec Ideal S32x4x1024 .f32) (g : FVec Ideal S1024 .f32) (w : FVec Ideal S1024x512 .f32) : FVec Ideal S32x4x512 .f32 :=
  Host.dotGeneral dot_S32x4x1024_S1024x512_S32x4x512_2_0_01_1_n_n none
    (mulf (mulf x (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf x x) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32))))))
      (broadcastInDim S32x4x1024 ![0, 1, 2] bcast_S1x1x1024_S32x4x1024_0_1_2 (broadcastInDim S1x1x1024 ![2] bcast_S1024_S1x1x1024_2 g))) w

/-- One entry of `projRows`. -/
theorem projRows_at (x : FVec Ideal S32x4x1024 .f32) (g : FVec Ideal S1024 .f32) (w : FVec Ideal S1024x512 .f32) (b : Fin 32) (r : Fin 4) (j : Fin 512) :
    projRows x g w (ix3 b r j) = proj (fun k => x (ix3 b r k)) (fun k => g (ix1 k)) (fun k => w (ix2 k j)) := by
  pointwise [projRows]
  rfl

/-- The angle of every position and frequency. -/
def angles : FVec Ideal S4x8 .f32 :=
  mulf (broadcastInDim S4x8 ![0, 1] bcast_S4x1_S4x8_0_1 (broadcastInDim S4x1 ![0] bcast_S4_S4x1_0 (sitofp .f32 (addi (broadcastInDim S4 ![] bcast_S_S4 (constantI S_ 32 8192#32)) (iotaInDim S4 32 0)))))
    (broadcastInDim S4x8 ![0, 1] bcast_S1x8_S4x8_0_1 (broadcastInDim S1x8 ![1] bcast_S8_S1x8_1 (Host.powf (broadcastInDim S8 ![] bcast_S_S8 (constant S_ .f32 0x48F42400#32)) (Host.divf (mulf (Host.negf (sitofp .f32 (iotaInDim S8 32 0))) (broadcastInDim S8 ![] bcast_S_S8 (constant S_ .f32 0x40000000#32))) (broadcastInDim S8 ![] bcast_S_S8 (constant S_ .f32 0x41800000#32))))))

/-- One entry of `angles`. -/
theorem angles_at (t : Fin 4) (j : Fin 8) : angles (ix2 t j) = angle (IntOp.addi 8192#32 (BitVec.ofNat 32 t.val)) j := by
  pointwise [angles]
  rfl

/-- A table over positions and frequencies, repeated over rows and heads. -/
def spread (a : FVec Ideal S4x8 .f32) : FVec Ideal S32x4x4x8 .f32 :=
  broadcastInDim S32x4x4x8 ![0, 1, 2, 3] bcast_S1x4x1x8_S32x4x4x8_0_1_2_3 (broadcastInDim S1x4x1x8 ![1, 2, 3] bcast_S4x1x8_S1x4x1x8_1_2_3 (broadcastInDim S4x1x8 ![0, 2] bcast_S4x8_S4x1x8_0_2 a))

/-- One entry of `spread`. -/
theorem spread_at (a : FVec Ideal S4x8 .f32) (b : Fin 32) (t h : Fin 4) (j : Fin 8) : spread a (ix4 b t h j) = a (ix2 t j) := by
  pointwise [spread]

/-- The first 16 columns of every head, turned by the angles `a`; the others unchanged. -/
def turned (a : FVec Ideal S4x8 .f32) (k : FVec Ideal S32x4x4x64 .f32) : FVec Ideal S32x4x4x64 .f32 :=
  concatenate S32x4x4x64 3 [
    ⟨S32x4x4x8, subf (mulf (extractStridedSlice S32x4x4x8 ![0, 0, 0, 0] k slices_S32x4x4x64_S32x4x4x8_0_0_0_0) (spread (Host.cos a))) (mulf (extractStridedSlice S32x4x4x8 ![0, 0, 0, 8] k slices_S32x4x4x64_S32x4x4x8_0_0_0_8) (spread (Host.sin a)))⟩,
    ⟨S32x4x4x8, addf (mulf (extractStridedSlice S32x4x4x8 ![0, 0, 0, 8] k slices_S32x4x4x64_S32x4x4x8_0_0_0_8) (spread (Host.cos a))) (mulf (extractStridedSlice S32x4x4x8 ![0, 0, 0, 0] k slices_S32x4x4x64_S32x4x4x8_0_0_0_0) (spread (Host.sin a)))⟩,
    ⟨S32x4x4x48, extractStridedSlice S32x4x4x48 ![0, 0, 0, 16] k slices_S32x4x4x64_S32x4x4x48_0_0_0_16⟩] concatenates_S32x4x4x8_S32x4x4x8_S32x4x4x48_S32x4x4x64_d3

/-- One entry of `turned`. -/
theorem turned_at (a : FVec Ideal S4x8 .f32) (k : FVec Ideal S32x4x4x64 .f32) (b : Fin 32) (t h : Fin 4) (e : Fin 64) :
    turned a k (ix4 b t h e) = turn (fun j => a (ix2 t j)) (fun d => k (ix4 b t h d)) e := by
  pointwise [turned, spread]
  unfold turn
  split
  · rfl
  · split
    · simp only [show 8 + (e.val - 8) = e.val by omega]
    · simp only [show 16 + (e.val - 8 - 8) = e.val by omega]

/-- The columns from `0`, by heads. -/
def headsLo (y : FVec Ideal S32x4x512 .f32) : FVec Ideal S32x4x4x64 .f32 :=
  shapeCast S32x4x4x64 (extractStridedSlice S32x4x256 ![0, 0, 0] y slices_S32x4x512_S32x4x256_0_0_0) shapeCasts_S32x4x256_S32x4x4x64
/-- The columns from `256`, by heads. -/
def headsHi (y : FVec Ideal S32x4x512 .f32) : FVec Ideal S32x4x4x64 .f32 :=
  shapeCast S32x4x4x64 (extractStridedSlice S32x4x256 ![0, 0, 256] y slices_S32x4x512_S32x4x256_0_0_256) shapeCasts_S32x4x256_S32x4x4x64
/-- One entry of `headsLo`. -/
theorem headsLo_at (y : FVec Ideal S32x4x512 .f32) (b : Fin 32) (t h : Fin 4) (e : Fin 64) : headsLo y (ix4 b t h e) = y (ix3 b t ⟨h * 64 + e, by omega⟩) := by
  pointwise [headsLo]
/-- One entry of `headsHi`. -/
theorem headsHi_at (y : FVec Ideal S32x4x512 .f32) (b : Fin 32) (t h : Fin 4) (e : Fin 64) : headsHi y (ix4 b t h e) = y (ix3 b t ⟨256 + (h * 64 + e), by omega⟩) := by
  pointwise [headsHi]

/-- The reference's keys. -/
def keys (x : FVec Ideal S32x4x1024 .f32) (g : FVec Ideal S1024 .f32) (w : FVec Ideal S1024x512 .f32) : FVec Ideal S32x4x4x64 .f32 :=
  turned angles (headsLo (projRows x g w))
/-- The reference's values. -/
def vals (x : FVec Ideal S32x4x1024 .f32) (g : FVec Ideal S1024 .f32) (w : FVec Ideal S1024x512 .f32) : FVec Ideal S32x4x4x64 .f32 :=
  headsHi (projRows x g w)
/-- One entry of the reference's keys. -/
theorem keys_at (x : FVec Ideal S32x4x1024 .f32) (g : FVec Ideal S1024 .f32) (w : FVec Ideal S1024x512 .f32) (b : Fin 32) (t h : Fin 4) (e : Fin 64) :
    keys x g w (ix4 b t h e) = turn (angle (IntOp.addi 8192#32 (BitVec.ofNat 32 t.val))) (fun d => proj (fun k => x (ix3 b t k)) (fun k => g (ix1 k)) (fun k => w (ix2 k ⟨h * 64 + d, by omega⟩))) e := by
  rw [keys, turned_at]
  simp only [angles_at, headsLo_at, projRows_at]
/-- One entry of the reference's values. -/
theorem vals_at (x : FVec Ideal S32x4x1024 .f32) (g : FVec Ideal S1024 .f32) (w : FVec Ideal S1024x512 .f32) (b : Fin 32) (t h : Fin 4) (e : Fin 64) :
    vals x g w (ix4 b t h e) = proj (fun k => x (ix3 b t k)) (fun k => g (ix1 k)) (fun k => w (ix2 k ⟨256 + (h * 64 + e), by omega⟩)) := by
  rw [vals, headsHi_at, projRows_at]

/-- A line of host operations, cut in two. -/
theorem after_split (n : ℕ) (L : List (HloOp τ sig (Elt Ideal))) (V : Valuation τ sig (Elt Ideal)) : StableHlo.after L V = StableHlo.after (L.drop n) (StableHlo.after (L.take n) V) := by
  induction n generalizing L V with
  | zero => rfl
  | succ n ih => cases L with
    | nil => rfl
    | cons op l => exact ih l _

/-- The three parts of every head, joined. -/
def joined (p q : FVec Ideal S32x4x4x8 .f32) (r : FVec Ideal S32x4x4x48 .f32) : FVec Ideal S32x4x4x64 .f32 :=
  concatenate S32x4x4x64 3 [⟨S32x4x4x8, p⟩, ⟨S32x4x4x8, q⟩, ⟨S32x4x4x48, r⟩] concatenates_S32x4x4x8_S32x4x4x8_S32x4x4x48_S32x4x4x64_d3

/-- The last two operations. -/
theorem tail_at (W : Valuation τ sig (Elt Ideal)) : StableHlo.after [StableHlo.nary ![main_v46, main_v53, main_v54] main_v55 (fun u => (concatenate S32x4x4x64 3 [⟨S32x4x4x8, (u 0 : (⟨S32x4x4x8, .f32⟩ : BufTy).Contents (Elt Ideal))⟩, ⟨S32x4x4x8, (u 1 : (⟨S32x4x4x8, .f32⟩ : BufTy).Contents (Elt Ideal))⟩, ⟨S32x4x4x48, (u 2 : (⟨S32x4x4x48, .f32⟩ : BufTy).Contents (Elt Ideal))⟩] concatenates_S32x4x4x8_S32x4x4x8_S32x4x4x48_S32x4x4x64_d3 : (⟨S32x4x4x64, .f32⟩ : BufTy).Contents (Elt Ideal))), StableHlo.reshape main_v15 main_v56 (rfl : (.f32 : EltTy) = .f32) shapeCasts_S32x4x256_S32x4x4x64] W (Proc.devRef .tc main_v55)
    = joined (W (Proc.devRef .tc main_v46)) (W (Proc.devRef .tc main_v53)) (W (Proc.devRef .tc main_v54)) := by
  after_results
  rfl

/-- Equal parts join to equal heads. -/
theorem joined_congr {p p' q q' : FVec Ideal S32x4x4x8 .f32} {r r' : FVec Ideal S32x4x4x48 .f32} (hp : p = p') (hq : q = q') (hr : r = r') : joined p q r = joined p' q' r' := by
  subst hp hq hr; rfl

set_option maxHeartbeats 2000000 in
/-- What the reference ends with: its keys and values, the arguments as launched. -/
theorem ends_with (m : (ℓ : Loc nD τ sig) → Buf (Elt Ideal) ℓ) (ρ : Dev nD → PrngReg) : θ_run (defs (F := Ideal)) (onTc (τ := τ) (main (F := Ideal))) ⟨m, fun _ => 0, ρ⟩ (fun r => ∀ c : Dev nD,
      r.2.mem ((c.tc : Thread nD τ).loc main_v55) = keys (m ((c.tc : Thread nD τ).loc main_arg0)) (m ((c.tc : Thread nD τ).loc main_arg1)) (m ((c.tc : Thread nD τ).loc main_arg2))
      ∧ r.2.mem ((c.tc : Thread nD τ).loc main_v56) = vals (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine θ_run_mono (Idealize.ShloMosaic.StableHlo.run_hlo _ _ (by hlo_seq) (by decide) (by decide) (by simp) (by intro _ h; (repeat (cases h with | head => rfl | tail _ h => ?_)); exact nomatch h) _ _) ?_
  intro r hr c
  refine ⟨(hr c main_v55).trans ?_, (hr c main_v56).trans ?_, (hr c main_arg0).trans ?_, (hr c main_arg1).trans ?_, (hr c main_arg2).trans ?_⟩
  · rw [after_split 67]
    simp only [List.drop_succ_cons, List.drop_zero, List.take_succ_cons, List.take_zero]
    refine (tail_at _).trans (joined_congr ?_ ?_ ?_)
    all_goals after_results_simp
    all_goals rfl
  all_goals after_results_simp
  all_goals rfl

end Cert.Reference6Ideal.Kv

end
-- ==== Proof.KvSampleCalls.lean ====
module

public import proofs.«01_k».proof.Proof.KvSampleRun
public import proofs.«01_k».proof.Proof.KvSampleRef
public import Idealize.ShloMosaic.Lib.Pipeline.ValueKit
public import Idealize.ShloMosaic.Lib.Routing.OpsSet
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Kv
open Cert.Kernel6Ideal Cert.Kernel6Ideal.Gen
open Cert.Rows (normed proj)
open Cert.Rope (freq angle turn turn_of_tables)

/-- The remainder the host computes. -/
def remOf (x : IVec S128 32) (y : IVec S_ 32) : IVec S128 32 :=
  let d : IVec S_ 32 := select (cmpi .eq y (constantI S_ 32 0#32)) (constantI S_ 32 1#32) y
  let r : IVec S128 32 := Host.remsi x (broadcastInDim S128 ![] bcast_S_S128 d)
  select (andi (cmpi .ne (cmpi .slt r (broadcastInDim S128 ![] bcast_S_S128 (constantI S_ 32 0#32))) (broadcastInDim S128 ![] bcast_S_S128 (cmpi .slt d (constantI S_ 32 0#32)))) (cmpi .ne r (broadcastInDim S128 ![] bcast_S_S128 (constantI S_ 32 0#32))))
    (addi r (broadcastInDim S128 ![] bcast_S_S128 d)) r

/-- The lane within its head. -/
theorem rem64_at (p : Fin 128) : remOf (iotaInDim S128 32 0) (constantI S_ 32 64#32) (ix1 p) = BitVec.ofNat 32 (p.val % 64) := by
  pointwise [remOf]
  revert p
  decide +kernel

variable (W : Valuation τ sig (Elt Ideal))

/-- The lane's pair. -/
theorem rem8_at (x : IVec S128 32) (p : Fin 128) (h : x (ix1 p) = BitVec.ofNat 32 (p.val % 64)) : remOf x (constantI S_ 32 8#32) (ix1 p) = BitVec.ofNat 32 (p.val % 8) := by
  pointwise [remOf]
  rw [h]
  clear h
  revert p
  decide +kernel

/-- The remainder by 64, after its stretch of host operations. -/
theorem s1 : StableHlo.after hostOps0_1 W (Proc.devRef .tc main_v11) = remOf (W (Proc.devRef .tc main_v10)) (W (Proc.devRef .tc main_c)) := by
  after_results
  simp only [StableHlo.TRef.ofBuf_toBuf, id]
  rfl

/-- The remainder by 8, after its stretch of host operations. -/
theorem s3 : StableHlo.after hostOps0_3 W (Proc.devRef .tc main_v14) = remOf (W (Proc.devRef .tc main_v11)) (W (Proc.devRef .tc main_c_3)) := by
  after_results
  simp only [StableHlo.TRef.ofBuf_toBuf, id]
  rfl

/-- The frequencies taken at the pairs, after their stretch of host operations. -/
theorem s4 : StableHlo.after hostOps0_4 W (Proc.devRef .tc main_v21) = Host.gather gather_S8_S128x1_S128_n_0_n_n_0_1_1 (W (Proc.devRef .tc main_v9) : FVec Ideal S8 .f32) (broadcastInDim S128x1 ![0] bcast_S128_S128x1_0 (select (cmpi .slt (W (Proc.devRef .tc main_v14) : IVec S128 32) (broadcastInDim S128 ![] bcast_S_S128 (constantI S_ 32 0#32))) (addi (W (Proc.devRef .tc main_v14) : IVec S128 32) (broadcastInDim S128 ![] bcast_S_S128 (constantI S_ 32 8#32))) (W (Proc.devRef .tc main_v14) : IVec S128 32) : IVec S128 32)) := by
  after_results

/-- The frequencies of the turned lanes, 0 elsewhere, after their stretch of host operations. -/
theorem s5 : StableHlo.after hostOps0_5 W (Proc.devRef .tc main_v22) = select (W (Proc.devRef .tc main_v13) : IVec S128 1) (W (Proc.devRef .tc main_v21) : FVec Ideal S128 .f32) (broadcastInDim S128 ![] bcast_S_S128 (W (Proc.devRef .tc main_cst_6) : FVec Ideal S_ .f32)) := by
  after_results
  simp only [StableHlo.TRef.ofBuf_toBuf, id]
  rfl

/-- The frequencies as a row, after their stretch of host operations. -/
theorem s6 : StableHlo.after hostOps0_6 W (Proc.devRef .tc main_v23) = shapeCast S1x128 (W (Proc.devRef .tc main_v22) : FVec Ideal S128 .f32) shapeCasts_S128_S1x128 := by
  after_results
  rfl

/-- Which lanes are turned, after its stretch of host operations. -/
theorem s2 : StableHlo.after hostOps0_2 W (Proc.devRef .tc main_v13) = cmpi .slt (W (Proc.devRef .tc main_v11) : IVec S128 32) (broadcastInDim S128 ![] bcast_S_S128 (constantI S_ 32 16#32)) := by
  after_results

/-- The lane of a column within its head. -/
theorem lanes_at (i : Fin 128) (j : Fin 128) : k0_pay4 (ix2 i j) = BitVec.ofNat 32 (j.val % 64) := by
  pointwise [k0_pay4]
  revert j
  decide +kernel

/-- The position of a row. -/
def pos (i : Fin 128) : BitVec 32 := IntOp.addi 8192#32 (BitVec.ofNat 32 (i.val % 4))

/-- The angle of a row and a lane. -/
theorem pos_at (t : grid0.Coords) (v : FVec Ideal S1x128 .f32) (i : Fin 128) (j : Fin 128) :
    k0_pay3 (F := Ideal) t v (ix2 i j) = FloatOps.sitofp (F := Ideal) .f32 (pos i) * v (ix2 0 j) := by
  pointwise [k0_pay3]
  refine congrArg (fun z => FloatOps.sitofp (F := Ideal) .f32 z * v (ix2 0 j)) ?_
  revert i
  decide +kernel

/-- The table of cosines. -/
theorem cos_at (t : grid0.Coords) (v : FVec Ideal S1x128 .f32) (i : Fin 128) (j : Fin 128) :
    k0_pay6 (F := Ideal) t v (ix2 i j) = if j.val % 64 < 16 then Ideal.cos (FloatOps.sitofp (F := Ideal) .f32 (pos i) * v (ix2 0 j)) else 1 := by
  pointwise [k0_pay6]
  rw [lanes_at, pos_at, show IntOp.cmpi .slt (BitVec.ofNat 32 (j.val % 64)) 16#32 = if j.val % 64 < 16 then 1#1 else 0#1 from by revert j; decide +kernel]
  split <;> rfl

/-- The table for the columns 8 above. -/
theorem up_at (t : grid0.Coords) (v : FVec Ideal S1x128 .f32) (i : Fin 128) (j : Fin 128) :
    k0_pay1 (F := Ideal) k0_pay7 (k0_pay8 t v) (ix2 i j) = if j.val % 64 < 8 then 0 - Ideal.sin (FloatOps.sitofp (F := Ideal) .f32 (pos i) * v (ix2 0 j)) else 0 := by
  pointwise [k0_pay1, k0_pay7, k0_pay8, k0_pay5]
  rw [lanes_at, pos_at, show IntOp.cmpi .slt (BitVec.ofNat 32 (j.val % 64)) 8#32 = if j.val % 64 < 8 then 1#1 else 0#1 from by revert j; decide +kernel]
  split <;> rfl

/-- The table for the columns 8 below. -/
theorem down_at (t : grid0.Coords) (v : FVec Ideal S1x128 .f32) (i : Fin 128) (j : Fin 128) :
    k0_pay2 (F := Ideal) k0_pay4 (k0_pay5 t v) (ix2 i j) = if 8 ≤ j.val % 64 ∧ j.val % 64 < 16 then Ideal.sin (FloatOps.sitofp (F := Ideal) .f32 (pos i) * v (ix2 0 j)) else 0 := by
  pointwise [k0_pay2, k0_pay5]
  rw [lanes_at, pos_at, show IntOp.andi (IntOp.cmpi .sge (BitVec.ofNat 32 (j.val % 64)) 8#32) (IntOp.cmpi .slt (BitVec.ofNat 32 (j.val % 64)) 16#32) = if 8 ≤ j.val % 64 ∧ j.val % 64 < 16 then 1#1 else 0#1 from by revert j; decide +kernel]
  split <;> rfl

/-- The keys' columns of one block, before the turn. -/
theorem rows_at (x : FVec Ideal S128x1024 .f32) (g : FVec Ideal S1x1024 .f32) (w : FVec Ideal S1024x256 .bf16) (r : Fin 128) (j : Fin 256) :
    k1_pay3 (F := Ideal) x g w (ix2 r j) = proj (fun k => x (ix2 r k)) (fun k => g (ix2 0 k)) (fun k => w (ix2 k j)) := by
  pointwise [k1_pay3, k1_pay2]
  rfl

/-- The values of one block. -/
theorem vals_at1 (x : FVec Ideal S128x1024 .f32) (g : FVec Ideal S1x1024 .f32) (w : FVec Ideal S1024x256 .bf16) (r : Fin 128) (j : Fin 256) :
    k1_pay4 (F := Ideal) x g w (ix2 r j) = proj (fun k => x (ix2 r k)) (fun k => g (ix2 0 k)) (fun k => w (ix2 k j)) := by
  pointwise [k1_pay4, k1_pay2]
  rfl

/-- A table repeated over the two halves of the columns. -/
theorem both_halves {α : Type} (f : Fin 128 → α) (j : Fin 256) : (if h : j.val < 128 then f ⟨j.val, h⟩ else f ⟨j.val - 128, by omega⟩) = f ⟨j.val % 128, by omega⟩ := by
  split
  · exact congrArg f (Fin.ext (by show j.val = j.val % 128; omega))
  · exact congrArg f (Fin.ext (by show j.val - 128 = j.val % 128; omega))

/-- The keys of one block. -/
theorem mix_at (x : FVec Ideal S128x1024 .f32) (g : FVec Ideal S1x1024 .f32) (w : FVec Ideal S1024x256 .bf16) (c u d : FVec Ideal S128x128 .f32) (r : Fin 128) (j : Fin 256) :
    k1_pay1 (F := Ideal) (k1_pay5 x g w c u) (k1_pay6 x g w d) (ix2 r j)
      = proj (fun k => x (ix2 r k)) (fun k => g (ix2 0 k)) (fun k => w (ix2 k j)) * c (ix2 r ⟨j.val % 128, by omega⟩)
        + proj (fun k => x (ix2 r k)) (fun k => g (ix2 0 k)) (fun k => w (ix2 k ⟨(j.val + 256 - 248) % 256, by omega⟩)) * u (ix2 r ⟨j.val % 128, by omega⟩)
        + proj (fun k => x (ix2 r k)) (fun k => g (ix2 0 k)) (fun k => w (ix2 k ⟨(j.val + 256 - 8) % 256, by omega⟩)) * d (ix2 r ⟨j.val % 128, by omega⟩) := by
  pointwise [k1_pay1, k1_pay5, k1_pay6]
  rw [rows_at, rows_at, rows_at, both_halves fun q => c (ix2 r q), both_halves fun q => u (ix2 r q), both_halves fun q => d (ix2 r q)]

/-- Where each window's block lies at each grid point of the second call. -/
theorem idx1 : ∀ t : Fin cfg1.N, win1_0.index t = ![0, 0] ∧ win1_1.index t = ![0, 0] ∧ win1_2.index t = ![0, 0] ∧ win1_3.index t = ![0, 0] ∧ win1_4.index t = ![0, 0]
    ∧ win1_5.index t = ![0, 0] ∧ win1_6.index t = ![0, 0] ∧ win1_7.index t = ![0, 0] :=
  (by decide +kernel : ∀ t : Fin grid1.N, _)

/-- Where each window's block lies at each grid point of the first call. -/
theorem idx0 : ∀ t : Fin cfg0.N, win0_0.index t = ![0, 0] ∧ win0_1.index t = ![0, 0] ∧ win0_2.index t = ![0, 0] ∧ win0_3.index t = ![0, 0] :=
  (by decide +kernel : ∀ t : Fin grid0.N, _)

/-- The array of cosines over rows and lanes. -/
def cosT (v : FVec Ideal S1x128 .f32) : FVec Ideal S128x128 .f32 := fun i =>
  if (i 1).val % 64 < 16 then Ideal.cos (FloatOps.sitofp (F := Ideal) .f32 (pos (i 0)) * v (ix2 0 (i 1))) else 1
/-- The array for the columns 8 above. -/
def upT (v : FVec Ideal S1x128 .f32) : FVec Ideal S128x128 .f32 := fun i =>
  if (i 1).val % 64 < 8 then 0 - Ideal.sin (FloatOps.sitofp (F := Ideal) .f32 (pos (i 0)) * v (ix2 0 (i 1))) else 0
/-- The array for the columns 8 below. -/
def downT (v : FVec Ideal S1x128 .f32) : FVec Ideal S128x128 .f32 := fun i =>
  if 8 ≤ (i 1).val % 64 ∧ (i 1).val % 64 < 16 then Ideal.sin (FloatOps.sitofp (F := Ideal) .f32 (pos (i 0)) * v (ix2 0 (i 1))) else 0

variable (V : (c : Dev nD) → (b : Ref sig .tc) → Buf (Elt Ideal) ((c : Thread nD τ).loc b))

/-- The block the first call reads is its whole array. -/
theorem blk0 (c : Dev nD) (t : Fin cfg0.N) (j : Fin 128) : iblk0 V c 0 t (ix2 0 j : S1x128.Idx) = V c main_v23 (ix2 0 j : S1x128.Idx) := by
  blk_point [iblk0, idx0 t]

/-- What the first call leaves in its output 1. -/
theorem cos0 (c : Dev nD) : (dat0 V c).arrAt 1 cfg0.N = cosT (V c main_v23) := by
  refine (dat0 V c).arrAt_eq_of_covers 1 _ (by decide +kernel) fun t hf y => ?_
  blk_simp; rw [after0_1]; frame_out
  idx_vars y
  have he : ((View.whole main_v24_0).slice (win0_1.rect t)).emb (ix2 y0 y1) = (ix2 y0 y1 : S128x128.Idx) := by blk_ext [idx0 t]
  rw [he]
  refine (cos_at _ _ y0 y1).trans ?_
  rw [blk0]
  rfl

/-- What the first call leaves in its output 2. -/
theorem up0 (c : Dev nD) : (dat0 V c).arrAt 2 cfg0.N = upT (V c main_v23) := by
  refine (dat0 V c).arrAt_eq_of_covers 2 _ (by decide +kernel) fun t hf y => ?_
  blk_simp; rw [after0_2]; frame_out
  idx_vars y
  have he : ((View.whole main_v24_1).slice (win0_2.rect t)).emb (ix2 y0 y1) = (ix2 y0 y1 : S128x128.Idx) := by blk_ext [idx0 t]
  rw [he]
  refine (up_at _ _ y0 y1).trans ?_
  rw [blk0]
  rfl

/-- What the first call leaves in its output 3. -/
theorem down0 (c : Dev nD) : (dat0 V c).arrAt 3 cfg0.N = downT (V c main_v23) := by
  refine (dat0 V c).arrAt_eq_of_covers 3 _ (by decide +kernel) fun t hf y => ?_
  blk_simp; rw [after0_3]; frame_out
  idx_vars y
  have he : ((View.whole main_v24_2).slice (win0_3.rect t)).emb (ix2 y0 y1) = (ix2 y0 y1 : S128x128.Idx) := by blk_ext [idx0 t]
  rw [he]
  refine (down_at _ _ y0 y1).trans ?_
  rw [blk0]
  rfl

/-- The array of keys the second call leaves. -/
def outK (X : FVec Ideal S128x1024 .f32) (G : FVec Ideal S1x1024 .f32) (W : FVec Ideal S1024x512 .bf16) (C U D : FVec Ideal S128x128 .f32) : FVec Ideal S128x256 .f32 := fun i =>
  proj (fun k => X (ix2 (i 0) k)) (fun k => G (ix2 0 k)) (fun k => W (ix2 k ⟨(i 1).val, by have := (i 1).isLt; simp at *; omega⟩)) * C (ix2 (i 0) ⟨(i 1).val % 128, by omega⟩)
  + proj (fun k => X (ix2 (i 0) k)) (fun k => G (ix2 0 k)) (fun k => W (ix2 k ⟨((i 1).val + 256 - 248) % 256, by omega⟩)) * U (ix2 (i 0) ⟨(i 1).val % 128, by omega⟩)
  + proj (fun k => X (ix2 (i 0) k)) (fun k => G (ix2 0 k)) (fun k => W (ix2 k ⟨((i 1).val + 256 - 8) % 256, by omega⟩)) * D (ix2 (i 0) ⟨(i 1).val % 128, by omega⟩)
/-- The array of values the second call leaves. -/
def outV (X : FVec Ideal S128x1024 .f32) (G : FVec Ideal S1x1024 .f32) (W : FVec Ideal S1024x512 .bf16) : FVec Ideal S128x256 .f32 := fun i =>
  proj (fun k => X (ix2 (i 0) k)) (fun k => G (ix2 0 k)) (fun k => W (ix2 k ⟨256 + (i 1).val, by have := (i 1).isLt; simp at *; omega⟩))

/-- The projection of equal rows, gains and columns. -/
theorem proj_congr {x x' g g' w w' : Fin 1024 → EReal} (hx : ∀ k, x k = x' k) (hg : ∀ k, g k = g' k) (hw : ∀ k, w k = w' k) :
    proj x g w = proj x' g' w' := by
  obtain rfl : x = x' := funext hx
  obtain rfl : g = g' := funext hg
  obtain rfl : w = w' := funext hw
  rfl

/-- The first 256 columns, read in place. -/
theorem left_at (z : FVec Ideal S1024x512 .bf16) (k : Fin 1024) (j : Fin 256) :
    View.ld (Val := Elt Ideal) (e' := .bf16) z r1_2 (ix2 k j : S1024x256.Idx) = z (ix2 k ⟨j.val, by omega⟩) := by
  pointwise

/-- The last 256 columns, read in place. -/
theorem right_at (z : FVec Ideal S1024x512 .bf16) (k : Fin 1024) (j : Fin 256) :
    View.ld (Val := Elt Ideal) (e' := .bf16) z r1_3 (ix2 k j : S1024x256.Idx) = z (ix2 k ⟨256 + j.val, by omega⟩) := by
  pointwise

/-- The weights' block is the whole array. -/
theorem blk1 (c : Dev nD) (t : Fin cfg1.N) (k : Fin 1024) (j : Fin 512) : iblk1 V c 2 t (ix2 k j : S1024x512.Idx) = V c main_v1 (ix2 k j : S1024x512.Idx) := by
  blk_point [iblk1, idx1 t]

/-- What the second call leaves in its output of keys. -/
theorem keys1 (c : Dev nD) : (dat1 V c).arrAt 6 cfg1.N = outK (V c main_v0) (V c main_v25) (V c main_v1) (V c main_v24_0) (V c main_v24_1) (V c main_v24_2) := by
  refine (dat1 V c).arrAt_eq_of_covers 6 _ (by decide +kernel) fun t hf y => ?_
  blk_simp; rw [after1_6]; frame_out
  idx_vars y
  have he : ((View.whole main_v26_0).slice (win1_6.rect t)).emb (ix2 y0 y1) = (ix2 y0 y1 : S128x256.Idx) := by blk_ext [idx1 t]
  rw [he]
  refine (mix_at _ _ _ _ _ _ y0 y1).trans ?_
  refine congrArg₂ (· + ·) (congrArg₂ (· + ·) (congrArg₂ (· * ·) (proj_congr (fun k => ?_) (fun k => ?_) (fun k => ?_)) ?_) (congrArg₂ (· * ·) (proj_congr (fun k => ?_) (fun k => ?_) (fun k => ?_)) ?_)) (congrArg₂ (· * ·) (proj_congr (fun k => ?_) (fun k => ?_) (fun k => ?_)) ?_)
  all_goals first | blk_point [iblk1, idx1 t] | exact (left_at _ _ _).trans (blk1 _ _ _ _ _) | exact (right_at _ _ _).trans (blk1 _ _ _ _ _)

/-- What the second call leaves in its output of values. -/
theorem vals1 (c : Dev nD) : (dat1 V c).arrAt 7 cfg1.N = outV (V c main_v0) (V c main_v25) (V c main_v1) := by
  refine (dat1 V c).arrAt_eq_of_covers 7 _ (by decide +kernel) fun t hf y => ?_
  blk_simp; rw [after1_7]; frame_out
  idx_vars y
  have he : ((View.whole main_v26_1).slice (win1_7.rect t)).emb (ix2 y0 y1) = (ix2 y0 y1 : S128x256.Idx) := by blk_ext [idx1 t]
  rw [he]
  refine (vals_at1 _ _ _ y0 y1).trans (proj_congr (fun k => ?_) (fun k => ?_) (fun k => ?_))
  all_goals first | blk_point [iblk1, idx1 t] | exact (left_at _ _ _).trans (blk1 _ _ _ _ _) | exact (right_at _ _ _).trans (blk1 _ _ _ _ _)

end Cert.Kernel6Ideal.Kv
end
-- ==== Proof.KvSample.lean ====
module

public import proofs.«01_k».proof.Proof.KvSampleCalls
public import Idealize.ShloMosaic.Lib.Pipeline.ValueKit
public import Idealize.ShloMosaic.Lib.Routing.OpsSet
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Kv
open Cert.Kernel6Ideal Cert.Kernel6Ideal.Gen
open Cert.Rows (normed proj)
open Cert.Rope (freq angle turn turn_of_tables)

variable (m : (ℓ : Loc nD τ sig) → Buf (Elt Ideal) ℓ) (ρ : Dev nD → PrngReg)

/-- The lanes' positions within their heads, as the host leaves them. -/
theorem w2_lane (c : Dev nD) (p : Fin 128) : W2 m ρ c (Proc.devRef .tc main_v11) (ix1 p : S128.Idx) = BitVec.ofNat 32 (p.val % 64) := by
  refine (congrFun (s1 (W1 m ρ c)) _).trans ?_
  have h1 : W1 m ρ c (Proc.devRef .tc main_v10) = (iotaInDim S128 32 0 : IVec S128 32) := by
    show StableHlo.after hostOps0 (W0 m ρ c) (Proc.devRef .tc main_v10) = _
    after_results
  have h2 : W1 m ρ c (Proc.devRef .tc main_c) = (constantI S_ 32 64#32 : IVec S_ 32) := by
    show StableHlo.after hostOps0 (W0 m ρ c) (Proc.devRef .tc main_c) = _
    after_results
  rw [h1, h2]
  exact rem64_at p

/-- Whether a lane is turned. -/
theorem w5_turned (c : Dev nD) (p : Fin 128) : W5 m ρ c (Proc.devRef .tc main_v13) (ix1 p : S128.Idx) = if p.val % 64 < 16 then 1#1 else 0#1 := by
  refine (congrFun ((W5_of m ρ c main_v13 (by decide)).trans ((W4_of m ρ c main_v13 (by decide)).trans (s2 (W2 m ρ c)))) _).trans ?_
  refine (congrArg (fun z => IntOp.cmpi .slt z 16#32) (w2_lane m ρ c p)).trans ?_
  revert p
  decide +kernel

/-- The lanes' pairs, as the host leaves them. -/
theorem w4_pair (c : Dev nD) (p : Fin 128) : W4 m ρ c (Proc.devRef .tc main_v14) (ix1 p : S128.Idx) = BitVec.ofNat 32 (p.val % 8) := by
  refine (congrFun (s3 (W3 m ρ c)) _).trans ?_
  have h2 : W3 m ρ c (Proc.devRef .tc main_c_3) = (constantI S_ 32 8#32 : IVec S_ 32) := by
    show StableHlo.after hostOps0_2 (W2 m ρ c) (Proc.devRef .tc main_c_3) = _
    after_results
  rw [h2]
  exact rem8_at _ p ((congrFun (W3_of m ρ c main_v11 (by decide)) _).trans (w2_lane m ρ c p))

/-- The frequencies, as the host leaves them. -/
theorem w4_freq (c : Dev nD) (j : Fin 8) : W4 m ρ c (Proc.devRef .tc main_v9) (ix1 j : S8.Idx) = freq j := by
  refine (congrFun ((W4_of m ρ c main_v9 (by decide)).trans ((W3_of m ρ c main_v9 (by decide)).trans (W2_of m ρ c main_v9 (by decide)))) _).trans ?_
  show StableHlo.after hostOps0 (W0 m ρ c) (Proc.devRef .tc main_v9) (ix1 j : S8.Idx) = _
  after_results
  pointwise
  rfl

/-- The frequency of every lane. -/
theorem lane_freq (c : Dev nD) (p : Fin 128) : V7 m ρ c main_v23 (ix2 0 p : S1x128.Idx) = if p.val % 64 < 16 then freq ⟨p.val % 8, by omega⟩ else 0 := by
  refine (congrFun (s6 (W6 m ρ c)) _).trans ?_
  have hr : shapeCast S1x128 (W6 m ρ c (Proc.devRef .tc main_v22) : FVec Ideal S128 .f32) shapeCasts_S128_S1x128 (ix2 0 p) = (W6 m ρ c (Proc.devRef .tc main_v22) : FVec Ideal S128 .f32) (ix1 p) := by
    pointwise
  refine hr.trans ((congrFun (s5 (W5 m ρ c)) _).trans ?_)
  have hc : W5 m ρ c (Proc.devRef .tc main_cst_6) = (constant S_ .f32 0x00000000#32 : FVec Ideal S_ .f32) := by
    show StableHlo.after hostOps0_4 (W4 m ρ c) (Proc.devRef .tc main_cst_6) = _
    after_results
  rw [hc]
  have hg : W5 m ρ c (Proc.devRef .tc main_v21) (ix1 p : S128.Idx) = freq ⟨p.val % 8, by omega⟩ := by
    refine (congrFun (s4 (W4 m ρ c)) _).trans ?_
    refine (Routing.gather_take1 _ rfl rfl rfl rfl _ _ p ⟨p.val % 8, by omega⟩ ?_ (by norm_num)).trans (w4_freq m ρ c _)
    pointwise
    rw [w4_pair]
    clear hr
    revert p
    decide +kernel
  pointwise
  rw [w5_turned, hg]
  split <;> rfl

/-- One entry of the rows, as the second call finds them. -/
theorem in1_x (c : Dev nD) (b : Fin 32) (t : Fin 4) (k : Fin 1024) : V9 m ρ c main_v0 (ix2 ⟨b.val * 4 + t.val, by omega⟩ k : S128x1024.Idx) = m ((c : Thread nD τ).loc main_arg0) (ix3 b t k : S32x4x1024.Idx) := by
  refine (congrFun ((W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans (W2_of m ρ c main_v0 (by decide))))))))) _).trans ?_
  show StableHlo.after hostOps0 (W0 m ρ c) (Proc.devRef .tc main_v0) (ix2 ⟨b.val * 4 + t.val, by omega⟩ k : S128x1024.Idx) = _
  have h : StableHlo.after hostOps0 (W0 m ρ c) (Proc.devRef .tc main_v0) = shapeCast S128x1024 (W0 m ρ c (Proc.devRef .tc main_arg0) : FVec Ideal S32x4x1024 .f32) shapeCasts_S32x4x1024_S128x1024 := by after_results; rfl
  rw [h, W0_args m ρ c main_arg0 (by decide)]
  pointwise

/-- One gain, as the second call finds it. -/
theorem in1_g (c : Dev nD) (k : Fin 1024) : V9 m ρ c main_v25 (ix2 0 k : S1x1024.Idx) = m ((c : Thread nD τ).loc main_arg1) (ix1 k : S1024.Idx) := by
  have h : V9 m ρ c main_v25 = shapeCast S1x1024 (W8 m ρ c (Proc.devRef .tc main_arg1) : FVec Ideal S1024 .f32) shapeCasts_S1024_S1x1024 := by
    show StableHlo.after hostOps1 (W8 m ρ c) (Proc.devRef .tc main_v25) = _
    after_results; rfl
  rw [h, W8_args m ρ c main_arg1 (by decide)]
  pointwise

/-- One weight, as the second call finds it. -/
theorem in1_w (c : Dev nD) (k : Fin 1024) (j : Fin 512) : V9 m ρ c main_v1 (ix2 k j : S1024x512.Idx) = m ((c : Thread nD τ).loc main_arg2) (ix2 k j : S1024x512.Idx) := by
  refine (congrFun ((W9_of m ρ c main_v1 (by decide)).trans ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans (W2_of m ρ c main_v1 (by decide))))))))) _).trans ?_
  have h : W1 m ρ c (Proc.devRef .tc main_v1) = (truncf .bf16 (W0 m ρ c (Proc.devRef .tc main_arg2) : FVec Ideal S1024x512 .f32) bitsLt_bf16_f32 : FVec Ideal S1024x512 .bf16) := by
    show StableHlo.after hostOps0 (W0 m ρ c) (Proc.devRef .tc main_v1) = _
    after_results
  rw [h, W0_args m ρ c main_arg2 (by decide)]
  pointwise

/-- The rows brought to heads. -/
theorem byHeads_at (y : FVec Ideal S128x256 .f32) (b : Fin 32) (t h : Fin 4) (e : Fin 64) :
    shapeCast S32x4x4x64 y shapeCasts_S128x256_S32x4x4x64 (ix4 b t h e) = y (ix2 ⟨b.val * 4 + t.val, by omega⟩ ⟨h.val * 64 + e.val, by omega⟩) := by
  pointwise

/-- The keys at the end of the program, over what the second call left. -/
theorem end_keys (c : Dev nD) : W11 m ρ c (Proc.devRef .tc main_v27) = shapeCast S32x4x4x64 (outK (V9 m ρ c main_v0) (V9 m ρ c main_v25) (V9 m ρ c main_v1) (cosT (V7 m ρ c main_v23)) (upT (V7 m ρ c main_v23)) (downT (V7 m ρ c main_v23))) shapeCasts_S128x256_S32x4x4x64 := by
  have h : W11 m ρ c (Proc.devRef .tc main_v27) = shapeCast S32x4x4x64 (W10 m ρ c (Proc.devRef .tc main_v26_0) : FVec Ideal S128x256 .f32) shapeCasts_S128x256_S32x4x4x64 := by
    show StableHlo.after hostOps2 (W10 m ρ c) (Proc.devRef .tc main_v27) = _
    after_results; rfl
  have h6 : W10 m ρ c (Proc.devRef .tc main_v26_0) = _ := (W10_arr m ρ c 6).trans (keys1 (V9 m ρ) c)
  have h0 : V9 m ρ c main_v24_0 = cosT (V7 m ρ c main_v23) := (W9_of m ρ c main_v24_0 (by decide)).trans ((W8_arr m ρ c 1).trans (cos0 (V7 m ρ) c))
  have h1 : V9 m ρ c main_v24_1 = upT (V7 m ρ c main_v23) := (W9_of m ρ c main_v24_1 (by decide)).trans ((W8_arr m ρ c 2).trans (up0 (V7 m ρ) c))
  have h2 : V9 m ρ c main_v24_2 = downT (V7 m ρ c main_v23) := (W9_of m ρ c main_v24_2 (by decide)).trans ((W8_arr m ρ c 3).trans (down0 (V7 m ρ) c))
  rw [h, h6, h0, h1, h2]

/-- The values at the end of the program, over what the second call left. -/
theorem end_vals (c : Dev nD) : W11 m ρ c (Proc.devRef .tc main_v28) = shapeCast S32x4x4x64 (outV (V9 m ρ c main_v0) (V9 m ρ c main_v25) (V9 m ρ c main_v1)) shapeCasts_S128x256_S32x4x4x64 := by
  have h : W11 m ρ c (Proc.devRef .tc main_v28) = shapeCast S32x4x4x64 (W10 m ρ c (Proc.devRef .tc main_v26_1) : FVec Ideal S128x256 .f32) shapeCasts_S128x256_S32x4x4x64 := by
    show StableHlo.after hostOps2 (W10 m ρ c) (Proc.devRef .tc main_v28) = _
    after_results; rfl
  have h7 : W10 m ρ c (Proc.devRef .tc main_v26_1) = _ := (W10_arr m ρ c 7).trans (vals1 (V9 m ρ) c)
  rw [h, h7]

/-- The tables at a row and a lane of a head. -/
theorem tables (c : Dev nD) (b : Fin 32) (t h : Fin 4) (e : Fin 64) :
    cosT (V7 m ρ c main_v23) (ix2 ⟨b.val * 4 + t.val, by omega⟩ ⟨(h.val * 64 + e.val) % 128, by omega⟩) = (if h : e.val < 16 then Ideal.cos (angle (IntOp.addi 8192#32 (BitVec.ofNat 32 t.val)) ⟨e.val % 8, by omega⟩) else 1)
    ∧ upT (V7 m ρ c main_v23) (ix2 ⟨b.val * 4 + t.val, by omega⟩ ⟨(h.val * 64 + e.val) % 128, by omega⟩) = (if h : e.val < 8 then 0 - Ideal.sin (angle (IntOp.addi 8192#32 (BitVec.ofNat 32 t.val)) ⟨e.val % 8, by omega⟩) else 0)
    ∧ downT (V7 m ρ c main_v23) (ix2 ⟨b.val * 4 + t.val, by omega⟩ ⟨(h.val * 64 + e.val) % 128, by omega⟩) = (if h : 8 ≤ e.val ∧ e.val < 16 then Ideal.sin (angle (IntOp.addi 8192#32 (BitVec.ofNat 32 t.val)) ⟨e.val % 8, by omega⟩) else 0) := by
  have hp : pos ⟨b.val * 4 + t.val, by omega⟩ = IntOp.addi 8192#32 (BitVec.ofNat 32 t.val) := by
    show IntOp.addi 8192#32 (BitVec.ofNat 32 ((b.val * 4 + t.val) % 4)) = _
    rw [show (b.val * 4 + t.val) % 4 = t.val by omega]
  have hl : (h.val * 64 + e.val) % 128 % 64 = e.val := by omega
  have hf : e.val < 16 → V7 m ρ c main_v23 (ix2 0 ⟨(h.val * 64 + e.val) % 128, by omega⟩ : S1x128.Idx) = freq ⟨e.val % 8, by omega⟩ := by
    intro h16
    rw [lane_freq, if_pos (by show (h.val * 64 + e.val) % 128 % 64 < 16; omega)]
    exact congrArg freq (Fin.ext (by show (h.val * 64 + e.val) % 128 % 8 = e.val % 8; omega))
  refine ⟨?_, ?_, ?_⟩
  · show (if (h.val * 64 + e.val) % 128 % 64 < 16 then Ideal.cos (FloatOps.sitofp (F := Ideal) .f32 (pos ⟨b.val * 4 + t.val, by omega⟩) * V7 m ρ c main_v23 (ix2 0 ⟨(h.val * 64 + e.val) % 128, by omega⟩ : S1x128.Idx)) else 1) = _
    rw [hl]
    split
    · rw [hf (by omega), hp]; rfl
    · rfl
  · show (if (h.val * 64 + e.val) % 128 % 64 < 8 then 0 - Ideal.sin (FloatOps.sitofp (F := Ideal) .f32 (pos ⟨b.val * 4 + t.val, by omega⟩) * V7 m ρ c main_v23 (ix2 0 ⟨(h.val * 64 + e.val) % 128, by omega⟩ : S1x128.Idx)) else 0) = _
    rw [hl]
    split
    · rw [hf (by omega), hp]; rfl
    · rfl
  · show (if 8 ≤ (h.val * 64 + e.val) % 128 % 64 ∧ (h.val * 64 + e.val) % 128 % 64 < 16 then Ideal.sin (FloatOps.sitofp (F := Ideal) .f32 (pos ⟨b.val * 4 + t.val, by omega⟩) * V7 m ρ c main_v23 (ix2 0 ⟨(h.val * 64 + e.val) % 128, by omega⟩ : S1x128.Idx)) else 0) = _
    rw [hl]
    split
    · rw [hf (by omega), hp]; rfl
    · rfl

open Cert.Reference6Ideal.Kv (keys vals keys_at vals_at)

/-- The values the program ends with are the reference's. -/
theorem final_vals (c : Dev nD) : W11 m ρ c (Proc.devRef .tc main_v28) = vals (m ((c : Thread nD τ).loc main_arg0)) (m ((c : Thread nD τ).loc main_arg1)) (m ((c : Thread nD τ).loc main_arg2)) := by
  rw [end_vals]
  funext i
  idx_vars i
  rw [byHeads_at, vals_at]
  exact proj_congr (in1_x m ρ c i0 i1) (in1_g m ρ c) (fun k => in1_w m ρ c k _)

/-- The keys the program ends with are the reference's. -/
theorem final_keys (c : Dev nD) : W11 m ρ c (Proc.devRef .tc main_v27) = keys (m ((c : Thread nD τ).loc main_arg0)) (m ((c : Thread nD τ).loc main_arg1)) (m ((c : Thread nD τ).loc main_arg2)) := by
  rw [end_keys]
  funext i
  idx_vars i
  rw [byHeads_at, keys_at]
  obtain ⟨hC, hU, hD⟩ := tables m ρ c i0 i1 i2 i3
  refine turn_of_tables _ _ i3 _ _ _ _ _ _ ?_ hC hU hD (fun h => ?_) (fun h => ?_)
  · exact proj_congr (in1_x m ρ c i0 i1) (in1_g m ρ c) (fun k => in1_w m ρ c k _)
  · refine proj_congr (in1_x m ρ c i0 i1) (in1_g m ρ c) (fun k => (in1_w m ρ c k _).trans (congrArg (fun z : Fin 512 => m ((c : Thread nD τ).loc main_arg2) (ix2 k z : S1024x512.Idx)) (Fin.ext ?_)))
    show (i2.val * 64 + i3.val + 256 - 248) % 256 = i2.val * 64 + (8 + i3.val)
    omega
  · refine proj_congr (in1_x m ρ c i0 i1) (in1_g m ρ c) (fun k => (in1_w m ρ c k _).trans (congrArg (fun z : Fin 512 => m ((c : Thread nD τ).loc main_arg2) (ix2 k z : S1024x512.Idx)) (Fin.ext ?_)))
    show (i2.val * 64 + i3.val + 256 - 8) % 256 = i2.val * 64 + (i3.val - 8)
    omega

/-- What the program ends with: the reference's keys and values, the arguments as launched. -/
theorem ends_with : θ_run defs (onTc (τ := τ) main) ⟨m, fun _ => 0, ρ⟩ (fun r => ∀ c : Dev nD,
      r.2.mem ((c.tc : Thread nD τ).loc main_v27) = keys (m ((c : Thread nD τ).loc main_arg0)) (m ((c : Thread nD τ).loc main_arg1)) (m ((c : Thread nD τ).loc main_arg2))
      ∧ r.2.mem ((c.tc : Thread nD τ).loc main_v28) = vals (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v27 (by decide))).trans (final_keys m ρ c), (h c _ (mem_uc main_v28 (by decide))).trans (final_vals m ρ c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c)⟩) (ends m ρ)

end Cert.Kernel6Ideal.Kv
end
-- ==== Proof.KvPromptRun.lean ====
module

public import proofs.«01_k».proof.Proof.Gen.Kernel7Ideal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

namespace Cert.Kernel7Ideal.Gen

variable {F : FTy → Type} [FloatOps F]
variable (m : (ℓ : Loc nD τ sig) → Buf (Elt F) ℓ) (ρ : Dev nD → PrngReg)

set_option backward.isDefEq.respectTransparency.types false in
/-- At the end of the program every buffer of the device's memory holds what the last stretch of host operations left. -/
theorem ends : θ_run defs (onTc (τ := τ) (main (F := F))) ⟨m, fun _ => 0, ρ⟩
    (fun r => ∀ c : Dev nD, ∀ b ∈ Pipeline.ucRefs τ sig, r.2.mem (((c : Thread nD τ)).1, b) = W11 m ρ c b) := by
  refine Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => ?_⟩)
    (hinit := ?_)
    (QY := fun c s => ∀ b ∈ Pipeline.ucRefs τ sig, s.mem (((c : Thread nD τ)).1, b) = W11 m ρ c b)
    (hfin := fun c s' => ?_)
    (hQ := fun s h _ => h)
  · iintro Hu; imodintro
    isplitl [Hu]
    · iapply (show (ownU (initOf (Pipeline.cells cfgs cellOf_inj) (Pipeline.launchToks cfgs cellOf_inj)) : sProp (MT nD τ sig Unit (Elt F) ℕ (UR sig nD τ) ℕ))
          ⊢ BI.own (emb₁ (initOf (Pipeline.cells cfgs cellOf_inj) (Pipeline.launchToks cfgs cellOf_inj))) from .rfl)
      iexact Hu
    iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
    iempintro
  · dsimp only [Pipeline.Seg.post, hseg, Pipeline.HostSeg.ofOps]
    iintro ⟨Hh, Hp, HO⟩
    isplitl [Hh Hp]
    · isplitl [Hh]
      · iexact Hh
      · iexact Hp
    · iexact HO
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]
    · iexact Hh
    isplitl [Hp]
    · iexists _; iexact Hp
    · iexists ∅; iexact HO
  · iintro ⟨⟨Hh, -⟩, HSI⟩
    unfold StableHlo.held
    imodintro
    iapply (pointsTo_read_all (Pipeline.ucRefs τ sig) (fun b => (((c : Thread nD τ)).1, b)) (W11 m ρ c) s')
    isplitl [Hh] <;> iassumption

end Cert.Kernel7Ideal.Gen

end
-- ==== Proof.KvPromptRef.lean ====
module

public import proofs.«01_k».proof.Proof.Gen.Reference7Ideal
public import proofs.«01_k».proof.Proof.Rows
public import proofs.«01_k».proof.Proof.Rope
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference7Ideal.Kv

open Cert.Reference7Ideal Cert.Reference7Ideal.Gen
open Cert.Rows (normed proj)
open Cert.Rope (freq angle turn turn_of_tables)

/-- Every row over its root mean square, times a gain, times a weight matrix. -/
def projRows (x : FVec Ideal S2x8192x1024 .f32) (g : FVec Ideal S1024 .f32) (w : FVec Ideal S1024x512 .f32) : FVec Ideal S2x8192x512 .f32 :=
  Host.dotGeneral dot_S2x8192x1024_S1024x512_S2x8192x512_2_0_01_1_n_n none
    (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2 g))) w

/-- One entry of `projRows`. -/
theorem projRows_at (x : FVec Ideal S2x8192x1024 .f32) (g : FVec Ideal S1024 .f32) (w : FVec Ideal S1024x512 .f32) (b : Fin 2) (r : Fin 8192) (j : Fin 512) :
    projRows x g w (ix3 b r j) = proj (fun k => x (ix3 b r k)) (fun k => g (ix1 k)) (fun k => w (ix2 k j)) := by
  pointwise [projRows]
  rfl

/-- The angle of every position and frequency. -/
def angles : FVec Ideal S8192x8 .f32 :=
  mulf (broadcastInDim S8192x8 ![0, 1] bcast_S8192x1_S8192x8_0_1 (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (mulf (Host.negf (sitofp .f32 (iotaInDim S8 32 0))) (broadcastInDim S8 ![] bcast_S_S8 (constant S_ .f32 0x40000000#32))) (broadcastInDim S8 ![] bcast_S_S8 (constant S_ .f32 0x41800000#32))))))

/-- One entry of `angles`. -/
theorem angles_at (t : Fin 8192) (j : Fin 8) : angles (ix2 t j) = angle (BitVec.ofNat 32 t.val) j := by
  pointwise [angles]
  rfl

/-- A table over positions and frequencies, repeated over rows and heads. -/
def spread (a : FVec Ideal S8192x8 .f32) : FVec Ideal S2x8192x4x8 .f32 :=
  broadcastInDim S2x8192x4x8 ![0, 1, 2, 3] bcast_S1x8192x1x8_S2x8192x4x8_0_1_2_3 (broadcastInDim S1x8192x1x8 ![1, 2, 3] bcast_S8192x1x8_S1x8192x1x8_1_2_3 (broadcastInDim S8192x1x8 ![0, 2] bcast_S8192x8_S8192x1x8_0_2 a))

/-- One entry of `spread`. -/
theorem spread_at (a : FVec Ideal S8192x8 .f32) (b : Fin 2) (t : Fin 8192) (h : Fin 4) (j : Fin 8) : spread a (ix4 b t h j) = a (ix2 t j) := by
  pointwise [spread]

/-- The first 16 columns of every head, turned by the angles `a`; the others unchanged. -/
def turned (a : FVec Ideal S8192x8 .f32) (k : FVec Ideal S2x8192x4x64 .f32) : FVec Ideal S2x8192x4x64 .f32 :=
  concatenate S2x8192x4x64 3 [
    ⟨S2x8192x4x8, subf (mulf (extractStridedSlice S2x8192x4x8 ![0, 0, 0, 0] k slices_S2x8192x4x64_S2x8192x4x8_0_0_0_0) (spread (Host.cos a))) (mulf (extractStridedSlice S2x8192x4x8 ![0, 0, 0, 8] k slices_S2x8192x4x64_S2x8192x4x8_0_0_0_8) (spread (Host.sin a)))⟩,
    ⟨S2x8192x4x8, addf (mulf (extractStridedSlice S2x8192x4x8 ![0, 0, 0, 8] k slices_S2x8192x4x64_S2x8192x4x8_0_0_0_8) (spread (Host.cos a))) (mulf (extractStridedSlice S2x8192x4x8 ![0, 0, 0, 0] k slices_S2x8192x4x64_S2x8192x4x8_0_0_0_0) (spread (Host.sin a)))⟩,
    ⟨S2x8192x4x48, extractStridedSlice S2x8192x4x48 ![0, 0, 0, 16] k slices_S2x8192x4x64_S2x8192x4x48_0_0_0_16⟩] concatenates_S2x8192x4x8_S2x8192x4x8_S2x8192x4x48_S2x8192x4x64_d3

/-- One entry of `turned`. -/
theorem turned_at (a : FVec Ideal S8192x8 .f32) (k : FVec Ideal S2x8192x4x64 .f32) (b : Fin 2) (t : Fin 8192) (h : Fin 4) (e : Fin 64) :
    turned a k (ix4 b t h e) = turn (fun j => a (ix2 t j)) (fun d => k (ix4 b t h d)) e := by
  pointwise [turned, spread]
  unfold turn
  split
  · rfl
  · split
    · simp only [show 8 + (e.val - 8) = e.val by omega]
    · simp only [show 16 + (e.val - 8 - 8) = e.val by omega]

/-- The columns from `0`, by heads. -/
def headsLo (y : FVec Ideal S2x8192x512 .f32) : FVec Ideal S2x8192x4x64 .f32 :=
  shapeCast S2x8192x4x64 (extractStridedSlice S2x8192x256 ![0, 0, 0] y slices_S2x8192x512_S2x8192x256_0_0_0) shapeCasts_S2x8192x256_S2x8192x4x64
/-- The columns from `256`, by heads. -/
def headsHi (y : FVec Ideal S2x8192x512 .f32) : FVec Ideal S2x8192x4x64 .f32 :=
  shapeCast S2x8192x4x64 (extractStridedSlice S2x8192x256 ![0, 0, 256] y slices_S2x8192x512_S2x8192x256_0_0_256) shapeCasts_S2x8192x256_S2x8192x4x64
/-- One entry of `headsLo`. -/
theorem headsLo_at (y : FVec Ideal S2x8192x512 .f32) (b : Fin 2) (t : Fin 8192) (h : Fin 4) (e : Fin 64) : headsLo y (ix4 b t h e) = y (ix3 b t ⟨h * 64 + e, by omega⟩) := by
  pointwise [headsLo]
/-- One entry of `headsHi`. -/
theorem headsHi_at (y : FVec Ideal S2x8192x512 .f32) (b : Fin 2) (t : Fin 8192) (h : Fin 4) (e : Fin 64) : headsHi y (ix4 b t h e) = y (ix3 b t ⟨256 + (h * 64 + e), by omega⟩) := by
  pointwise [headsHi]

/-- The reference's keys. -/
def keys (x : FVec Ideal S2x8192x1024 .f32) (g : FVec Ideal S1024 .f32) (w : FVec Ideal S1024x512 .f32) : FVec Ideal S2x8192x4x64 .f32 :=
  turned angles (headsLo (projRows x g w))
/-- The reference's values. -/
def vals (x : FVec Ideal S2x8192x1024 .f32) (g : FVec Ideal S1024 .f32) (w : FVec Ideal S1024x512 .f32) : FVec Ideal S2x8192x4x64 .f32 :=
  headsHi (projRows x g w)
/-- One entry of the reference's keys. -/
theorem keys_at (x : FVec Ideal S2x8192x1024 .f32) (g : FVec Ideal S1024 .f32) (w : FVec Ideal S1024x512 .f32) (b : Fin 2) (t : Fin 8192) (h : Fin 4) (e : Fin 64) :
    keys x g w (ix4 b t h e) = turn (angle (BitVec.ofNat 32 t.val)) (fun d => proj (fun k => x (ix3 b t k)) (fun k => g (ix1 k)) (fun k => w (ix2 k ⟨h * 64 + d, by omega⟩))) e := by
  rw [keys, turned_at]
  simp only [angles_at, headsLo_at, projRows_at]
/-- One entry of the reference's values. -/
theorem vals_at (x : FVec Ideal S2x8192x1024 .f32) (g : FVec Ideal S1024 .f32) (w : FVec Ideal S1024x512 .f32) (b : Fin 2) (t : Fin 8192) (h : Fin 4) (e : Fin 64) :
    vals x g w (ix4 b t h e) = proj (fun k => x (ix3 b t k)) (fun k => g (ix1 k)) (fun k => w (ix2 k ⟨256 + (h * 64 + e), by omega⟩)) := by
  rw [vals, headsHi_at, projRows_at]

/-- A line of host operations, cut in two. -/
theorem after_split (n : ℕ) (L : List (HloOp τ sig (Elt Ideal))) (V : Valuation τ sig (Elt Ideal)) : StableHlo.after L V = StableHlo.after (L.drop n) (StableHlo.after (L.take n) V) := by
  induction n generalizing L V with
  | zero => rfl
  | succ n ih => cases L with
    | nil => rfl
    | cons op l => exact ih l _

/-- The three parts of every head, joined. -/
def joined (p q : FVec Ideal S2x8192x4x8 .f32) (r : FVec Ideal S2x8192x4x48 .f32) : FVec Ideal S2x8192x4x64 .f32 :=
  concatenate S2x8192x4x64 3 [⟨S2x8192x4x8, p⟩, ⟨S2x8192x4x8, q⟩, ⟨S2x8192x4x48, r⟩] concatenates_S2x8192x4x8_S2x8192x4x8_S2x8192x4x48_S2x8192x4x64_d3

/-- The last two operations. -/
theorem tail_at (W : Valuation τ sig (Elt Ideal)) : StableHlo.after [StableHlo.nary ![main_v44, main_v51, main_v52] main_v53 (fun u => (concatenate S2x8192x4x64 3 [⟨S2x8192x4x8, (u 0 : (⟨S2x8192x4x8, .f32⟩ : BufTy).Contents (Elt Ideal))⟩, ⟨S2x8192x4x8, (u 1 : (⟨S2x8192x4x8, .f32⟩ : BufTy).Contents (Elt Ideal))⟩, ⟨S2x8192x4x48, (u 2 : (⟨S2x8192x4x48, .f32⟩ : BufTy).Contents (Elt Ideal))⟩] concatenates_S2x8192x4x8_S2x8192x4x8_S2x8192x4x48_S2x8192x4x64_d3 : (⟨S2x8192x4x64, .f32⟩ : BufTy).Contents (Elt Ideal))), StableHlo.reshape main_v15 main_v54 (rfl : (.f32 : EltTy) = .f32) shapeCasts_S2x8192x256_S2x8192x4x64] W (Proc.devRef .tc main_v53)
    = joined (W (Proc.devRef .tc main_v44)) (W (Proc.devRef .tc main_v51)) (W (Proc.devRef .tc main_v52)) := by
  after_results
  rfl

/-- Equal parts join to equal heads. -/
theorem joined_congr {p p' q q' : FVec Ideal S2x8192x4x8 .f32} {r r' : FVec Ideal S2x8192x4x48 .f32} (hp : p = p') (hq : q = q') (hr : r = r') : joined p q r = joined p' q' r' := by
  subst hp hq hr; rfl

set_option maxHeartbeats 2000000 in
/-- What the reference ends with: its keys and values, the arguments as launched. -/
theorem ends_with (m : (ℓ : Loc nD τ sig) → Buf (Elt Ideal) ℓ) (ρ : Dev nD → PrngReg) : θ_run (defs (F := Ideal)) (onTc (τ := τ) (main (F := Ideal))) ⟨m, fun _ => 0, ρ⟩ (fun r => ∀ c : Dev nD,
      r.2.mem ((c.tc : Thread nD τ).loc main_v53) = keys (m ((c.tc : Thread nD τ).loc main_arg0)) (m ((c.tc : Thread nD τ).loc main_arg1)) (m ((c.tc : Thread nD τ).loc main_arg2))
      ∧ r.2.mem ((c.tc : Thread nD τ).loc main_v54) = vals (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine θ_run_mono (Idealize.ShloMosaic.StableHlo.run_hlo _ _ (by hlo_seq) (by decide) (by decide) (by simp) (by intro _ h; (repeat (cases h with | head => rfl | tail _ h => ?_)); exact nomatch h) _ _) ?_
  intro r hr c
  refine ⟨(hr c main_v53).trans ?_, (hr c main_v54).trans ?_, (hr c main_arg0).trans ?_, (hr c main_arg1).trans ?_, (hr c main_arg2).trans ?_⟩
  · rw [after_split 64]
    simp only [List.drop_succ_cons, List.drop_zero, List.take_succ_cons, List.take_zero]
    refine (tail_at _).trans (joined_congr ?_ ?_ ?_)
    all_goals after_results_simp
    all_goals rfl
  all_goals after_results_simp
  all_goals rfl

end Cert.Reference7Ideal.Kv

end
-- ==== Proof.KvPromptCalls.lean ====
module

public import proofs.«01_k».proof.Proof.KvPromptRun
public import proofs.«01_k».proof.Proof.KvPromptRef
public import Idealize.ShloMosaic.Lib.Pipeline.ValueKit
public import Idealize.ShloMosaic.Lib.Routing.OpsSet
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.Kv
open Cert.Kernel7Ideal Cert.Kernel7Ideal.Gen
open Cert.Rows (normed proj)
open Cert.Rope (freq angle turn turn_of_tables)

/-- The remainder the host computes. -/
def remOf (x : IVec S128 32) (y : IVec S_ 32) : IVec S128 32 :=
  let d : IVec S_ 32 := select (cmpi .eq y (constantI S_ 32 0#32)) (constantI S_ 32 1#32) y
  let r : IVec S128 32 := Host.remsi x (broadcastInDim S128 ![] bcast_S_S128 d)
  select (andi (cmpi .ne (cmpi .slt r (broadcastInDim S128 ![] bcast_S_S128 (constantI S_ 32 0#32))) (broadcastInDim S128 ![] bcast_S_S128 (cmpi .slt d (constantI S_ 32 0#32)))) (cmpi .ne r (broadcastInDim S128 ![] bcast_S_S128 (constantI S_ 32 0#32))))
    (addi r (broadcastInDim S128 ![] bcast_S_S128 d)) r

/-- The lane within its head. -/
theorem rem64_at (p : Fin 128) : remOf (iotaInDim S128 32 0) (constantI S_ 32 64#32) (ix1 p) = BitVec.ofNat 32 (p.val % 64) := by
  pointwise [remOf]
  revert p
  decide +kernel

variable (W : Valuation τ sig (Elt Ideal))

/-- The lane's pair. -/
theorem rem8_at (x : IVec S128 32) (p : Fin 128) (h : x (ix1 p) = BitVec.ofNat 32 (p.val % 64)) : remOf x (constantI S_ 32 8#32) (ix1 p) = BitVec.ofNat 32 (p.val % 8) := by
  pointwise [remOf]
  rw [h]
  clear h
  revert p
  decide +kernel

/-- The remainder by 64, after its stretch of host operations. -/
theorem s1 : StableHlo.after hostOps0_1 W (Proc.devRef .tc main_v11) = remOf (W (Proc.devRef .tc main_v10)) (W (Proc.devRef .tc main_c)) := by
  after_results
  simp only [StableHlo.TRef.ofBuf_toBuf, id]
  rfl

/-- The remainder by 8, after its stretch of host operations. -/
theorem s3 : StableHlo.after hostOps0_3 W (Proc.devRef .tc main_v14) = remOf (W (Proc.devRef .tc main_v11)) (W (Proc.devRef .tc main_c_3)) := by
  after_results
  simp only [StableHlo.TRef.ofBuf_toBuf, id]
  rfl

/-- The frequencies taken at the pairs, after their stretch of host operations. -/
theorem s4 : StableHlo.after hostOps0_4 W (Proc.devRef .tc main_v21) = Host.gather gather_S8_S128x1_S128_n_0_n_n_0_1_1 (W (Proc.devRef .tc main_v9) : FVec Ideal S8 .f32) (broadcastInDim S128x1 ![0] bcast_S128_S128x1_0 (select (cmpi .slt (W (Proc.devRef .tc main_v14) : IVec S128 32) (broadcastInDim S128 ![] bcast_S_S128 (constantI S_ 32 0#32))) (addi (W (Proc.devRef .tc main_v14) : IVec S128 32) (broadcastInDim S128 ![] bcast_S_S128 (constantI S_ 32 8#32))) (W (Proc.devRef .tc main_v14) : IVec S128 32) : IVec S128 32)) := by
  after_results

/-- The frequencies of the turned lanes, 0 elsewhere, after their stretch of host operations. -/
theorem s5 : StableHlo.after hostOps0_5 W (Proc.devRef .tc main_v22) = select (W (Proc.devRef .tc main_v13) : IVec S128 1) (W (Proc.devRef .tc main_v21) : FVec Ideal S128 .f32) (broadcastInDim S128 ![] bcast_S_S128 (W (Proc.devRef .tc main_cst_6) : FVec Ideal S_ .f32)) := by
  after_results
  simp only [StableHlo.TRef.ofBuf_toBuf, id]
  rfl

/-- The frequencies as a row, after their stretch of host operations. -/
theorem s6 : StableHlo.after hostOps0_6 W (Proc.devRef .tc main_v23) = shapeCast S1x128 (W (Proc.devRef .tc main_v22) : FVec Ideal S128 .f32) shapeCasts_S128_S1x128 := by
  after_results
  rfl

/-- Which lanes are turned, after its stretch of host operations. -/
theorem s2 : StableHlo.after hostOps0_2 W (Proc.devRef .tc main_v13) = cmpi .slt (W (Proc.devRef .tc main_v11) : IVec S128 32) (broadcastInDim S128 ![] bcast_S_S128 (constantI S_ 32 16#32)) := by
  after_results

/-- The lane of a column within its head. -/
theorem lanes_at (i : Fin 1024) (j : Fin 128) : k0_pay4 (ix2 i j) = BitVec.ofNat 32 (j.val % 64) := by
  pointwise [k0_pay4]
  revert j
  decide +kernel

/-- The position of a row of a tile. -/
theorem pos_eq : ∀ (q : Fin 8) (i : Fin 1024), IntOp.addi 0#32 (IntOp.remsi .vector (IntOp.addi (BitVec.ofNat 32 i.val) (IntOp.muli (BitVec.ofNat 32 q.val) 1024#32)) 8192#32) = BitVec.ofNat 32 (q.val * 1024 + i.val) := by
  decide +kernel

/-- The angle of a row and a lane. -/
theorem pos_at (t : grid0.Coords) (v : FVec Ideal S1x128 .f32) (i : Fin 1024) (j : Fin 128) :
    k0_pay3 (F := Ideal) t v (ix2 i j) = FloatOps.sitofp (F := Ideal) .f32 (BitVec.ofNat 32 ((t 0).val * 1024 + i.val)) * v (ix2 0 j) := by
  pointwise [k0_pay3]
  exact congrArg (fun z => FloatOps.sitofp (F := Ideal) .f32 z * v (ix2 0 j)) (pos_eq (t 0) i)

/-- The table of cosines. -/
theorem cos_at (t : grid0.Coords) (v : FVec Ideal S1x128 .f32) (i : Fin 1024) (j : Fin 128) :
    k0_pay6 (F := Ideal) t v (ix2 i j) = if j.val % 64 < 16 then Ideal.cos (FloatOps.sitofp (F := Ideal) .f32 (BitVec.ofNat 32 ((t 0).val * 1024 + i.val)) * v (ix2 0 j)) else 1 := by
  pointwise [k0_pay6]
  rw [lanes_at, pos_at, show IntOp.cmpi .slt (BitVec.ofNat 32 (j.val % 64)) 16#32 = if j.val % 64 < 16 then 1#1 else 0#1 from by revert j; decide +kernel]
  split <;> rfl

/-- The table for the columns 8 above. -/
theorem up_at (t : grid0.Coords) (v : FVec Ideal S1x128 .f32) (i : Fin 1024) (j : Fin 128) :
    k0_pay1 (F := Ideal) k0_pay7 (k0_pay8 t v) (ix2 i j) = if j.val % 64 < 8 then 0 - Ideal.sin (FloatOps.sitofp (F := Ideal) .f32 (BitVec.ofNat 32 ((t 0).val * 1024 + i.val)) * v (ix2 0 j)) else 0 := by
  pointwise [k0_pay1, k0_pay7, k0_pay8, k0_pay5]
  rw [lanes_at, pos_at, show IntOp.cmpi .slt (BitVec.ofNat 32 (j.val % 64)) 8#32 = if j.val % 64 < 8 then 1#1 else 0#1 from by revert j; decide +kernel]
  split <;> rfl

/-- The table for the columns 8 below. -/
theorem down_at (t : grid0.Coords) (v : FVec Ideal S1x128 .f32) (i : Fin 1024) (j : Fin 128) :
    k0_pay2 (F := Ideal) k0_pay4 (k0_pay5 t v) (ix2 i j) = if 8 ≤ j.val % 64 ∧ j.val % 64 < 16 then Ideal.sin (FloatOps.sitofp (F := Ideal) .f32 (BitVec.ofNat 32 ((t 0).val * 1024 + i.val)) * v (ix2 0 j)) else 0 := by
  pointwise [k0_pay2, k0_pay5]
  rw [lanes_at, pos_at, show IntOp.andi (IntOp.cmpi .sge (BitVec.ofNat 32 (j.val % 64)) 8#32) (IntOp.cmpi .slt (BitVec.ofNat 32 (j.val % 64)) 16#32) = if 8 ≤ j.val % 64 ∧ j.val % 64 < 16 then 1#1 else 0#1 from by revert j; decide +kernel]
  split <;> rfl

/-- The keys' columns of one block, before the turn. -/
theorem rows_at (x : FVec Ideal S256x1024 .f32) (g : FVec Ideal S1x1024 .f32) (w : FVec Ideal S1024x256 .bf16) (r j : Fin 256) :
    k1_pay7 (F := Ideal) x g w (ix2 r j) = proj (fun k => x (ix2 r k)) (fun k => g (ix2 0 k)) (fun k => w (ix2 k j)) := by
  pointwise [k1_pay7, k1_pay6]
  rfl

/-- The values of one block, before they are turned to columns. -/
theorem vals_rows (x : FVec Ideal S256x1024 .f32) (g : FVec Ideal S1x1024 .f32) (w : FVec Ideal S1024x256 .bf16) (r j : Fin 256) :
    k1_pay8 (F := Ideal) x g w (ix2 r j) = proj (fun k => x (ix2 r k)) (fun k => g (ix2 0 k)) (fun k => w (ix2 k j)) := by
  pointwise [k1_pay8, k1_pay6]
  rfl

/-- The values of one block. -/
theorem vals_at1 (x : FVec Ideal S256x1024 .f32) (g : FVec Ideal S1x1024 .f32) (w : FVec Ideal S1024x256 .bf16) (j r : Fin 256) :
    k1_pay15 (F := Ideal) (k1_pay12 (F := Ideal) (k1_pay8 (F := Ideal) x g w)) (ix3 0 j r) = proj (fun k => x (ix2 r k)) (fun k => g (ix2 0 k)) (fun k => w (ix2 k j)) := by
  pointwise [k1_pay15, k1_pay13, k1_pay12]
  exact vals_rows x g w r j

/-- A table repeated over the two halves of the columns. -/
theorem both_halves {α : Type} (f : Fin 128 → α) (j : Fin 256) : (if h : j.val < 128 then f ⟨j.val, h⟩ else f ⟨j.val - 128, by omega⟩) = f ⟨j.val % 128, by omega⟩ := by
  split
  · exact congrArg f (Fin.ext (by show j.val = j.val % 128; omega))
  · exact congrArg f (Fin.ext (by show j.val - 128 = j.val % 128; omega))

/-- The keys of one block. -/
theorem mix_at (x : FVec Ideal S256x1024 .f32) (g : FVec Ideal S1x1024 .f32) (w : FVec Ideal S1024x256 .bf16) (c u d : FVec Ideal S256x128 .f32) (j r : Fin 256) :
    k1_pay14 (F := Ideal) (k1_pay9 x g w c u) (k1_pay10 x g w d) (ix3 0 j r)
      = proj (fun k => x (ix2 r k)) (fun k => g (ix2 0 k)) (fun k => w (ix2 k j)) * c (ix2 r ⟨j.val % 128, by omega⟩)
        + proj (fun k => x (ix2 r k)) (fun k => g (ix2 0 k)) (fun k => w (ix2 k ⟨(j.val + 256 - 248) % 256, by omega⟩)) * u (ix2 r ⟨j.val % 128, by omega⟩)
        + proj (fun k => x (ix2 r k)) (fun k => g (ix2 0 k)) (fun k => w (ix2 k ⟨(j.val + 256 - 8) % 256, by omega⟩)) * d (ix2 r ⟨j.val % 128, by omega⟩) := by
  pointwise [k1_pay14, k1_pay11, k1_pay9, k1_pay10]
  rw [rows_at, rows_at, rows_at, both_halves fun q => c (ix2 r q), both_halves fun q => u (ix2 r q), both_halves fun q => d (ix2 r q)]

/-- Where each window's block lies at each grid point of the second call. -/
theorem idx1 : ∀ t : Fin cfg1.N, win1_0.index t = ![t.val, 0] ∧ win1_1.index t = ![0, 0] ∧ win1_2.index t = ![0, 0] ∧ win1_3.index t = ![t.val % 32, 0] ∧ win1_4.index t = ![t.val % 32, 0]
    ∧ win1_5.index t = ![t.val % 32, 0] ∧ win1_6.index t = ![t.val / 32, 0, t.val % 32] ∧ win1_7.index t = ![t.val / 32, 0, t.val % 32] :=
  (by decide +kernel : ∀ t : Fin grid1.N, _)

/-- Where each window's block lies at each grid point of the first call. -/
theorem idx0 : ∀ t : Fin cfg0.N, win0_0.index t = ![0, 0] ∧ win0_1.index t = ![t.val, 0] ∧ win0_2.index t = ![t.val, 0] ∧ win0_3.index t = ![t.val, 0] :=
  (by decide +kernel : ∀ t : Fin grid0.N, _)

/-- The array of cosines over rows and lanes. -/
def cosT (v : FVec Ideal S1x128 .f32) : FVec Ideal S8192x128 .f32 := fun i =>
  if (i 1).val % 64 < 16 then Ideal.cos (FloatOps.sitofp (F := Ideal) .f32 (BitVec.ofNat 32 (i 0).val) * v (ix2 0 (i 1))) else 1
/-- The array for the columns 8 above. -/
def upT (v : FVec Ideal S1x128 .f32) : FVec Ideal S8192x128 .f32 := fun i =>
  if (i 1).val % 64 < 8 then 0 - Ideal.sin (FloatOps.sitofp (F := Ideal) .f32 (BitVec.ofNat 32 (i 0).val) * v (ix2 0 (i 1))) else 0
/-- The array for the columns 8 below. -/
def downT (v : FVec Ideal S1x128 .f32) : FVec Ideal S8192x128 .f32 := fun i =>
  if 8 ≤ (i 1).val % 64 ∧ (i 1).val % 64 < 16 then Ideal.sin (FloatOps.sitofp (F := Ideal) .f32 (BitVec.ofNat 32 (i 0).val) * v (ix2 0 (i 1))) else 0

/-- The grid point's coordinate. -/
theorem coord0 : ∀ t : Fin cfg0.N, ((grid0.coords t) 0).val = t.val := (by decide +kernel : ∀ t : Fin grid0.N, _)

variable (V : (c : Dev nD) → (b : Ref sig .tc) → Buf (Elt Ideal) ((c : Thread nD τ).loc b))

/-- The block the first call reads is its whole array. -/
theorem blk0 (c : Dev nD) (t : Fin cfg0.N) (j : Fin 128) : iblk0 V c 0 t (ix2 0 j : S1x128.Idx) = V c main_v23 (ix2 0 j : S1x128.Idx) := by
  blk_point [iblk0, idx0 t]

/-- What the first call leaves in its output 1. -/
theorem cos0 (c : Dev nD) : (dat0 V c).arrAt 1 cfg0.N = cosT (V c main_v23) := by
  refine (dat0 V c).arrAt_eq_of_covers 1 _ (by decide +kernel) fun t hf y => ?_
  blk_simp; rw [after0_1]; frame_out
  idx_vars y
  have ht : t.val < 8 := lt_of_lt_of_eq t.isLt N_0
  have he : ((View.whole main_v24_0).slice (win0_1.rect t)).emb (ix2 y0 y1) = (ix2 ⟨t.val * 1024 + y0.val, by omega⟩ y1 : S8192x128.Idx) := by blk_ext [idx0 t]
  rw [he]
  refine (cos_at _ _ y0 y1).trans ?_
  rw [blk0, coord0]
  rfl

/-- What the first call leaves in its output 2. -/
theorem up0 (c : Dev nD) : (dat0 V c).arrAt 2 cfg0.N = upT (V c main_v23) := by
  refine (dat0 V c).arrAt_eq_of_covers 2 _ (by decide +kernel) fun t hf y => ?_
  blk_simp; rw [after0_2]; frame_out
  idx_vars y
  have ht : t.val < 8 := lt_of_lt_of_eq t.isLt N_0
  have he : ((View.whole main_v24_1).slice (win0_2.rect t)).emb (ix2 y0 y1) = (ix2 ⟨t.val * 1024 + y0.val, by omega⟩ y1 : S8192x128.Idx) := by blk_ext [idx0 t]
  rw [he]
  refine (up_at _ _ y0 y1).trans ?_
  rw [blk0, coord0]
  rfl

/-- What the first call leaves in its output 3. -/
theorem down0 (c : Dev nD) : (dat0 V c).arrAt 3 cfg0.N = downT (V c main_v23) := by
  refine (dat0 V c).arrAt_eq_of_covers 3 _ (by decide +kernel) fun t hf y => ?_
  blk_simp; rw [after0_3]; frame_out
  idx_vars y
  have ht : t.val < 8 := lt_of_lt_of_eq t.isLt N_0
  have he : ((View.whole main_v24_2).slice (win0_3.rect t)).emb (ix2 y0 y1) = (ix2 ⟨t.val * 1024 + y0.val, by omega⟩ y1 : S8192x128.Idx) := by blk_ext [idx0 t]
  rw [he]
  refine (down_at _ _ y0 y1).trans ?_
  rw [blk0, coord0]
  rfl

/-- The projection of equal rows, gains and columns. -/
theorem proj_congr {x x' g g' w w' : Fin 1024 → EReal} (hx : ∀ k, x k = x' k) (hg : ∀ k, g k = g' k) (hw : ∀ k, w k = w' k) :
    proj x g w = proj x' g' w' := by
  obtain rfl : x = x' := funext hx
  obtain rfl : g = g' := funext hg
  obtain rfl : w = w' := funext hw
  rfl

end Cert.Kernel7Ideal.Kv
end
-- ==== Proof.KvPromptTiles.lean ====
module

public import proofs.«01_k».proof.Proof.KvPromptCalls
public import Idealize.ShloMosaic.Lib.Pipeline.ValueKit
public import Idealize.ShloMosaic.Lib.Routing.OpsSet
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.Kv
open Cert.Kernel7Ideal Cert.Kernel7Ideal.Gen
open Cert.Rows (normed proj)
open Cert.Rope (freq angle turn turn_of_tables)

/-- A key the second call leaves. -/
def keyAt (X : FVec Ideal S16384x1024 .f32) (G : FVec Ideal S1x1024 .f32) (W : FVec Ideal S1024x512 .bf16) (C U D : FVec Ideal S8192x128 .f32) (b : Fin 2) (j : Fin 256) (t : Fin 8192) : EReal :=
  proj (fun k => X (ix2 ⟨b.val * 8192 + t.val, by omega⟩ k)) (fun k => G (ix2 0 k)) (fun k => W (ix2 k ⟨j.val, by omega⟩)) * C (ix2 t ⟨j.val % 128, by omega⟩)
  + proj (fun k => X (ix2 ⟨b.val * 8192 + t.val, by omega⟩ k)) (fun k => G (ix2 0 k)) (fun k => W (ix2 k ⟨(j.val + 256 - 248) % 256, by omega⟩)) * U (ix2 t ⟨j.val % 128, by omega⟩)
  + proj (fun k => X (ix2 ⟨b.val * 8192 + t.val, by omega⟩ k)) (fun k => G (ix2 0 k)) (fun k => W (ix2 k ⟨(j.val + 256 - 8) % 256, by omega⟩)) * D (ix2 t ⟨j.val % 128, by omega⟩)
/-- A value the second call leaves. -/
def valAt (X : FVec Ideal S16384x1024 .f32) (G : FVec Ideal S1x1024 .f32) (W : FVec Ideal S1024x512 .bf16) (b : Fin 2) (j : Fin 256) (t : Fin 8192) : EReal :=
  proj (fun k => X (ix2 ⟨b.val * 8192 + t.val, by omega⟩ k)) (fun k => G (ix2 0 k)) (fun k => W (ix2 k ⟨256 + j.val, by omega⟩))

/-- The array of keys the second call leaves, by columns. -/
def outK (X : FVec Ideal S16384x1024 .f32) (G : FVec Ideal S1x1024 .f32) (W : FVec Ideal S1024x512 .bf16) (C U D : FVec Ideal S8192x128 .f32) : FVec Ideal S2x256x8192 .f32 :=
  fun i => keyAt X G W C U D (i 0) (i 1) (i 2)
/-- The array of values the second call leaves, by columns. -/
def outV (X : FVec Ideal S16384x1024 .f32) (G : FVec Ideal S1x1024 .f32) (W : FVec Ideal S1024x512 .bf16) : FVec Ideal S2x256x8192 .f32 :=
  fun i => valAt X G W (i 0) (i 1) (i 2)

/-- The first 256 columns, read in place. -/
theorem left_at (z : FVec Ideal S1024x512 .bf16) (k : Fin 1024) (j : Fin 256) :
    View.ld (Val := Elt Ideal) (e' := .bf16) z (Rect.unit ![0, 0] ![1024, 256] inb_S1024x512_S1024x256_0_0) (ix2 k j : S1024x256.Idx) = z (ix2 k ⟨j.val, by omega⟩) := by
  pointwise

/-- The last 256 columns, read in place. -/
theorem right_at (z : FVec Ideal S1024x512 .bf16) (k : Fin 1024) (j : Fin 256) :
    View.ld (Val := Elt Ideal) (e' := .bf16) z (Rect.unit ![0, 256] ![1024, 256] inb_S1024x512_S1024x256_0_256) (ix2 k j : S1024x256.Idx) = z (ix2 k ⟨256 + j.val, by omega⟩) := by
  pointwise

variable (V : (c : Dev nD) → (b : Ref sig .tc) → Buf (Elt Ideal) ((c : Thread nD τ).loc b))

/-- The block of rows at a grid point. -/
theorem blkX (c : Dev nD) (t : Fin cfg1.N) (ht : t.val < 64) (r : Fin 256) (k : Fin 1024) :
    iblk1 V c 0 t (ix2 r k : S256x1024.Idx) = V c main_v0 (ix2 ⟨t.val / 32 * 8192 + (t.val % 32 * 256 + r.val), by omega⟩ k : S16384x1024.Idx) := by
  have h : iblk1 V c 0 t (ix2 r k : S256x1024.Idx) = V c main_v0 (ix2 ⟨t.val * 256 + r.val, by omega⟩ k : S16384x1024.Idx) := by
    blk_point [iblk1, idx1 t]
  refine h.trans (congrArg (fun q : Fin 16384 => V c main_v0 (ix2 q k : S16384x1024.Idx)) (Fin.ext ?_))
  show t.val * 256 + r.val = t.val / 32 * 8192 + (t.val % 32 * 256 + r.val)
  omega

/-- The gains' block is the whole array. -/
theorem blkG (c : Dev nD) (t : Fin cfg1.N) (k : Fin 1024) : iblk1 V c 1 t (ix2 0 k : S1x1024.Idx) = V c main_v25 (ix2 0 k : S1x1024.Idx) := by
  blk_point [iblk1, idx1 t]

/-- The weights' block is the whole array. -/
theorem blkW (c : Dev nD) (t : Fin cfg1.N) (k : Fin 1024) (j : Fin 512) : iblk1 V c 2 t (ix2 k j : S1024x512.Idx) = V c main_v1 (ix2 k j : S1024x512.Idx) := by
  blk_point [iblk1, idx1 t]

/-- The block of the table of the cosines at a grid point. -/
theorem blkC (c : Dev nD) (t : Fin cfg1.N) (r : Fin 256) (q : Fin 128) :
    iblk1 V c 3 t (ix2 r q : S256x128.Idx) = V c main_v24_0 (ix2 ⟨t.val % 32 * 256 + r.val, by omega⟩ q : S8192x128.Idx) := by
  blk_point [iblk1, idx1 t]

/-- The block of the table of the columns 8 above at a grid point. -/
theorem blkU (c : Dev nD) (t : Fin cfg1.N) (r : Fin 256) (q : Fin 128) :
    iblk1 V c 4 t (ix2 r q : S256x128.Idx) = V c main_v24_1 (ix2 ⟨t.val % 32 * 256 + r.val, by omega⟩ q : S8192x128.Idx) := by
  blk_point [iblk1, idx1 t]

/-- The block of the table of the columns 8 below at a grid point. -/
theorem blkD (c : Dev nD) (t : Fin cfg1.N) (r : Fin 256) (q : Fin 128) :
    iblk1 V c 5 t (ix2 r q : S256x128.Idx) = V c main_v24_2 (ix2 ⟨t.val % 32 * 256 + r.val, by omega⟩ q : S8192x128.Idx) := by
  blk_point [iblk1, idx1 t]

/-- What the second call leaves in its output of keys. -/
theorem keys1 (c : Dev nD) : (dat1 V c).arrAt 6 cfg1.N = outK (V c main_v0) (V c main_v25) (V c main_v1) (V c main_v24_0) (V c main_v24_1) (V c main_v24_2) := by
  refine (dat1 V c).arrAt_eq_of_covers 6 _ (by decide +kernel) fun t hf y => ?_
  blk_simp; rw [after1_6]; unfold outsAt1; frame_out
  idx_vars y
  have ht : t.val < 64 := lt_of_lt_of_eq t.isLt N_1
  have he : ((View.whole main_v26_0).slice (win1_6.rect t)).emb (ix3 y0 y1 y2) = (ix3 ⟨t.val / 32, by omega⟩ y1 ⟨t.val % 32 * 256 + y2.val, by omega⟩ : S2x256x8192.Idx) := by blk_ext [idx1 t]
  rw [he]
  obtain rfl : y0 = 0 := Subsingleton.elim _ _
  refine (mix_at _ _ _ _ _ _ y1 y2).trans ?_
  show _ = keyAt (V c main_v0) (V c main_v25) (V c main_v1) (V c main_v24_0) (V c main_v24_1) (V c main_v24_2) ⟨t.val / 32, by omega⟩ y1 ⟨t.val % 32 * 256 + y2.val, by omega⟩
  unfold keyAt
  refine congrArg₂ (· + ·) (congrArg₂ (· + ·) (congrArg₂ (· * ·) (proj_congr (fun k => blkX V c t ht _ _) (fun k => blkG V c t _) (fun k => (left_at _ _ _).trans (blkW V c t _ _))) (blkC V c t _ _))
    (congrArg₂ (· * ·) (proj_congr (fun k => blkX V c t ht _ _) (fun k => blkG V c t _) (fun k => (left_at _ _ _).trans (blkW V c t _ _))) (blkU V c t _ _)))
    (congrArg₂ (· * ·) (proj_congr (fun k => blkX V c t ht _ _) (fun k => blkG V c t _) (fun k => (left_at _ _ _).trans (blkW V c t _ _))) (blkD V c t _ _))

/-- What the second call leaves in its output of values. -/
theorem vals1 (c : Dev nD) : (dat1 V c).arrAt 7 cfg1.N = outV (V c main_v0) (V c main_v25) (V c main_v1) := by
  refine (dat1 V c).arrAt_eq_of_covers 7 _ (by decide +kernel) fun t hf y => ?_
  blk_simp; rw [after1_7]; unfold outsAt1; frame_out
  idx_vars y
  have ht : t.val < 64 := lt_of_lt_of_eq t.isLt N_1
  have he : ((View.whole main_v26_1).slice (win1_7.rect t)).emb (ix3 y0 y1 y2) = (ix3 ⟨t.val / 32, by omega⟩ y1 ⟨t.val % 32 * 256 + y2.val, by omega⟩ : S2x256x8192.Idx) := by blk_ext [idx1 t]
  rw [he]
  obtain rfl : y0 = 0 := Subsingleton.elim _ _
  refine (vals_at1 _ _ _ y1 y2).trans ?_
  show _ = valAt (V c main_v0) (V c main_v25) (V c main_v1) ⟨t.val / 32, by omega⟩ y1 ⟨t.val % 32 * 256 + y2.val, by omega⟩
  unfold valAt
  exact proj_congr (fun k => blkX V c t ht _ _) (fun k => blkG V c t _) (fun k => (right_at _ _ _).trans (blkW V c t _ _))

end Cert.Kernel7Ideal.Kv
end
-- ==== Proof.KvPrompt.lean ====
module

public import proofs.«01_k».proof.Proof.KvPromptTiles
public import proofs.«01_k».proof.Proof.KvPromptRef
public import Idealize.ShloMosaic.Lib.Pipeline.ValueKit
public import Idealize.ShloMosaic.Lib.Routing.OpsSet
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.Kv
open Cert.Kernel7Ideal Cert.Kernel7Ideal.Gen
open Cert.Rows (normed proj)
open Cert.Rope (freq angle turn turn_of_tables)

variable (m : (ℓ : Loc nD τ sig) → Buf (Elt Ideal) ℓ) (ρ : Dev nD → PrngReg)

/-- The lanes' positions within their heads, as the host leaves them. -/
theorem w2_lane (c : Dev nD) (p : Fin 128) : W2 m ρ c (Proc.devRef .tc main_v11) (ix1 p : S128.Idx) = BitVec.ofNat 32 (p.val % 64) := by
  refine (congrFun (s1 (W1 m ρ c)) _).trans ?_
  have h1 : W1 m ρ c (Proc.devRef .tc main_v10) = (iotaInDim S128 32 0 : IVec S128 32) := by
    show StableHlo.after hostOps0 (W0 m ρ c) (Proc.devRef .tc main_v10) = _
    after_results
  have h2 : W1 m ρ c (Proc.devRef .tc main_c) = (constantI S_ 32 64#32 : IVec S_ 32) := by
    show StableHlo.after hostOps0 (W0 m ρ c) (Proc.devRef .tc main_c) = _
    after_results
  rw [h1, h2]
  exact rem64_at p

/-- Whether a lane is turned. -/
theorem w5_turned (c : Dev nD) (p : Fin 128) : W5 m ρ c (Proc.devRef .tc main_v13) (ix1 p : S128.Idx) = if p.val % 64 < 16 then 1#1 else 0#1 := by
  refine (congrFun ((W5_of m ρ c main_v13 (by decide)).trans ((W4_of m ρ c main_v13 (by decide)).trans (s2 (W2 m ρ c)))) _).trans ?_
  refine (congrArg (fun z => IntOp.cmpi .slt z 16#32) (w2_lane m ρ c p)).trans ?_
  revert p
  decide +kernel

/-- The lanes' pairs, as the host leaves them. -/
theorem w4_pair (c : Dev nD) (p : Fin 128) : W4 m ρ c (Proc.devRef .tc main_v14) (ix1 p : S128.Idx) = BitVec.ofNat 32 (p.val % 8) := by
  refine (congrFun (s3 (W3 m ρ c)) _).trans ?_
  have h2 : W3 m ρ c (Proc.devRef .tc main_c_3) = (constantI S_ 32 8#32 : IVec S_ 32) := by
    show StableHlo.after hostOps0_2 (W2 m ρ c) (Proc.devRef .tc main_c_3) = _
    after_results
  rw [h2]
  exact rem8_at _ p ((congrFun (W3_of m ρ c main_v11 (by decide)) _).trans (w2_lane m ρ c p))

/-- The frequencies, as the host leaves them. -/
theorem w4_freq (c : Dev nD) (j : Fin 8) : W4 m ρ c (Proc.devRef .tc main_v9) (ix1 j : S8.Idx) = freq j := by
  refine (congrFun ((W4_of m ρ c main_v9 (by decide)).trans ((W3_of m ρ c main_v9 (by decide)).trans (W2_of m ρ c main_v9 (by decide)))) _).trans ?_
  show StableHlo.after hostOps0 (W0 m ρ c) (Proc.devRef .tc main_v9) (ix1 j : S8.Idx) = _
  after_results
  pointwise
  rfl

/-- The frequency of every lane. -/
theorem lane_freq (c : Dev nD) (p : Fin 128) : V7 m ρ c main_v23 (ix2 0 p : S1x128.Idx) = if p.val % 64 < 16 then freq ⟨p.val % 8, by omega⟩ else 0 := by
  refine (congrFun (s6 (W6 m ρ c)) _).trans ?_
  have hr : shapeCast S1x128 (W6 m ρ c (Proc.devRef .tc main_v22) : FVec Ideal S128 .f32) shapeCasts_S128_S1x128 (ix2 0 p) = (W6 m ρ c (Proc.devRef .tc main_v22) : FVec Ideal S128 .f32) (ix1 p) := by
    pointwise
  refine hr.trans ((congrFun (s5 (W5 m ρ c)) _).trans ?_)
  have hc : W5 m ρ c (Proc.devRef .tc main_cst_6) = (constant S_ .f32 0x00000000#32 : FVec Ideal S_ .f32) := by
    show StableHlo.after hostOps0_4 (W4 m ρ c) (Proc.devRef .tc main_cst_6) = _
    after_results
  rw [hc]
  have hg : W5 m ρ c (Proc.devRef .tc main_v21) (ix1 p : S128.Idx) = freq ⟨p.val % 8, by omega⟩ := by
    refine (congrFun (s4 (W4 m ρ c)) _).trans ?_
    refine (Routing.gather_take1 _ rfl rfl rfl rfl _ _ p ⟨p.val % 8, by omega⟩ ?_ (by norm_num)).trans (w4_freq m ρ c _)
    pointwise
    rw [w4_pair]
    clear hr
    revert p
    decide +kernel
  pointwise
  rw [w5_turned, hg]
  split <;> rfl

/-- One entry of the rows, as the second call finds them. -/
theorem in1_x (c : Dev nD) (b : Fin 2) (t : Fin 8192) (k : Fin 1024) : V9 m ρ c main_v0 (ix2 ⟨b.val * 8192 + t.val, by omega⟩ k : S16384x1024.Idx) = m ((c : Thread nD τ).loc main_arg0) (ix3 b t k : S2x8192x1024.Idx) := by
  refine (congrFun ((W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans (W2_of m ρ c main_v0 (by decide))))))))) _).trans ?_
  show StableHlo.after hostOps0 (W0 m ρ c) (Proc.devRef .tc main_v0) (ix2 ⟨b.val * 8192 + t.val, by omega⟩ k : S16384x1024.Idx) = _
  have h : StableHlo.after hostOps0 (W0 m ρ c) (Proc.devRef .tc main_v0) = shapeCast S16384x1024 (W0 m ρ c (Proc.devRef .tc main_arg0) : FVec Ideal S2x8192x1024 .f32) shapeCasts_S2x8192x1024_S16384x1024 := by after_results; rfl
  rw [h, W0_args m ρ c main_arg0 (by decide)]
  pointwise

/-- One gain, as the second call finds it. -/
theorem in1_g (c : Dev nD) (k : Fin 1024) : V9 m ρ c main_v25 (ix2 0 k : S1x1024.Idx) = m ((c : Thread nD τ).loc main_arg1) (ix1 k : S1024.Idx) := by
  have h : V9 m ρ c main_v25 = shapeCast S1x1024 (W8 m ρ c (Proc.devRef .tc main_arg1) : FVec Ideal S1024 .f32) shapeCasts_S1024_S1x1024 := by
    show StableHlo.after hostOps1 (W8 m ρ c) (Proc.devRef .tc main_v25) = _
    after_results; rfl
  rw [h, W8_args m ρ c main_arg1 (by decide)]
  pointwise

/-- One weight, as the second call finds it. -/
theorem in1_w (c : Dev nD) (k : Fin 1024) (j : Fin 512) : V9 m ρ c main_v1 (ix2 k j : S1024x512.Idx) = m ((c : Thread nD τ).loc main_arg2) (ix2 k j : S1024x512.Idx) := by
  refine (congrFun ((W9_of m ρ c main_v1 (by decide)).trans ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans (W2_of m ρ c main_v1 (by decide))))))))) _).trans ?_
  have h : W1 m ρ c (Proc.devRef .tc main_v1) = (truncf .bf16 (W0 m ρ c (Proc.devRef .tc main_arg2) : FVec Ideal S1024x512 .f32) bitsLt_bf16_f32 : FVec Ideal S1024x512 .bf16) := by
    show StableHlo.after hostOps0 (W0 m ρ c) (Proc.devRef .tc main_v1) = _
    after_results
  rw [h, W0_args m ρ c main_arg2 (by decide)]
  pointwise

/-- The columns brought to rows of heads. -/
def byHeads (y : FVec Ideal S2x256x8192 .f32) : FVec Ideal S2x8192x4x64 .f32 :=
  transpose S2x8192x4x64 [0, 3, 1, 2] (shapeCast S2x4x64x8192 y shapeCasts_S2x256x8192_S2x4x64x8192) transposes_S2x4x64x8192_S2x8192x4x64_0_3_1_2

/-- One entry of `byHeads`. -/
theorem byHeads_at (y : FVec Ideal S2x256x8192 .f32) (b : Fin 2) (t : Fin 8192) (h : Fin 4) (e : Fin 64) :
    byHeads y (ix4 b t h e) = y (ix3 b ⟨h.val * 64 + e.val, by omega⟩ t) := by
  pointwise [byHeads]

/-- The keys at the end of the program, over what the second call left. -/
theorem end_keys (c : Dev nD) : W11 m ρ c (Proc.devRef .tc main_v28) = byHeads (outK (V9 m ρ c main_v0) (V9 m ρ c main_v25) (V9 m ρ c main_v1) (cosT (V7 m ρ c main_v23)) (upT (V7 m ρ c main_v23)) (downT (V7 m ρ c main_v23))) := by
  have h : W11 m ρ c (Proc.devRef .tc main_v28) = byHeads (W10 m ρ c (Proc.devRef .tc main_v26_0) : FVec Ideal S2x256x8192 .f32) := by
    show StableHlo.after hostOps2 (W10 m ρ c) (Proc.devRef .tc main_v28) = _
    after_results; rfl
  have h6 : W10 m ρ c (Proc.devRef .tc main_v26_0) = _ := (W10_arr m ρ c 6).trans (keys1 (V9 m ρ) c)
  have h0 : V9 m ρ c main_v24_0 = cosT (V7 m ρ c main_v23) := (W9_of m ρ c main_v24_0 (by decide)).trans ((W8_arr m ρ c 1).trans (cos0 (V7 m ρ) c))
  have h1 : V9 m ρ c main_v24_1 = upT (V7 m ρ c main_v23) := (W9_of m ρ c main_v24_1 (by decide)).trans ((W8_arr m ρ c 2).trans (up0 (V7 m ρ) c))
  have h2 : V9 m ρ c main_v24_2 = downT (V7 m ρ c main_v23) := (W9_of m ρ c main_v24_2 (by decide)).trans ((W8_arr m ρ c 3).trans (down0 (V7 m ρ) c))
  rw [h, h6, h0, h1, h2]

/-- The values at the end of the program, over what the second call left. -/
theorem end_vals (c : Dev nD) : W11 m ρ c (Proc.devRef .tc main_v30) = byHeads (outV (V9 m ρ c main_v0) (V9 m ρ c main_v25) (V9 m ρ c main_v1)) := by
  have h : W11 m ρ c (Proc.devRef .tc main_v30) = byHeads (W10 m ρ c (Proc.devRef .tc main_v26_1) : FVec Ideal S2x256x8192 .f32) := by
    show StableHlo.after hostOps2 (W10 m ρ c) (Proc.devRef .tc main_v30) = _
    after_results; rfl
  have h7 : W10 m ρ c (Proc.devRef .tc main_v26_1) = _ := (W10_arr m ρ c 7).trans (vals1 (V9 m ρ) c)
  rw [h, h7]

/-- The tables at a row and a lane of a head. -/
theorem tables (c : Dev nD) (t : Fin 8192) (h : Fin 4) (e : Fin 64) :
    cosT (V7 m ρ c main_v23) (ix2 t ⟨(h.val * 64 + e.val) % 128, by omega⟩) = (if h : e.val < 16 then Ideal.cos (angle (BitVec.ofNat 32 t.val) ⟨e.val % 8, by omega⟩) else 1)
    ∧ upT (V7 m ρ c main_v23) (ix2 t ⟨(h.val * 64 + e.val) % 128, by omega⟩) = (if h : e.val < 8 then 0 - Ideal.sin (angle (BitVec.ofNat 32 t.val) ⟨e.val % 8, by omega⟩) else 0)
    ∧ downT (V7 m ρ c main_v23) (ix2 t ⟨(h.val * 64 + e.val) % 128, by omega⟩) = (if h : 8 ≤ e.val ∧ e.val < 16 then Ideal.sin (angle (BitVec.ofNat 32 t.val) ⟨e.val % 8, by omega⟩) else 0) := by
  have hl : (h.val * 64 + e.val) % 128 % 64 = e.val := by omega
  have hf : e.val < 16 → V7 m ρ c main_v23 (ix2 0 ⟨(h.val * 64 + e.val) % 128, by omega⟩ : S1x128.Idx) = freq ⟨e.val % 8, by omega⟩ := by
    intro h16
    rw [lane_freq, if_pos (by show (h.val * 64 + e.val) % 128 % 64 < 16; omega)]
    exact congrArg freq (Fin.ext (by show (h.val * 64 + e.val) % 128 % 8 = e.val % 8; omega))
  refine ⟨?_, ?_, ?_⟩
  · show (if (h.val * 64 + e.val) % 128 % 64 < 16 then Ideal.cos (FloatOps.sitofp (F := Ideal) .f32 (BitVec.ofNat 32 t.val) * V7 m ρ c main_v23 (ix2 0 ⟨(h.val * 64 + e.val) % 128, by omega⟩ : S1x128.Idx)) else 1) = _
    rw [hl]
    split
    · rw [hf (by omega)]; rfl
    · rfl
  · show (if (h.val * 64 + e.val) % 128 % 64 < 8 then 0 - Ideal.sin (FloatOps.sitofp (F := Ideal) .f32 (BitVec.ofNat 32 t.val) * V7 m ρ c main_v23 (ix2 0 ⟨(h.val * 64 + e.val) % 128, by omega⟩ : S1x128.Idx)) else 0) = _
    rw [hl]
    split
    · rw [hf (by omega)]; rfl
    · rfl
  · show (if 8 ≤ (h.val * 64 + e.val) % 128 % 64 ∧ (h.val * 64 + e.val) % 128 % 64 < 16 then Ideal.sin (FloatOps.sitofp (F := Ideal) .f32 (BitVec.ofNat 32 t.val) * V7 m ρ c main_v23 (ix2 0 ⟨(h.val * 64 + e.val) % 128, by omega⟩ : S1x128.Idx)) else 0) = _
    rw [hl]
    split
    · rw [hf (by omega)]; rfl
    · rfl

open Cert.Reference7Ideal.Kv (keys vals keys_at vals_at)

/-- The values the program ends with are the reference's. -/
theorem final_vals (c : Dev nD) : W11 m ρ c (Proc.devRef .tc main_v30) = vals (m ((c : Thread nD τ).loc main_arg0)) (m ((c : Thread nD τ).loc main_arg1)) (m ((c : Thread nD τ).loc main_arg2)) := by
  rw [end_vals]
  funext i
  idx_vars i
  rw [byHeads_at, vals_at]
  show valAt (V9 m ρ c main_v0) (V9 m ρ c main_v25) (V9 m ρ c main_v1) i0 ⟨i2.val * 64 + i3.val, by omega⟩ i1 = _
  unfold valAt
  exact proj_congr (in1_x m ρ c i0 i1) (in1_g m ρ c) (fun k => in1_w m ρ c k _)

/-- The keys the program ends with are the reference's. -/
theorem final_keys (c : Dev nD) : W11 m ρ c (Proc.devRef .tc main_v28) = keys (m ((c : Thread nD τ).loc main_arg0)) (m ((c : Thread nD τ).loc main_arg1)) (m ((c : Thread nD τ).loc main_arg2)) := by
  rw [end_keys]
  funext i
  idx_vars i
  rw [byHeads_at, keys_at]
  obtain ⟨hC, hU, hD⟩ := tables m ρ c i1 i2 i3
  refine turn_of_tables _ _ i3 _ _ _ _ _ _ ?_ hC hU hD (fun h => ?_) (fun h => ?_)
  · exact proj_congr (in1_x m ρ c i0 i1) (in1_g m ρ c) (fun k => in1_w m ρ c k _)
  · refine proj_congr (in1_x m ρ c i0 i1) (in1_g m ρ c) (fun k => (in1_w m ρ c k _).trans (congrArg (fun z : Fin 512 => m ((c : Thread nD τ).loc main_arg2) (ix2 k z : S1024x512.Idx)) (Fin.ext ?_)))
    show (i2.val * 64 + i3.val + 256 - 248) % 256 = i2.val * 64 + (8 + i3.val)
    omega
  · refine proj_congr (in1_x m ρ c i0 i1) (in1_g m ρ c) (fun k => (in1_w m ρ c k _).trans (congrArg (fun z : Fin 512 => m ((c : Thread nD τ).loc main_arg2) (ix2 k z : S1024x512.Idx)) (Fin.ext ?_)))
    show (i2.val * 64 + i3.val + 256 - 8) % 256 = i2.val * 64 + (i3.val - 8)
    omega

/-- What the program ends with: the reference's keys and values, the arguments as launched. -/
theorem ends_with : θ_run defs (onTc (τ := τ) main) ⟨m, fun _ => 0, ρ⟩ (fun r => ∀ c : Dev nD,
      r.2.mem ((c.tc : Thread nD τ).loc main_v28) = keys (m ((c : Thread nD τ).loc main_arg0)) (m ((c : Thread nD τ).loc main_arg1)) (m ((c : Thread nD τ).loc main_arg2))
      ∧ r.2.mem ((c.tc : Thread nD τ).loc main_v30) = vals (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v28 (by decide))).trans (final_keys m ρ c), (h c _ (mem_uc main_v30 (by decide))).trans (final_vals m ρ c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c)⟩) (ends m ρ)

end Cert.Kernel7Ideal.Kv
end
-- ==== Proof.ConvSampleRun.lean ====
module

public import proofs.«01_k».proof.Proof.Gen.Kernel8Ideal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

namespace Cert.Kernel8Ideal.Gen

variable {F : FTy → Type} [FloatOps F]
variable (m : (ℓ : Loc nD τ sig) → Buf (Elt F) ℓ) (ρ : Dev nD → PrngReg)

set_option backward.isDefEq.respectTransparency.types false in
/-- At the end of the program every buffer of the device's memory holds what the last stretch of host operations left. -/
theorem ends : θ_run defs (onTc (τ := τ) (main (F := F))) ⟨m, fun _ => 0, ρ⟩
    (fun r => ∀ c : Dev nD, ∀ b ∈ Pipeline.ucRefs τ sig, r.2.mem (((c : Thread nD τ)).1, b) = W7 m ρ c b) := by
  refine Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => ?_⟩)
    (hinit := ?_)
    (QY := fun c s => ∀ b ∈ Pipeline.ucRefs τ sig, s.mem (((c : Thread nD τ)).1, b) = W7 m ρ c b)
    (hfin := fun c s' => ?_)
    (hQ := fun s h _ => h)
  · iintro Hu; imodintro
    isplitl [Hu]
    · iapply (show (ownU (initOf (Pipeline.cells cfgs cellOf_inj) (Pipeline.launchToks cfgs cellOf_inj)) : sProp (MT nD τ sig Unit (Elt F) ℕ (UR sig nD τ) ℕ))
          ⊢ BI.own (emb₁ (initOf (Pipeline.cells cfgs cellOf_inj) (Pipeline.launchToks cfgs cellOf_inj))) from .rfl)
      iexact Hu
    iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
    iempintro
  · dsimp only [Pipeline.Seg.post, hseg, Pipeline.HostSeg.ofOps]
    iintro ⟨Hh, Hp, HO⟩
    isplitl [Hh Hp]
    · isplitl [Hh]
      · iexact Hh
      · iexact Hp
    · iexact HO
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]
    · iexact Hh
    isplitl [Hp]
    · iexists _; iexact Hp
    · iexists ∅; iexact HO
  · iintro ⟨⟨Hh, -⟩, HSI⟩
    unfold StableHlo.held
    imodintro
    iapply (pointsTo_read_all (Pipeline.ucRefs τ sig) (fun b => (((c : Thread nD τ)).1, b)) (W7 m ρ c) s')
    isplitl [Hh] <;> iassumption

end Cert.Kernel8Ideal.Gen

end
-- ==== Proof.Taps.lean ====
module

public import proofs.«01_k».proof.Proof.Rows

@[expose] public section

noncomputable section

open Idealize.ShloMosaic

namespace Cert.Taps

/-- Four weighted neighbours, added. -/
def mixed (p : Fin 4 → EReal) (w : Fin 4 → EReal) : EReal := p 0 * w 0 + p 1 * w 1 + p 2 * w 2 + p 3 * w 3

/-- `silu`. -/
def silu (y : EReal) : EReal := y * Ideal.div 1 (1 + Ideal.exp (-y))

/-- Three rows of a history, then the rows of a batch. -/
def padded {n : ℕ} (h : Fin 3 → EReal) (u : Fin n → EReal) (q : Fin (n + 3)) : EReal := if hq : q.val < 3 then h ⟨q.val, hq⟩ else u ⟨q.val - 3, by omega⟩

/-- A row of the convolution over a history and a batch. -/
def convAt {n : ℕ} (h : Fin 3 → EReal) (u : Fin n → EReal) (w : Fin 4 → EReal) (r : Fin n) : EReal :=
  silu (mixed (fun j => padded h u ⟨j.val + r.val, by omega⟩) w)

end Cert.Taps
end
-- ==== Proof.ConvSampleRef.lean ====
module

public import proofs.«01_k».proof.Proof.Gen.Reference8Ideal
public import proofs.«01_k».proof.Proof.Rows
public import proofs.«01_k».proof.Proof.Taps
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference8Ideal.Conv

open Cert.Reference8Ideal Cert.Reference8Ideal.Gen
open Cert.Rows (normed proj)
open Cert.Taps (mixed silu padded convAt)

/-- Every row over its root mean square, times a gain, times a weight matrix. -/
def projRows (x : FVec Ideal S32x4x1024 .f32) (g : FVec Ideal S1024 .f32) (w : FVec Ideal S1024x3352 .f32) : FVec Ideal S32x4x3352 .f32 :=
  Host.dotGeneral dot_S32x4x1024_S1024x3352_S32x4x3352_2_0_01_1_n_n none
    (mulf (mulf x (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf x x) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32))))))
      (broadcastInDim S32x4x1024 ![0, 1, 2] bcast_S1x1x1024_S32x4x1024_0_1_2 (broadcastInDim S1x1x1024 ![2] bcast_S1024_S1x1x1024_2 g))) w

/-- One entry of `projRows`. -/
theorem projRows_at (x : FVec Ideal S32x4x1024 .f32) (g : FVec Ideal S1024 .f32) (w : FVec Ideal S1024x3352 .f32) (b : Fin 32) (r : Fin 4) (j : Fin 3352) :
    projRows x g w (ix3 b r j) = proj (fun k => x (ix3 b r k)) (fun k => g (ix1 k)) (fun k => w (ix2 k j)) := by
  pointwise [projRows]
  rfl

/-- The gains of the first layer. -/
def gain (g : FVec Ideal S2x1024 .f32) : FVec Ideal S1024 .f32 := shapeCast S1024 (extractStridedSlice S1x1024 ![0, 0] g slices_S2x1024_S1x1024_0_0) shapeCasts_S1x1024_S1024
/-- One gain. -/
theorem gain_at (g : FVec Ideal S2x1024 .f32) (k : Fin 1024) : gain g (ix1 k) = g (ix2 0 k) := by
  pointwise [gain]
/-- The weights of the layer. -/
def weights (w : FVec Ideal S1x1024x3352 .f32) : FVec Ideal S1024x3352 .f32 := shapeCast S1024x3352 w shapeCasts_S1x1024x3352_S1024x3352
/-- One weight. -/
theorem weights_at (w : FVec Ideal S1x1024x3352 .f32) (k : Fin 1024) (j : Fin 3352) : weights w (ix2 k j) = w (ix3 0 k j) := by
  pointwise [weights]

/-- The projected rows. -/
def rows (x : FVec Ideal S32x4x1024 .f32) (g : FVec Ideal S2x1024 .f32) (w : FVec Ideal S1x1024x3352 .f32) : FVec Ideal S32x4x3352 .f32 := projRows x (gain g) (weights w)
/-- One entry of the projected rows. -/
theorem rows_at (x : FVec Ideal S32x4x1024 .f32) (g : FVec Ideal S2x1024 .f32) (w : FVec Ideal S1x1024x3352 .f32) (b : Fin 32) (t : Fin 4) (j : Fin 3352) :
    rows x g w (ix3 b t j) = proj (fun k => x (ix3 b t k)) (fun k => g (ix2 0 k)) (fun k => w (ix3 0 k j)) := by
  rw [rows, projRows_at]
  simp only [gain_at, weights_at]

/-- The rows that are convolved. -/
def uRows (y : FVec Ideal S32x4x3352 .f32) : FVec Ideal S32x4x2304 .f32 := extractStridedSlice S32x4x2304 ![0, 0, 0] y slices_S32x4x3352_S32x4x2304_0_0_0
/-- The gates. -/
def gates (y : FVec Ideal S32x4x3352 .f32) : FVec Ideal S32x4x768 .f32 := extractStridedSlice S32x4x768 ![0, 0, 2304] y slices_S32x4x3352_S32x4x768_0_0_2304
/-- The queries to the memory. -/
def queries (y : FVec Ideal S32x4x3352 .f32) : FVec Ideal S32x4x256 .f32 := extractStridedSlice S32x4x256 ![0, 0, 3096] y slices_S32x4x3352_S32x4x256_0_0_3096
/-- One entry of `uRows`. -/
theorem uRows_at (y : FVec Ideal S32x4x3352 .f32) (b : Fin 32) (t : Fin 4) (j : Fin 2304) : uRows y (ix3 b t j) = y (ix3 b t ⟨j.val, by omega⟩) := by
  pointwise [uRows]
/-- One entry of `gates`. -/
theorem gates_at (y : FVec Ideal S32x4x3352 .f32) (b : Fin 32) (t : Fin 4) (j : Fin 768) : gates y (ix3 b t j) = y (ix3 b t ⟨2304 + j.val, by omega⟩) := by
  pointwise [gates]
/-- One entry of `queries`. -/
theorem queries_at (y : FVec Ideal S32x4x3352 .f32) (b : Fin 32) (t : Fin 4) (j : Fin 256) : queries y (ix3 b t j) = y (ix3 b t ⟨3096 + j.val, by omega⟩) := by
  pointwise [queries]

/-- The history before the rows. -/
def joined (h : FVec Ideal S32x3x2304 .f32) (u : FVec Ideal S32x4x2304 .f32) : FVec Ideal S32x7x2304 .f32 :=
  concatenate S32x7x2304 1 [⟨S32x3x2304, h⟩, ⟨S32x4x2304, u⟩] concatenates_S32x3x2304_S32x4x2304_S32x7x2304_d1
/-- One entry of `joined`. -/
theorem joined_at (h : FVec Ideal S32x3x2304 .f32) (u : FVec Ideal S32x4x2304 .f32) (b : Fin 32) (q : Fin 7) (j : Fin 2304) :
    joined h u (ix3 b q j) = padded (n := 4) (fun i => h (ix3 b i j)) (fun i => u (ix3 b i j)) q := by
  pointwise [joined]
  rfl

/-- Four weighted neighbours of every row, added. -/
def mix (up : FVec Ideal S32x7x2304 .f32) (w : FVec Ideal S4x2304 .f32) : FVec Ideal S32x4x2304 .f32 :=
  addf (addf (addf (addf (broadcastInDim S32x4x2304 ![] bcast_S_S32x4x2304 (constant S_ .f32 0x00000000#32)) (mulf (extractStridedSlice S32x4x2304 ![0, 0, 0] up slices_S32x7x2304_S32x4x2304_0_0_0) (broadcastInDim S32x4x2304 ![0, 1, 2] bcast_S1x1x2304_S32x4x2304_0_1_2 (broadcastInDim S1x1x2304 ![2] bcast_S2304_S1x1x2304_2 (shapeCast S2304 (extractStridedSlice S1x2304 ![0, 0] w slices_S4x2304_S1x2304_0_0) shapeCasts_S1x2304_S2304)))))
    (mulf (extractStridedSlice S32x4x2304 ![0, 1, 0] up slices_S32x7x2304_S32x4x2304_0_1_0) (broadcastInDim S32x4x2304 ![0, 1, 2] bcast_S1x1x2304_S32x4x2304_0_1_2 (broadcastInDim S1x1x2304 ![2] bcast_S2304_S1x1x2304_2 (shapeCast S2304 (extractStridedSlice S1x2304 ![1, 0] w slices_S4x2304_S1x2304_1_0) shapeCasts_S1x2304_S2304)))))
    (mulf (extractStridedSlice S32x4x2304 ![0, 2, 0] up slices_S32x7x2304_S32x4x2304_0_2_0) (broadcastInDim S32x4x2304 ![0, 1, 2] bcast_S1x1x2304_S32x4x2304_0_1_2 (broadcastInDim S1x1x2304 ![2] bcast_S2304_S1x1x2304_2 (shapeCast S2304 (extractStridedSlice S1x2304 ![2, 0] w slices_S4x2304_S1x2304_2_0) shapeCasts_S1x2304_S2304)))))
    (mulf (extractStridedSlice S32x4x2304 ![0, 3, 0] up slices_S32x7x2304_S32x4x2304_0_3_0) (broadcastInDim S32x4x2304 ![0, 1, 2] bcast_S1x1x2304_S32x4x2304_0_1_2 (broadcastInDim S1x1x2304 ![2] bcast_S2304_S1x1x2304_2 (shapeCast S2304 (extractStridedSlice S1x2304 ![3, 0] w slices_S4x2304_S1x2304_3_0) shapeCasts_S1x2304_S2304))))
/-- One entry of `mix`. -/
theorem mix_at (up : FVec Ideal S32x7x2304 .f32) (w : FVec Ideal S4x2304 .f32) (b : Fin 32) (t : Fin 4) (j : Fin 2304) :
    mix up w (ix3 b t j) = mixed (fun i => up (ix3 b ⟨i.val + t.val, by omega⟩ j)) (fun i => w (ix2 i j)) := by
  pointwise [mix]
  have h : ∀ q : Fin 7, q = ⟨0 + t.val, by omega⟩ → up (ix3 b q j) * w (ix2 0 j) + up (ix3 b ⟨1 + t.val, by omega⟩ j) * w (ix2 1 j) + up (ix3 b ⟨2 + t.val, by omega⟩ j) * w (ix2 2 j) + up (ix3 b ⟨3 + t.val, by omega⟩ j) * w (ix2 3 j) = mixed (fun i => up (ix3 b ⟨i.val + t.val, by omega⟩ j)) (fun i => w (ix2 i j)) := by
    intro q e
    rw [e]
    rfl
  exact h _ (Fin.ext (Nat.zero_add _).symm)

/-- `silu` of every entry. -/
def act (y : FVec Ideal S32x4x2304 .f32) : FVec Ideal S32x4x2304 .f32 :=
  mulf y (Host.divf (broadcastInDim S32x4x2304 ![] bcast_S_S32x4x2304 (constant S_ .f32 0x3F800000#32)) (addf (broadcastInDim S32x4x2304 ![] bcast_S_S32x4x2304 (constant S_ .f32 0x3F800000#32)) (Host.exp (Host.negf y))))
/-- One entry of `act`. -/
theorem act_at (y : FVec Ideal S32x4x2304 .f32) (b : Fin 32) (t : Fin 4) (j : Fin 2304) : act y (ix3 b t j) = silu (y (ix3 b t j)) := by
  pointwise [act]
  rfl

/-- The reference's convolved rows. -/
def conv (x : FVec Ideal S32x4x1024 .f32) (g : FVec Ideal S2x1024 .f32) (w : FVec Ideal S1x1024x3352 .f32) (h : FVec Ideal S1x32x3x2304 .f32) (c : FVec Ideal S1x4x2304 .f32) : FVec Ideal S32x4x2304 .f32 :=
  act (mix (joined (shapeCast S32x3x2304 h shapeCasts_S1x32x3x2304_S32x3x2304) (uRows (rows x g w))) (shapeCast S4x2304 c shapeCasts_S1x4x2304_S4x2304))
/-- The reference's new history. -/
def hist (x : FVec Ideal S32x4x1024 .f32) (g : FVec Ideal S2x1024 .f32) (w : FVec Ideal S1x1024x3352 .f32) (h : FVec Ideal S1x32x3x2304 .f32) : FVec Ideal S1x32x3x2304 .f32 :=
  broadcastInDim S1x32x3x2304 ![1, 2, 3] bcast_S32x3x2304_S1x32x3x2304_1_2_3 (extractStridedSlice S32x3x2304 ![0, 4, 0] (joined (shapeCast S32x3x2304 h shapeCasts_S1x32x3x2304_S32x3x2304) (uRows (rows x g w))) slices_S32x7x2304_S32x3x2304_0_4_0)

/-- One entry of the history as the program reads it. -/
theorem old_at (h : FVec Ideal S1x32x3x2304 .f32) (b : Fin 32) (i : Fin 3) (j : Fin 2304) : shapeCast S32x3x2304 h shapeCasts_S1x32x3x2304_S32x3x2304 (ix3 b i j) = h (ix4 0 b i j) := by
  pointwise
/-- One tap as the program reads it. -/
theorem tap_at (c : FVec Ideal S1x4x2304 .f32) (i : Fin 4) (j : Fin 2304) : shapeCast S4x2304 c shapeCasts_S1x4x2304_S4x2304 (ix2 i j) = c (ix3 0 i j) := by
  pointwise

/-- One entry of the convolved rows. -/
theorem conv_at (x : FVec Ideal S32x4x1024 .f32) (g : FVec Ideal S2x1024 .f32) (w : FVec Ideal S1x1024x3352 .f32) (h : FVec Ideal S1x32x3x2304 .f32) (c : FVec Ideal S1x4x2304 .f32) (b : Fin 32) (t : Fin 4) (j : Fin 2304) :
    conv x g w h c (ix3 b t j) = convAt (fun i => h (ix4 0 b i j)) (fun i => proj (fun k => x (ix3 b i k)) (fun k => g (ix2 0 k)) (fun k => w (ix3 0 k ⟨j.val, by omega⟩))) (fun i => c (ix3 0 i j)) t := by
  rw [conv, act_at, mix_at]
  simp only [joined_at, tap_at, old_at, uRows_at, rows_at]
  rfl

/-- One entry of the new history. -/
theorem hist_at (x : FVec Ideal S32x4x1024 .f32) (g : FVec Ideal S2x1024 .f32) (w : FVec Ideal S1x1024x3352 .f32) (h : FVec Ideal S1x32x3x2304 .f32) (b : Fin 32) (i : Fin 3) (j : Fin 2304) :
    hist x g w h (ix4 0 b i j) = proj (fun k => x (ix3 b ⟨1 + i.val, by omega⟩ k)) (fun k => g (ix2 0 k)) (fun k => w (ix3 0 k ⟨j.val, by omega⟩)) := by
  have e : hist x g w h (ix4 0 b i j) = joined (shapeCast S32x3x2304 h shapeCasts_S1x32x3x2304_S32x3x2304) (uRows (rows x g w)) (ix3 b ⟨4 + i.val, by omega⟩ j) := by
    pointwise [hist]
  rw [e, joined_at, padded, dif_neg (by show ¬ 4 + i.val < 3; omega), uRows_at, rows_at]
  have f : (⟨4 + i.val - 3, by omega⟩ : Fin 4) = ⟨1 + i.val, by omega⟩ := Fin.ext (by show 4 + i.val - 3 = 1 + i.val; omega)
  rw [f]

set_option maxHeartbeats 2000000 in
/-- What the reference ends with: its results, the arguments as launched. -/
theorem ends_with (m : (ℓ : Loc nD τ sig) → Buf (Elt Ideal) ℓ) (ρ : Dev nD → PrngReg) : θ_run (defs (F := Ideal)) (onTc (τ := τ) (main (F := Ideal))) ⟨m, fun _ => 0, ρ⟩ (fun r => ∀ c : Dev nD,
      r.2.mem ((c.tc : Thread nD τ).loc main_v54) = conv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v18) = gates (rows (m ((c.tc : Thread nD τ).loc main_arg0)) (m ((c.tc : Thread nD τ).loc main_arg1)) (m ((c.tc : Thread nD τ).loc main_arg2)))
      ∧ r.2.mem ((c.tc : Thread nD τ).loc main_v21) = queries (rows (m ((c.tc : Thread nD τ).loc main_arg0)) (m ((c.tc : Thread nD τ).loc main_arg1)) (m ((c.tc : Thread nD τ).loc main_arg2)))
      ∧ r.2.mem ((c.tc : Thread nD τ).loc main_v56) = hist (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine θ_run_mono (Idealize.ShloMosaic.StableHlo.run_hlo _ _ (by hlo_seq) (by decide) (by decide) (by simp) (by intro _ h; (repeat (cases h with | head => rfl | tail _ h => ?_)); exact nomatch h) _ _) ?_
  intro r hr c
  refine ⟨(hr c main_v54).trans ?_, (hr c main_v18).trans ?_, (hr c main_v21).trans ?_, (hr c main_v56).trans ?_, (hr c main_arg0).trans ?_, (hr c main_arg1).trans ?_, (hr c main_arg2).trans ?_, (hr c main_arg3).trans ?_, (hr c main_arg4).trans ?_⟩
  all_goals after_results_simp
  all_goals rfl

end Cert.Reference8Ideal.Conv
end
-- ==== Proof.ConvSampleCalls.lean ====
module

public import proofs.«01_k».proof.Proof.ConvSampleRun
public import proofs.«01_k».proof.Proof.ConvSampleRef
public import Idealize.ShloMosaic.Lib.Pipeline.ValueKit
public import Idealize.ShloMosaic.Lib.Routing.OpsSet
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.Conv
open Cert.Kernel8Ideal Cert.Kernel8Ideal.Gen
open Cert.Rows (normed proj)
open Cert.Taps (mixed silu padded convAt)

/-- The history's rows stored at row 5, the batch's at row 8. -/
abbrev stored (a : FVec Ideal S3x2304 .f32) (b : FVec Ideal S4x2304 .f32) : List (View.Piece (Elt Ideal) S12x2304 .f32) :=
  [⟨Rect.unit ![5, 0] ![3, 2304] inb_S12x2304_S3x2304_5_0, a⟩, ⟨Rect.unit ![8, 0] ![4, 2304] inb_S12x2304_S4x2304_8_0, b⟩]

/-- One entry of what is stored there. -/
theorem canon_pad (a : FVec Ideal S3x2304 .f32) (b : FVec Ideal S4x2304 .f32) (q : Fin 7) (c : Fin 2304) :
    View.canon (stored a b) (ix2 ⟨5 + q.val, by omega⟩ c : S12x2304.Idx) = padded (n := 4) (fun i => a (ix2 i c)) (fun i => b (ix2 i c)) q := by
  unfold padded
  split
  · next hq =>
    have he : (ix2 ⟨5 + q.val, by omega⟩ c : S12x2304.Idx) = (Rect.unit (s := S12x2304) ![5, 0] ![3, 2304] inb_S12x2304_S3x2304_5_0).emb (ix2 ⟨q.val, hq⟩ c : S3x2304.Idx) := by
      funext i; apply Fin.ext; fin_cases i
      · show 5 + q.val = 5 + 1 * q.val; omega
      · show c.val = 0 + 1 * c.val; omega
    rw [he]
    exact View.canon_cons_emb _ _ _ _
  · next hq =>
    rw [View.canon_cons_of_not_mem]
    · have he : (ix2 ⟨5 + q.val, by omega⟩ c : S12x2304.Idx) = (Rect.unit (s := S12x2304) ![8, 0] ![4, 2304] inb_S12x2304_S4x2304_8_0).emb (ix2 ⟨q.val - 3, by omega⟩ c : S4x2304.Idx) := by
        funext i; apply Fin.ext; fin_cases i
        · show 5 + q.val = 8 + 1 * (q.val - 3); omega
        · show c.val = 0 + 1 * c.val; omega
      rw [he]
      exact View.canon_cons_emb _ _ _ _
    · intro hm
      have h1 : 5 + q.val < 5 + 3 := ((Rect.mem_set_unit (inb := inb_S12x2304_S3x2304_5_0)).mp hm 0).2
      omega

/-- Four rows read from there. -/
theorem read_pad {v : View sig .tc .vmem S12x2304 .f32} (a : FVec Ideal S3x2304 .f32) (b : FVec Ideal S4x2304 .f32) (o : ℕ) (ho : o ≤ 3) (inb) (r : Fin 4) (c : Fin 2304) :
    v.readCov (stored a b) (Rect.unit (s := S12x2304) ![5 + o, 0] ![4, 2304] inb).toLoadRect (ix2 r c : S4x2304.Idx) = padded (n := 4) (fun i => a (ix2 i c)) (fun i => b (ix2 i c)) ⟨o + r.val, by omega⟩ := by
  rw [View.readCov_eq_canon']
  refine Eq.trans (congrArg (View.canon (stored a b)) ?_) (canon_pad a b ⟨o + r.val, by omega⟩ c)
  funext i; apply Fin.ext; fin_cases i
  · show 5 + o + 1 * r.val = 5 + (o + r.val); omega
  · show 0 + 1 * c.val = c.val; omega
/-- Three rows read from there. -/
theorem read_pad3 {v : View sig .tc .vmem S12x2304 .f32} (a : FVec Ideal S3x2304 .f32) (b : FVec Ideal S4x2304 .f32) (inb) (r : Fin 3) (c : Fin 2304) :
    v.readCov (stored a b) (Rect.unit (s := S12x2304) ![9, 0] ![3, 2304] inb).toLoadRect (ix2 r c : S3x2304.Idx) = padded (n := 4) (fun i => a (ix2 i c)) (fun i => b (ix2 i c)) ⟨4 + r.val, by omega⟩ := by
  rw [View.readCov_eq_canon']
  refine Eq.trans (congrArg (View.canon (stored a b)) ?_) (canon_pad a b ⟨4 + r.val, by omega⟩ c)
  funext i; apply Fin.ext; fin_cases i
  · show 9 + 1 * r.val = 5 + (4 + r.val); omega
  · show 0 + 1 * c.val = c.val; omega

/-- Where each window's block lies at each grid point of the first call. -/
theorem idx0 : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] :=
  (by decide +kernel : ∀ t : Fin grid0.N, _)

variable (V : (c : Dev nD) → (b : Ref sig .tc) → Buf (Elt Ideal) ((c : Thread nD τ).loc b))

/-- The projection of equal rows, gains and columns. -/
theorem proj_congr {x x' g g' w w' : Fin 1024 → EReal} (hx : ∀ k, x k = x' k) (hg : ∀ k, g k = g' k) (hw : ∀ k, w k = w' k) :
    proj x g w = proj x' g' w' := by
  obtain rfl : x = x' := funext hx
  obtain rfl : g = g' := funext hg
  obtain rfl : w = w' := funext hw
  rfl

/-- The padded rows of equal histories and rows. -/
theorem padded_congr {h h' : Fin 3 → EReal} {u u' : Fin 4 → EReal} (q : Fin 7) (hh : ∀ i, h i = h' i) (hu : ∀ i, u i = u' i) : padded (n := 4) h u q = padded (n := 4) h' u' q := by
  obtain rfl : h = h' := funext hh
  obtain rfl : u = u' := funext hu
  rfl

/-- The columns that are convolved, of one block. -/
theorem left_rows (x : FVec Ideal S128x1024 .f32) (g : FVec Ideal S1x1024 .f32) (w : FVec Ideal S1024x2304 .bf16) (r : Fin 128) (j : Fin 2304) :
    k0_pay3 (F := Ideal) x g w (ix2 r j) = proj (fun k => x (ix2 r k)) (fun k => g (ix2 0 k)) (fun k => w (ix2 k j)) := by
  pointwise [k0_pay3, k0_pay2]
  rfl

/-- The columns that are convolved, read in place. -/
theorem left_at (z : FVec Ideal S1024x3456 .bf16) (k : Fin 1024) (j : Fin 2304) :
    View.ld (Val := Elt Ideal) (e' := .bf16) z r0_2 (ix2 k j : S1024x2304.Idx) = z (ix2 k ⟨0 + j.val, by omega⟩) := by
  pointwise

/-- The columns of the gates, of one block. -/
theorem mid_rows (x : FVec Ideal S128x1024 .f32) (g : FVec Ideal S1x1024 .f32) (w : FVec Ideal S1024x768 .bf16) (r : Fin 128) (j : Fin 768) :
    k0_pay4 (F := Ideal) x g w (ix2 r j) = proj (fun k => x (ix2 r k)) (fun k => g (ix2 0 k)) (fun k => w (ix2 k j)) := by
  pointwise [k0_pay4, k0_pay2]
  rfl

/-- The columns of the gates, read in place. -/
theorem mid_at (z : FVec Ideal S1024x3456 .bf16) (k : Fin 1024) (j : Fin 768) :
    View.ld (Val := Elt Ideal) (e' := .bf16) z r0_4 (ix2 k j : S1024x768.Idx) = z (ix2 k ⟨2304 + j.val, by omega⟩) := by
  pointwise

/-- The columns of the queries, of one block. -/
theorem right_rows (x : FVec Ideal S128x1024 .f32) (g : FVec Ideal S1x1024 .f32) (w : FVec Ideal S1024x256 .bf16) (r : Fin 128) (j : Fin 256) :
    k0_pay5 (F := Ideal) x g w (ix2 r j) = proj (fun k => x (ix2 r k)) (fun k => g (ix2 0 k)) (fun k => w (ix2 k j)) := by
  pointwise [k0_pay5, k0_pay2]
  rfl

/-- The columns of the queries, read in place. -/
theorem right_at (z : FVec Ideal S1024x3456 .bf16) (k : Fin 1024) (j : Fin 256) :
    View.ld (Val := Elt Ideal) (e' := .bf16) z r0_6 (ix2 k j : S1024x256.Idx) = z (ix2 k ⟨3072 + j.val, by omega⟩) := by
  pointwise

/-- One row of the first call's rows. -/
theorem blk0_x (c : Dev nD) (t : Fin cfg0.N) (r : Fin 128) (k : Fin 1024) : iblk0 V c 0 t (ix2 r k : S128x1024.Idx) = V c main_v0 (ix2 r k : S128x1024.Idx) := by
  blk_point [iblk0, idx0 t]
/-- The first call's gains. -/
theorem blk0_g (c : Dev nD) (t : Fin cfg0.N) (k : Fin 1024) : iblk0 V c 1 t (ix2 0 k : S1x1024.Idx) = V c main_v10 (ix2 0 k : S1x1024.Idx) := by
  blk_point [iblk0, idx0 t]
/-- The first call's weights. -/
theorem blk0_w (c : Dev nD) (t : Fin cfg0.N) (k : Fin 1024) (j : Fin 3456) : iblk0 V c 2 t (ix2 k j : S1024x3456.Idx) = V c main_v9 (ix2 k j : S1024x3456.Idx) := by
  blk_point [iblk0, idx0 t]

/-- The columns that are convolved, as an array over rows. -/
def leftOut (X : FVec Ideal S128x1024 .f32) (G : FVec Ideal S1x1024 .f32) (W : FVec Ideal S1024x3456 .bf16) : FVec Ideal S128x2304 .f32 := fun i =>
  proj (fun k => X (ix2 (i 0) k)) (fun k => G (ix2 0 k)) (fun k => W (ix2 k ⟨0 + (i 1).val, by have := (i 1).isLt; simp at *; omega⟩))

/-- What the first call leaves in its output 3. -/
theorem left0 (c : Dev nD) : (dat0 V c).arrAt 3 cfg0.N = leftOut (V c main_v0) (V c main_v10) (V c main_v9) := by
  refine (dat0 V c).arrAt_eq_of_covers 3 _ (by decide +kernel) fun t hf y => ?_
  blk_simp; rw [after0_3]; frame_out
  idx_vars y
  have he : ((View.whole main_v11_0).slice (win0_3.rect t)).emb (ix2 y0 y1) = (ix2 y0 y1 : S128x2304.Idx) := by blk_ext [idx0 t]
  rw [he]
  exact (left_rows _ _ _ y0 y1).trans (proj_congr (fun k => blk0_x V c t y0 k) (fun k => blk0_g V c t k) (fun k => (left_at _ k y1).trans (blk0_w V c t k _)))

/-- The columns of the gates, as an array over rows. -/
def midOut (X : FVec Ideal S128x1024 .f32) (G : FVec Ideal S1x1024 .f32) (W : FVec Ideal S1024x3456 .bf16) : FVec Ideal S128x768 .f32 := fun i =>
  proj (fun k => X (ix2 (i 0) k)) (fun k => G (ix2 0 k)) (fun k => W (ix2 k ⟨2304 + (i 1).val, by have := (i 1).isLt; simp at *; omega⟩))

/-- What the first call leaves in its output 4. -/
theorem mid0 (c : Dev nD) : (dat0 V c).arrAt 4 cfg0.N = midOut (V c main_v0) (V c main_v10) (V c main_v9) := by
  refine (dat0 V c).arrAt_eq_of_covers 4 _ (by decide +kernel) fun t hf y => ?_
  blk_simp; rw [after0_4]; frame_out
  idx_vars y
  have he : ((View.whole main_v11_1).slice (win0_4.rect t)).emb (ix2 y0 y1) = (ix2 y0 y1 : S128x768.Idx) := by blk_ext [idx0 t]
  rw [he]
  exact (mid_rows _ _ _ y0 y1).trans (proj_congr (fun k => blk0_x V c t y0 k) (fun k => blk0_g V c t k) (fun k => (mid_at _ k y1).trans (blk0_w V c t k _)))

/-- The columns of the queries, as an array over rows. -/
def rightOut (X : FVec Ideal S128x1024 .f32) (G : FVec Ideal S1x1024 .f32) (W : FVec Ideal S1024x3456 .bf16) : FVec Ideal S128x256 .f32 := fun i =>
  proj (fun k => X (ix2 (i 0) k)) (fun k => G (ix2 0 k)) (fun k => W (ix2 k ⟨3072 + (i 1).val, by have := (i 1).isLt; simp at *; omega⟩))

/-- What the first call leaves in its output 5. -/
theorem right0 (c : Dev nD) : (dat0 V c).arrAt 5 cfg0.N = rightOut (V c main_v0) (V c main_v10) (V c main_v9) := by
  refine (dat0 V c).arrAt_eq_of_covers 5 _ (by decide +kernel) fun t hf y => ?_
  blk_simp; rw [after0_5]; frame_out
  idx_vars y
  have he : ((View.whole main_v11_2).slice (win0_5.rect t)).emb (ix2 y0 y1) = (ix2 y0 y1 : S128x256.Idx) := by blk_ext [idx0 t]
  rw [he]
  exact (right_rows _ _ _ y0 y1).trans (proj_congr (fun k => blk0_x V c t y0 k) (fun k => blk0_g V c t k) (fun k => (right_at _ k y1).trans (blk0_w V c t k _)))

/-- Where each window's block lies at each grid point of the second call. -/
theorem idx1 : ∀ t : Fin cfg1.N, win1_0.index t = ![t.val, 0, 0] ∧ win1_2.index t = ![t.val, 0, 0] ∧ win1_3.index t = ![0, 0] ∧ win1_4.index t = ![t.val, 0, 0]
    ∧ win1_5.index t = ![t.val, 0, 0] :=
  (by decide +kernel : ∀ t : Fin grid1.N, _)

/-- The batch's rows as stored. -/
theorem new_at (x : FVec Ideal S1x4x2304 .f32) (i : Fin 4) (j : Fin 2304) : k1_pay3 (F := Ideal) x (ix2 i j) = x (ix3 0 i j) := by
  pointwise [k1_pay3]
/-- The history's rows as stored. -/
theorem old_at (x : FVec Ideal S1x3x2304 .f32) (i : Fin 3) (j : Fin 2304) : k1_pay4 (F := Ideal) x (ix2 i j) = x (ix3 0 i j) := by
  pointwise [k1_pay4]
/-- The new history as written. -/
theorem hist_at1 (x : FVec Ideal S3x2304 .f32) (i : Fin 3) (j : Fin 2304) : k1_pay2 (F := Ideal) x (ix3 0 i j) = x (ix2 i j) := by
  pointwise [k1_pay2]
/-- The convolved rows as written. -/
theorem conv_at1 (a b c d : FVec Ideal S4x2304 .f32) (p q r s : FVec Ideal S1x2304 .f32) (i : Fin 4) (j : Fin 2304) :
    k1_pay1 (F := Ideal) (k1_pay6 a p b q c r) d s (ix3 0 i j) = silu (a (ix2 i j) * p (ix2 0 j) + b (ix2 i j) * q (ix2 0 j) + c (ix2 i j) * r (ix2 0 j) + d (ix2 i j) * s (ix2 0 j)) := by
  pointwise [k1_pay1, k1_pay6]
  rw [silu]
  simp only [zero_sub]
/-- Tap 0, read in place. -/
theorem tap0 (z : FVec Ideal S4x2304 .f32) (j : Fin 2304) :
    View.ld (Val := Elt Ideal) (e' := .f32) z (Rect.unit (s := S4x2304) ![0, 0] ![1, 2304] inb_S4x2304_S1x2304_0_0) (ix2 0 j : S1x2304.Idx) = z (ix2 0 j) := by
  pointwise
/-- Tap 1, read in place. -/
theorem tap1 (z : FVec Ideal S4x2304 .f32) (j : Fin 2304) :
    View.ld (Val := Elt Ideal) (e' := .f32) z (Rect.unit (s := S4x2304) ![1, 0] ![1, 2304] inb_S4x2304_S1x2304_1_0) (ix2 0 j : S1x2304.Idx) = z (ix2 1 j) := by
  pointwise
/-- Tap 2, read in place. -/
theorem tap2 (z : FVec Ideal S4x2304 .f32) (j : Fin 2304) :
    View.ld (Val := Elt Ideal) (e' := .f32) z (Rect.unit (s := S4x2304) ![2, 0] ![1, 2304] inb_S4x2304_S1x2304_2_0) (ix2 0 j : S1x2304.Idx) = z (ix2 2 j) := by
  pointwise
/-- Tap 3, read in place. -/
theorem tap3 (z : FVec Ideal S4x2304 .f32) (j : Fin 2304) :
    View.ld (Val := Elt Ideal) (e' := .f32) z (Rect.unit (s := S4x2304) ![3, 0] ![1, 2304] inb_S4x2304_S1x2304_3_0) (ix2 0 j : S1x2304.Idx) = z (ix2 3 j) := by
  pointwise

/-- The rows of one batch entry. -/
theorem blk1_u (c : Dev nD) (t : Fin cfg1.N) (ht : t.val < 32) (i : Fin 4) (j : Fin 2304) : iblk1 V c 0 t (ix3 0 i j : S1x4x2304.Idx) = V c main_v12 (ix3 ⟨t.val, ht⟩ i j : S32x4x2304.Idx) := by
  blk_point [iblk1, idx1 t]
/-- The history of one batch entry. -/
theorem blk1_b (c : Dev nD) (t : Fin cfg1.N) (ht : t.val < 32) (i : Fin 3) (j : Fin 2304) : iblk1 V c 2 t (ix3 0 i j : S1x3x2304.Idx) = V c main_v13 (ix3 ⟨t.val, ht⟩ i j : S32x3x2304.Idx) := by
  blk_point [iblk1, idx1 t]
/-- The taps. -/
theorem blk1_w (c : Dev nD) (t : Fin cfg1.N) (i : Fin 4) (j : Fin 2304) : iblk1 V c 3 t (ix2 i j : S4x2304.Idx) = V c main_v14 (ix2 i j : S4x2304.Idx) := by
  blk_point [iblk1, idx1 t]

/-- The array of convolved rows. -/
def convOut (U : FVec Ideal S32x4x2304 .f32) (B : FVec Ideal S32x3x2304 .f32) (C : FVec Ideal S4x2304 .f32) : FVec Ideal S32x4x2304 .f32 := fun i =>
  convAt (n := 4) (fun q => B (ix3 (i 0) q (i 2))) (fun q => U (ix3 (i 0) q (i 2))) (fun k => C (ix2 k (i 2))) (i 1)
/-- The array of new histories. -/
def histOut (U : FVec Ideal S32x4x2304 .f32) (B : FVec Ideal S32x3x2304 .f32) : FVec Ideal S32x3x2304 .f32 := fun i =>
  padded (n := 4) (fun q => B (ix3 (i 0) q (i 2))) (fun q => U (ix3 (i 0) q (i 2))) ⟨4 + (i 1).val, by have := (i 1).isLt; simp at *; omega⟩

/-- What the second call leaves in its output of new histories. -/
theorem hist1 (c : Dev nD) : (dat1 V c).arrAt 5 cfg1.N = histOut (V c main_v12) (V c main_v13) := by
  refine (dat1 V c).arrAt_eq_of_covers 5 _ (by decide +kernel) fun t hf y => ?_
  blk_simp; rw [after1_5]; unfold outsAt1; frame_out
  idx_vars y
  have ht : t.val < 32 := lt_of_lt_of_eq t.isLt N_1
  obtain rfl : y0 = 0 := Subsingleton.elim _ _
  have he : ((View.whole main_v15_1).slice (win1_5.rect t)).emb (ix3 0 y1 y2) = (ix3 ⟨t.val, ht⟩ y1 y2 : S32x3x2304.Idx) := by blk_ext [idx1 t]
  rw [he]
  refine (hist_at1 _ y1 y2).trans ((read_pad3 _ _ _ y1 y2).trans ?_)
  exact padded_congr _ (fun i => (old_at _ i y2).trans (blk1_b V c t ht i y2)) (fun i => (new_at _ i y2).trans (blk1_u V c t ht i y2))

/-- What the second call leaves in its output of convolved rows. -/
theorem conv1 (c : Dev nD) : (dat1 V c).arrAt 4 cfg1.N = convOut (V c main_v12) (V c main_v13) (V c main_v14) := by
  refine (dat1 V c).arrAt_eq_of_covers 4 _ (by decide +kernel) fun t hf y => ?_
  blk_simp; rw [after1_4]; unfold outsAt1; frame_out
  idx_vars y
  have ht : t.val < 32 := lt_of_lt_of_eq t.isLt N_1
  obtain rfl : y0 = 0 := Subsingleton.elim _ _
  have he : ((View.whole main_v15_0).slice (win1_4.rect t)).emb (ix3 0 y1 y2) = (ix3 ⟨t.val, ht⟩ y1 y2 : S32x4x2304.Idx) := by blk_ext [idx1 t]
  rw [he]
  have hp : ∀ q : Fin 7, padded (n := 4) (fun i => k1_pay4 (F := Ideal) (iblk1 V c 2 t) (ix2 i y2)) (fun i => k1_pay3 (F := Ideal) (iblk1 V c 0 t) (ix2 i y2)) q
      = padded (n := 4) (fun i => V c main_v13 (ix3 ⟨t.val, ht⟩ i y2 : S32x3x2304.Idx)) (fun i => V c main_v12 (ix3 ⟨t.val, ht⟩ i y2 : S32x4x2304.Idx)) q := fun q =>
    padded_congr q (fun i => (old_at _ i y2).trans (blk1_b V c t ht i y2)) (fun i => (new_at _ i y2).trans (blk1_u V c t ht i y2))
  refine (conv_at1 _ _ _ _ _ _ _ _ y1 y2).trans (congrArg silu ?_)
  exact congrArg₂ (· + ·) (congrArg₂ (· + ·) (congrArg₂ (· + ·)
    (congrArg₂ (· * ·) ((read_pad _ _ 0 (by omega) _ y1 y2).trans (hp _)) ((tap0 _ y2).trans (blk1_w V c t 0 y2)))
    (congrArg₂ (· * ·) ((read_pad _ _ 1 (by omega) _ y1 y2).trans (hp _)) ((tap1 _ y2).trans (blk1_w V c t 1 y2))))
    (congrArg₂ (· * ·) ((read_pad _ _ 2 (by omega) _ y1 y2).trans (hp _)) ((tap2 _ y2).trans (blk1_w V c t 2 y2))))
    (congrArg₂ (· * ·) ((read_pad _ _ 3 (by omega) _ y1 y2).trans (hp _)) ((tap3 _ y2).trans (blk1_w V c t 3 y2)))

end Cert.Kernel8Ideal.Conv
end
-- ==== Proof.ConvSample.lean ====
module

public import proofs.«01_k».proof.Proof.ConvSampleCalls
public import Idealize.ShloMosaic.Lib.Pipeline.ValueKit
public import Idealize.ShloMosaic.Lib.Routing.OpsSet
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.Conv
open Cert.Kernel8Ideal Cert.Kernel8Ideal.Gen
open Cert.Rows (normed proj)
open Cert.Taps (mixed silu padded convAt)

variable (m : (ℓ : Loc nD τ sig) → Buf (Elt Ideal) ℓ) (ρ : Dev nD → PrngReg)

/-- One entry of the rows, as the first call finds them. -/
theorem in0_x (c : Dev nD) (b : Fin 32) (t : Fin 4) (k : Fin 1024) : V3 m ρ c main_v0 (ix2 ⟨b.val * 4 + t.val, by omega⟩ k : S128x1024.Idx) = m ((c : Thread nD τ).loc main_arg0) (ix3 b t k : S32x4x1024.Idx) := by
  refine (congrFun ((W3_of m ρ c main_v0 (by decide)).trans ((W2_of m ρ c main_v0 (by decide)))) _).trans ?_
  have h : W1 m ρ c (Proc.devRef .tc main_v0) = shapeCast S128x1024 (W0 m ρ c (Proc.devRef .tc main_arg0) : FVec Ideal S32x4x1024 .f32) shapeCasts_S32x4x1024_S128x1024 := by
    show StableHlo.after hostOps0 (W0 m ρ c) (Proc.devRef .tc main_v0) = _
    after_results; rfl
  rw [h, W0_args m ρ c main_arg0 (by decide)]
  pointwise

/-- One gain, as the first call finds it. -/
theorem in0_g (c : Dev nD) (k : Fin 1024) : V3 m ρ c main_v10 (ix2 0 k : S1x1024.Idx) = m ((c : Thread nD τ).loc main_arg1) (ix2 0 k : S2x1024.Idx) := by
  have h : W3 m ρ c (Proc.devRef .tc main_v10) = shapeCast S1x1024 (W2 m ρ c (Proc.devRef .tc main_v2) : FVec Ideal S1024 .f32) shapeCasts_S1024_S1x1024 := by
    show StableHlo.after hostOps0_2 (W2 m ρ c) (Proc.devRef .tc main_v10) = _
    after_results; rfl
  have h1 : W2 m ρ c (Proc.devRef .tc main_v2) = shapeCast S1024 (extractStridedSlice S1x1024 ![0, 0] (W0 m ρ c (Proc.devRef .tc main_arg1) : FVec Ideal S2x1024 .f32) slices_S2x1024_S1x1024_0_0) shapeCasts_S1x1024_S1024 := by
    refine (W2_of m ρ c main_v2 (by decide)).trans ?_
    show StableHlo.after hostOps0 (W0 m ρ c) (Proc.devRef .tc main_v2) = _
    after_results; rfl
  show W3 m ρ c (Proc.devRef .tc main_v10) _ = _
  rw [h, h1, W0_args m ρ c main_arg1 (by decide)]
  pointwise

/-- The weights of the convolved columns and the gates, as the host leaves them. -/
theorem w2_v4 (c : Dev nD) : W2 m ρ c (Proc.devRef .tc main_v4) = extractStridedSlice S1024x3072 ![0, 0] (shapeCast S1024x3352 (W0 m ρ c (Proc.devRef .tc main_arg2) : FVec Ideal S1x1024x3352 .f32) shapeCasts_S1x1024x3352_S1024x3352) slices_S1024x3352_S1024x3072_0_0 := by
  refine (W2_of m ρ c main_v4 (by decide)).trans ?_
  show StableHlo.after hostOps0 (W0 m ρ c) (Proc.devRef .tc main_v4) = _
  after_results; rfl
/-- The weights of the queries, as the host leaves them. -/
theorem w2_v6 (c : Dev nD) : W2 m ρ c (Proc.devRef .tc main_v6) = extractStridedSlice S1024x256 ![0, 3096] (shapeCast S1024x3352 (W0 m ρ c (Proc.devRef .tc main_arg2) : FVec Ideal S1x1024x3352 .f32) shapeCasts_S1x1024x3352_S1024x3352) slices_S1024x3352_S1024x256_0_3096 := by
  refine (W2_of m ρ c main_v6 (by decide)).trans ?_
  show StableHlo.after hostOps0 (W0 m ρ c) (Proc.devRef .tc main_v6) = _
  after_results; rfl
/-- The weights, as the first call finds them. -/
theorem w3_v9 (c : Dev nD) : W3 m ρ c (Proc.devRef .tc main_v9) = (truncf .bf16 (concatenate S1024x3456 1 [⟨S1024x3072, (W2 m ρ c (Proc.devRef .tc main_v4) : FVec Ideal S1024x3072 .f32)⟩, ⟨S1024x256, (W2 m ρ c (Proc.devRef .tc main_v6) : FVec Ideal S1024x256 .f32)⟩, ⟨S1024x128, (W2 m ρ c (Proc.devRef .tc main_v7) : FVec Ideal S1024x128 .f32)⟩] concatenates_S1024x3072_S1024x256_S1024x128_S1024x3456_d1) bitsLt_bf16_f32 : FVec Ideal S1024x3456 .bf16) := by
  show StableHlo.after hostOps0_2 (W2 m ρ c) (Proc.devRef .tc main_v9) = _
  generalize W2 m ρ c = W
  after_results
  rfl

/-- One weight of the convolved columns and the gates. -/
theorem in0_w (c : Dev nD) (k : Fin 1024) (j : Fin 3456) (hj : j.val < 3072) : V3 m ρ c main_v9 (ix2 k j : S1024x3456.Idx) = m ((c : Thread nD τ).loc main_arg2) (ix3 0 k ⟨j.val, by omega⟩ : S1x1024x3352.Idx) := by
  refine (congrFun (w3_v9 m ρ c) _).trans ?_
  generalize W2 m ρ c (Proc.devRef .tc main_v7) = z
  rw [w2_v4, w2_v6, W0_args m ρ c main_arg2 (by decide)]
  pointwise
  exact dif_pos hj
/-- One weight of the queries. -/
theorem in0_wq (c : Dev nD) (k : Fin 1024) (j : Fin 256) : V3 m ρ c main_v9 (ix2 k ⟨3072 + j.val, by omega⟩ : S1024x3456.Idx) = m ((c : Thread nD τ).loc main_arg2) (ix3 0 k ⟨3096 + j.val, by omega⟩ : S1x1024x3352.Idx) := by
  refine (congrFun (w3_v9 m ρ c) _).trans ?_
  generalize W2 m ρ c (Proc.devRef .tc main_v7) = z
  rw [w2_v4, w2_v6, W0_args m ρ c main_arg2 (by decide)]
  pointwise

/-- The rows the second call finds. -/
theorem in1_u (c : Dev nD) : V5 m ρ c main_v12 = shapeCast S32x4x2304 (leftOut (V3 m ρ c main_v0) (V3 m ρ c main_v10) (V3 m ρ c main_v9)) shapeCasts_S128x2304_S32x4x2304 := by
  have h : W5 m ρ c (Proc.devRef .tc main_v12) = shapeCast S32x4x2304 (W4 m ρ c (Proc.devRef .tc main_v11_0) : FVec Ideal S128x2304 .f32) shapeCasts_S128x2304_S32x4x2304 := by
    show StableHlo.after hostOps1 (W4 m ρ c) (Proc.devRef .tc main_v12) = _
    after_results; rfl
  have h6 : W4 m ρ c (Proc.devRef .tc main_v11_0) = _ := (W4_arr m ρ c 3).trans (left0 (V3 m ρ) c)
  exact h.trans (by rw [h6])
/-- One entry of the history the second call finds. -/
theorem in1_b (c : Dev nD) (b : Fin 32) (i : Fin 3) (j : Fin 2304) : V5 m ρ c main_v13 (ix3 b i j : S32x3x2304.Idx) = m ((c : Thread nD τ).loc main_arg3) (ix4 0 b i j : S1x32x3x2304.Idx) := by
  have h : W5 m ρ c (Proc.devRef .tc main_v13) = shapeCast S32x3x2304 (W4 m ρ c (Proc.devRef .tc main_arg3) : FVec Ideal S1x32x3x2304 .f32) shapeCasts_S1x32x3x2304_S32x3x2304 := by
    show StableHlo.after hostOps1 (W4 m ρ c) (Proc.devRef .tc main_v13) = _
    after_results; rfl
  refine (congrFun h _).trans ?_
  rw [W4_args m ρ c main_arg3 (by decide)]
  pointwise
/-- One tap the second call finds. -/
theorem in1_w (c : Dev nD) (i : Fin 4) (j : Fin 2304) : V5 m ρ c main_v14 (ix2 i j : S4x2304.Idx) = m ((c : Thread nD τ).loc main_arg4) (ix3 0 i j : S1x4x2304.Idx) := by
  have h : W5 m ρ c (Proc.devRef .tc main_v14) = shapeCast S4x2304 (W4 m ρ c (Proc.devRef .tc main_arg4) : FVec Ideal S1x4x2304 .f32) shapeCasts_S1x4x2304_S4x2304 := by
    show StableHlo.after hostOps1 (W4 m ρ c) (Proc.devRef .tc main_v14) = _
    after_results; rfl
  refine (congrFun h _).trans ?_
  rw [W4_args m ρ c main_arg4 (by decide)]
  pointwise

/-- The convolved rows of equal histories, rows and taps. -/
theorem convAt_congr {h h' : Fin 3 → EReal} {u u' : Fin 4 → EReal} {w w' : Fin 4 → EReal} (r : Fin 4) (hh : ∀ i, h i = h' i) (hu : ∀ i, u i = u' i) (hw : ∀ i, w i = w' i) :
    convAt (n := 4) h u w r = convAt (n := 4) h' u' w' r := by
  obtain rfl : h = h' := funext hh
  obtain rfl : u = u' := funext hu
  obtain rfl : w = w' := funext hw
  rfl

/-- One row that is convolved. -/
theorem in1_u_at (c : Dev nD) (b : Fin 32) (t : Fin 4) (j : Fin 2304) : V5 m ρ c main_v12 (ix3 b t j : S32x4x2304.Idx)
    = proj (fun k => m ((c : Thread nD τ).loc main_arg0) (ix3 b t k : S32x4x1024.Idx)) (fun k => m ((c : Thread nD τ).loc main_arg1) (ix2 0 k : S2x1024.Idx)) (fun k => m ((c : Thread nD τ).loc main_arg2) (ix3 0 k ⟨j.val, by omega⟩ : S1x1024x3352.Idx)) := by
  have e : ∀ y : FVec Ideal S128x2304 .f32, shapeCast S32x4x2304 y shapeCasts_S128x2304_S32x4x2304 (ix3 b t j) = y (ix2 ⟨b.val * 4 + t.val, by omega⟩ j) := by
    intro y
    pointwise
  rw [in1_u, e]
  exact proj_congr (in0_x m ρ c b t) (in0_g m ρ c) (fun k => (in0_w m ρ c k _ (by show 0 + j.val < 3072; omega)).trans (congrArg (fun q : Fin 3352 => m ((c : Thread nD τ).loc main_arg2) (ix3 0 k q : S1x1024x3352.Idx)) (Fin.ext (Nat.zero_add _))))

open Cert.Reference8Ideal.Conv (conv conv_at hist hist_at gates gates_at queries queries_at rows rows_at)

/-- The convolved rows the program ends with are the reference's. -/
theorem final_conv (c : Dev nD) : W7 m ρ c (Proc.devRef .tc main_v15_0) = conv (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_of m ρ c main_v15_0 (by decide)).trans ((W6_arr m ρ c 4).trans ((conv1 (V5 m ρ) c).trans ?_))
  funext i
  idx_vars i
  rw [conv_at]
  show convAt (n := 4) (fun q => V5 m ρ c main_v13 (ix3 i0 q i2 : S32x3x2304.Idx)) (fun q => V5 m ρ c main_v12 (ix3 i0 q i2 : S32x4x2304.Idx)) (fun k => V5 m ρ c main_v14 (ix2 k i2 : S4x2304.Idx)) i1 = _
  exact convAt_congr i1 (fun q => in1_b m ρ c i0 q i2) (fun q => in1_u_at m ρ c i0 q i2) (fun k => in1_w m ρ c k i2)

/-- The gates the program ends with are the reference's. -/
theorem final_gates (c : Dev nD) : W7 m ρ c (Proc.devRef .tc main_v16) = gates (rows (m ((c : Thread nD τ).loc main_arg0)) (m ((c : Thread nD τ).loc main_arg1)) (m ((c : Thread nD τ).loc main_arg2))) := by
  have h : W7 m ρ c (Proc.devRef .tc main_v16) = shapeCast S32x4x768 (W6 m ρ c (Proc.devRef .tc main_v11_1) : FVec Ideal S128x768 .f32) shapeCasts_S128x768_S32x4x768 := by
    show StableHlo.after hostOps2 (W6 m ρ c) (Proc.devRef .tc main_v16) = _
    after_results; rfl
  have h6 : W6 m ρ c (Proc.devRef .tc main_v11_1) = _ := (W6_of m ρ c main_v11_1 (by decide)).trans ((W5_of m ρ c main_v11_1 (by decide)).trans ((W4_arr m ρ c 4).trans (mid0 (V3 m ρ) c)))
  rw [h, h6]
  funext i
  idx_vars i
  have e : ∀ y : FVec Ideal S128x768 .f32, shapeCast S32x4x768 y shapeCasts_S128x768_S32x4x768 (ix3 i0 i1 i2) = y (ix2 ⟨i0.val * 4 + i1.val, by omega⟩ i2) := by
    intro y
    pointwise
  rw [e, gates_at, rows_at]
  exact proj_congr (in0_x m ρ c i0 i1) (in0_g m ρ c) (fun k => in0_w m ρ c k _ (by show 2304 + i2.val < 3072; omega))

/-- The queries the program ends with are the reference's. -/
theorem final_queries (c : Dev nD) : W7 m ρ c (Proc.devRef .tc main_v17) = queries (rows (m ((c : Thread nD τ).loc main_arg0)) (m ((c : Thread nD τ).loc main_arg1)) (m ((c : Thread nD τ).loc main_arg2))) := by
  have h : W7 m ρ c (Proc.devRef .tc main_v17) = shapeCast S32x4x256 (W6 m ρ c (Proc.devRef .tc main_v11_2) : FVec Ideal S128x256 .f32) shapeCasts_S128x256_S32x4x256 := by
    show StableHlo.after hostOps2 (W6 m ρ c) (Proc.devRef .tc main_v17) = _
    after_results; rfl
  have h6 : W6 m ρ c (Proc.devRef .tc main_v11_2) = _ := (W6_of m ρ c main_v11_2 (by decide)).trans ((W5_of m ρ c main_v11_2 (by decide)).trans ((W4_arr m ρ c 5).trans (right0 (V3 m ρ) c)))
  rw [h, h6]
  funext i
  idx_vars i
  have e : ∀ y : FVec Ideal S128x256 .f32, shapeCast S32x4x256 y shapeCasts_S128x256_S32x4x256 (ix3 i0 i1 i2) = y (ix2 ⟨i0.val * 4 + i1.val, by omega⟩ i2) := by
    intro y
    pointwise
  rw [e, queries_at, rows_at]
  exact proj_congr (in0_x m ρ c i0 i1) (in0_g m ρ c) (fun k => in0_wq m ρ c k i2)

/-- The new history the program ends with is the reference's. -/
theorem final_hist (c : Dev nD) : W7 m ρ c (Proc.devRef .tc main_v18) = hist (m ((c : Thread nD τ).loc main_arg0)) (m ((c : Thread nD τ).loc main_arg1)) (m ((c : Thread nD τ).loc main_arg2)) (m ((c : Thread nD τ).loc main_arg3)) := by
  have h : W7 m ρ c (Proc.devRef .tc main_v18) = broadcastInDim S1x32x3x2304 ![1, 2, 3] bcast_S32x3x2304_S1x32x3x2304_1_2_3 (W6 m ρ c (Proc.devRef .tc main_v15_1) : FVec Ideal S32x3x2304 .f32) := by
    show StableHlo.after hostOps2 (W6 m ρ c) (Proc.devRef .tc main_v18) = _
    after_results
  have h6 : W6 m ρ c (Proc.devRef .tc main_v15_1) = _ := (W6_arr m ρ c 5).trans (hist1 (V5 m ρ) c)
  rw [h, h6]
  funext i
  idx_vars i
  obtain rfl : i0 = 0 := Subsingleton.elim _ _
  have e : ∀ y : FVec Ideal S32x3x2304 .f32, broadcastInDim S1x32x3x2304 ![1, 2, 3] bcast_S32x3x2304_S1x32x3x2304_1_2_3 y (ix4 0 i1 i2 i3) = y (ix3 i1 i2 i3) := by
    intro y
    pointwise
  rw [e, hist_at]
  show padded (n := 4) (fun q => V5 m ρ c main_v13 (ix3 i1 q i3 : S32x3x2304.Idx)) (fun q => V5 m ρ c main_v12 (ix3 i1 q i3 : S32x4x2304.Idx)) ⟨4 + i2.val, by omega⟩ = _
  rw [padded, dif_neg (by show ¬ 4 + i2.val < 3; omega)]
  have f : (⟨4 + i2.val - 3, by omega⟩ : Fin 4) = ⟨1 + i2.val, by omega⟩ := Fin.ext (by show 4 + i2.val - 3 = 1 + i2.val; omega)
  refine (congrArg (fun q : Fin 4 => V5 m ρ c main_v12 (ix3 i1 q i3 : S32x4x2304.Idx)) f).trans ?_
  exact in1_u_at m ρ c i1 _ i3

/-- What the program ends with: the reference's results, the arguments as launched. -/
theorem ends_with : θ_run defs (onTc (τ := τ) main) ⟨m, fun _ => 0, ρ⟩ (fun r => ∀ c : Dev nD,
      r.2.mem ((c.tc : Thread nD τ).loc main_v15_0) = conv (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v16) = gates (rows (m ((c : Thread nD τ).loc main_arg0)) (m ((c : Thread nD τ).loc main_arg1)) (m ((c : Thread nD τ).loc main_arg2)))
      ∧ r.2.mem ((c.tc : Thread nD τ).loc main_v17) = queries (rows (m ((c : Thread nD τ).loc main_arg0)) (m ((c : Thread nD τ).loc main_arg1)) (m ((c : Thread nD τ).loc main_arg2)))
      ∧ r.2.mem ((c.tc : Thread nD τ).loc main_v18) = hist (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v15_0 (by decide))).trans (final_conv m ρ c), (h c _ (mem_uc main_v16 (by decide))).trans (final_gates m ρ c),
     (h c _ (mem_uc main_v17 (by decide))).trans (final_queries m ρ c), (h c _ (mem_uc main_v18 (by decide))).trans (final_hist m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (ends m ρ)

end Cert.Kernel8Ideal.Conv
end
-- ==== Proof.ConvPromptTiles.lean ====
module

public import proofs.«01_k».proof.Proof.Gen.Kernel9Ideal.Frame
public import proofs.«01_k».proof.Proof.Taps
public import Idealize.ShloMosaic.Lib.Pipeline.ValueKit
public import Idealize.ShloMosaic.Lib.Routing.OpsSet
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Conv
open Cert.Kernel9Ideal Cert.Kernel9Ideal.Gen
open Cert.Rows (normed proj)
open Cert.Taps (mixed silu padded convAt)

/-- Four weighted values, added in the opposite order. -/
theorem mixed_rev (a b c d : EReal) (p w : Fin 4 → EReal) (ha : a = p 3 * w 3) (hb : b = p 2 * w 2) (hc : c = p 1 * w 1) (hd : d = p 0 * w 0) :
    a + b + c + d = mixed p w := by
  rw [ha, hb, hc, hd, mixed]
  ac_rfl

/-- A row far enough from the top of a block, convolved. -/
theorem low_at (U : FVec Ideal S256x2304 .f32) (c0 c1 c2 c3 : FVec Ideal S1x2304 .f32) (r : Fin 256) (j : Fin 2304) :
    k0_pay18 (F := Ideal) U (k0_pay14 U c3 c2 c1) c0 (ix2 r j)
      = silu (U (ix2 r j) * c3 (ix2 0 j) + U (ix2 ⟨(r.val + 256 - 1) % 256, by omega⟩ j) * c2 (ix2 0 j) + U (ix2 ⟨(r.val + 256 - 2) % 256, by omega⟩ j) * c1 (ix2 0 j)
        + U (ix2 ⟨(r.val + 256 - 3) % 256, by omega⟩ j) * c0 (ix2 0 j)) := by
  pointwise [k0_pay18, k0_pay14, k0_pay9, k0_pay10, k0_pay12, k0_pay13, k0_pay16, k0_pay17]
  rw [silu]
  simp only [zero_sub]

/-- The choice for rows before row 1. -/
theorem sel1 (r : Fin 8) (a b : EReal) : Scalar.select (IntOp.cmpi CmpIPredicate.slt (BitVec.ofNat 32 r.val) 1#32) a b = if r.val < 1 then a else b := by
  have h : IntOp.cmpi CmpIPredicate.slt (BitVec.ofNat 32 r.val) 1#32 = if r.val < 1 then 1#1 else 0#1 := by
    revert r; decide +kernel
  rw [h]
  split <;> rfl

/-- The choice for rows before row 2. -/
theorem sel2 (r : Fin 8) (a b : EReal) : Scalar.select (IntOp.cmpi CmpIPredicate.slt (BitVec.ofNat 32 r.val) 2#32) a b = if r.val < 2 then a else b := by
  have h : IntOp.cmpi CmpIPredicate.slt (BitVec.ofNat 32 r.val) 2#32 = if r.val < 2 then 1#1 else 0#1 := by
    revert r; decide +kernel
  rw [h]
  split <;> rfl

/-- The choice for rows before row 3. -/
theorem sel3 (r : Fin 8) (a b : EReal) : Scalar.select (IntOp.cmpi CmpIPredicate.slt (BitVec.ofNat 32 r.val) 3#32) a b = if r.val < 3 then a else b := by
  have h : IntOp.cmpi CmpIPredicate.slt (BitVec.ofNat 32 r.val) 3#32 = if r.val < 3 then 1#1 else 0#1 := by
    revert r; decide +kernel
  rw [h]
  split <;> rfl

/-- A row at the top of a block, convolved. -/
theorem top_at (U : FVec Ideal S256x2304 .f32) (P : FVec Ideal S8x2304 .f32) (c0 c1 c2 c3 : FVec Ideal S1x2304 .f32) (r : Fin 8) (j : Fin 2304) :
    k0_pay19 (F := Ideal) U P (iota Kind.tc S8x2304 32 [0] iota_S8x2304_d0_w32) (k0_pay11 U P c3 c2) (k0_pay12 c1) (k0_pay15 U P) c0 (ix2 r j)
      = silu (U (ix2 ⟨r.val, by omega⟩ j) * c3 (ix2 0 j)
        + (if r.val < 1 then P (ix2 ⟨(r.val + 8 - 1) % 8, by omega⟩ j) else U (ix2 ⟨(r.val + 256 - 1) % 256, by omega⟩ j)) * c2 (ix2 0 j)
        + (if r.val < 2 then P (ix2 ⟨(r.val + 8 - 2) % 8, by omega⟩ j) else U (ix2 ⟨(r.val + 256 - 2) % 256, by omega⟩ j)) * c1 (ix2 0 j)
        + (if r.val < 3 then P (ix2 ⟨(r.val + 8 - 3) % 8, by omega⟩ j) else U (ix2 ⟨(r.val + 256 - 3) % 256, by omega⟩ j)) * c0 (ix2 0 j)) := by
  pointwise [k0_pay19, k0_pay11, k0_pay15, k0_pay9, k0_pay10, k0_pay12, k0_pay13, k0_pay16, k0_pay17]
  rw [silu]
  simp only [zero_sub]
  simp only [sel1, sel2, sel3]

/-- What one block of convolved rows is written as: its rows, then its first eight rows again. -/
abbrev written (U : FVec Ideal S256x2304 .f32) (P : FVec Ideal S8x2304 .f32) (c0 c1 c2 c3 : FVec Ideal S1x2304 .f32) : List (View.Piece (Elt Ideal) S256x2304 .f32) :=
  [⟨Rect.unit ![0, 0] ![8, 2304] inb_S256x2304_S8x2304_0_0,
      k0_pay19 (F := Ideal) U P (iota Kind.tc S8x2304 32 [0] iota_S8x2304_d0_w32) (k0_pay11 U P c3 c2) (k0_pay12 c1) (k0_pay15 U P) c0⟩,
    ⟨Rect.unit ![0, 0] ![256, 2304] inb_S256x2304_S256x2304_0_0, k0_pay18 (F := Ideal) U (k0_pay14 U c3 c2 c1) c0⟩]

/-- A row of a block behind the three rows before it, from the eight rows kept. -/
theorem pad_top {P : Fin 8 → EReal} {U : Fin 256 → EReal} (s : ℕ) (hs : s ≤ 3) (h1 : 1 ≤ s) (r : Fin 256) :
    padded (n := 256) (fun i => P ⟨5 + i.val, by omega⟩) U ⟨3 - s + r.val, by omega⟩ = if r.val < s then P ⟨(r.val + 8 - s) % 8, by omega⟩ else U ⟨(r.val + 256 - s) % 256, by omega⟩ := by
  unfold padded
  by_cases h : r.val < s
  · rw [dif_pos (by show 3 - s + r.val < 3; omega), if_pos h]
    exact congrArg P (Fin.ext (by show 5 + (3 - s + r.val) = (r.val + 8 - s) % 8; omega))
  · rw [dif_neg (by show ¬ 3 - s + r.val < 3; omega), if_neg h]
    exact congrArg U (Fin.ext (by show 3 - s + r.val - 3 = (r.val + 256 - s) % 256; omega))

/-- A row of a block behind the three rows before it: itself. -/
theorem pad_self {h : Fin 3 → EReal} {U : Fin 256 → EReal} (r : Fin 256) : padded (n := 256) h U ⟨3 + r.val, by omega⟩ = U r := by
  unfold padded
  rw [dif_neg (by show ¬ 3 + r.val < 3; omega)]
  exact congrArg U (Fin.ext (by show 3 + r.val - 3 = r.val; omega))

/-- One entry of a block of convolved rows. -/
theorem tile_at (U : FVec Ideal S256x2304 .f32) (P : FVec Ideal S8x2304 .f32) (c0 c1 c2 c3 : FVec Ideal S1x2304 .f32) (r : Fin 256) (j : Fin 2304) :
    View.canon (written U P c0 c1 c2 c3) (ix2 r j : S256x2304.Idx)
      = convAt (n := 256) (fun i => P (ix2 ⟨5 + i.val, by omega⟩ j)) (fun i => U (ix2 i j)) ![c0 (ix2 0 j), c1 (ix2 0 j), c2 (ix2 0 j), c3 (ix2 0 j)] r := by
  have ht : ∀ s : ℕ, (hs : s ≤ 3) → 1 ≤ s → padded (n := 256) (fun i => P (ix2 ⟨5 + i.val, by omega⟩ j)) (fun i => U (ix2 i j)) ⟨3 - s + r.val, by omega⟩
      = if r.val < s then P (ix2 ⟨(r.val + 8 - s) % 8, by omega⟩ j) else U (ix2 ⟨(r.val + 256 - s) % 256, by omega⟩ j) := fun s hs h1 =>
    pad_top (P := fun i => P (ix2 i j)) (U := fun i => U (ix2 i j)) s hs h1 r
  have hz : padded (n := 256) (fun i => P (ix2 ⟨5 + i.val, by omega⟩ j)) (fun i => U (ix2 i j)) ⟨3 + r.val, by omega⟩ = U (ix2 r j) := pad_self r
  rw [convAt]
  by_cases hr : r.val < 8
  · have he : (ix2 r j : S256x2304.Idx) = (Rect.unit (s := S256x2304) ![0, 0] ![8, 2304] inb_S256x2304_S8x2304_0_0).emb (ix2 ⟨r.val, hr⟩ j : S8x2304.Idx) := by
      funext i; apply Fin.ext; fin_cases i
      · show r.val = 0 + 1 * r.val; omega
      · show j.val = 0 + 1 * j.val; omega
    rw [he]
    refine (View.canon_cons_emb _ _ _ _).trans ((top_at U P c0 c1 c2 c3 ⟨r.val, hr⟩ j).trans (congrArg silu ?_))
    exact mixed_rev _ _ _ _ _ _ (congrArg (· * c3 (ix2 0 j)) hz.symm) (congrArg (· * c2 (ix2 0 j)) (ht 1 (by omega) (by omega)).symm)
      (congrArg (· * c1 (ix2 0 j)) (ht 2 (by omega) (by omega)).symm) (congrArg (· * c0 (ix2 0 j)) (ht 3 (by omega) (by omega)).symm)
  · rw [View.canon_cons_of_not_mem]
    · have he : (ix2 r j : S256x2304.Idx) = (Rect.unit (s := S256x2304) ![0, 0] ![256, 2304] inb_S256x2304_S256x2304_0_0).emb (ix2 r j : S256x2304.Idx) := by
        funext i; apply Fin.ext; fin_cases i
        · show r.val = 0 + 1 * r.val; omega
        · show j.val = 0 + 1 * j.val; omega
      refine (congrArg (View.canon _) he).trans ((View.canon_cons_emb _ _ _ _).trans ((low_at U c0 c1 c2 c3 r j).trans (congrArg silu ?_)))
      exact mixed_rev _ _ _ _ _ _ (congrArg (· * c3 (ix2 0 j)) hz.symm) (congrArg (· * c2 (ix2 0 j)) ((ht 1 (by omega) (by omega)).trans (if_neg (by omega))).symm)
        (congrArg (· * c1 (ix2 0 j)) ((ht 2 (by omega) (by omega)).trans (if_neg (by omega))).symm) (congrArg (· * c0 (ix2 0 j)) ((ht 3 (by omega) (by omega)).trans (if_neg (by omega))).symm)
    · intro hm
      have h1 : r.val < 0 + 8 := ((Rect.mem_set_unit (inb := inb_S256x2304_S8x2304_0_0)).mp hm 0).2
      omega

end Cert.Kernel9Ideal.Conv
end
-- ==== Proof.ConvPromptParts.lean ====
module

public import proofs.«01_k».proof.Proof.Gen.Kernel9Ideal.Frame
public import proofs.«01_k».proof.Proof.ConvPromptTiles
public import Idealize.ShloMosaic.Lib.Pipeline.ValueKit
public import Idealize.ShloMosaic.Lib.Routing.OpsSet
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Conv
open Cert.Kernel9Ideal Cert.Kernel9Ideal.Gen
open Cert.Rows (normed proj)
open Cert.Taps (mixed silu padded convAt)

/-- Where each window's block lies at each grid point. -/
theorem idx0 : ∀ t : Fin cfg0.N, win0_0.index t = ![t.val, 0] ∧ win0_1.index t = ![0, 0] ∧ win0_2.index t = ![0, 0] ∧ win0_3.index t = ![t.val / 32, 0, 0] ∧ win0_4.index t = ![0, 0]
    ∧ win0_5.index t = ![t.val, 0] ∧ win0_6.index t = ![t.val, 0] ∧ win0_7.index t = ![t.val, 0] ∧ win0_9.index t = ![t.val / 32, 0, 0] :=
  (by decide +kernel : ∀ t : Fin grid0.N, _)

variable (m : (ℓ : Loc nD τ sig) → Buf (Elt Ideal) ℓ)

/-- The projection of equal rows, gains and columns. -/
theorem proj_congr {x x' g g' w w' : Fin 1024 → EReal} (hx : ∀ k, x k = x' k) (hg : ∀ k, g k = g' k) (hw : ∀ k, w k = w' k) :
    proj x g w = proj x' g' w' := by
  obtain rfl : x = x' := funext hx
  obtain rfl : g = g' := funext hg
  obtain rfl : w = w' := funext hw
  rfl

/-- The columns that are convolved, of one block. -/
theorem left_rows (x : FVec Ideal S256x1024 .f32) (g : FVec Ideal S1x1024 .f32) (w : FVec Ideal S1024x2304 .bf16) (r : Fin 256) (j : Fin 2304) :
    k0_pay5 (F := Ideal) x g w (ix2 r j) = proj (fun k => x (ix2 r k)) (fun k => g (ix2 0 k)) (fun k => w (ix2 k j)) := by
  pointwise [k0_pay5, k0_pay2]
  rfl
/-- The columns of the gates, of one block. -/
theorem mid_rows (x : FVec Ideal S256x1024 .f32) (g : FVec Ideal S1x1024 .f32) (w : FVec Ideal S1024x768 .bf16) (r : Fin 256) (j : Fin 768) :
    k0_pay6 (F := Ideal) x g w (ix2 r j) = proj (fun k => x (ix2 r k)) (fun k => g (ix2 0 k)) (fun k => w (ix2 k j)) := by
  pointwise [k0_pay6, k0_pay2]
  rfl
/-- The columns of the queries, of one block. -/
theorem right_rows (x : FVec Ideal S256x1024 .f32) (g : FVec Ideal S1x1024 .f32) (w : FVec Ideal S1024x256 .bf16) (r : Fin 256) (j : Fin 256) :
    k0_pay7 (F := Ideal) x g w (ix2 r j) = proj (fun k => x (ix2 r k)) (fun k => g (ix2 0 k)) (fun k => w (ix2 k j)) := by
  pointwise [k0_pay7, k0_pay2]
  rfl
/-- The columns that are convolved, read in place. -/
theorem left_at (z : FVec Ideal S1024x3456 .bf16) (k : Fin 1024) (j : Fin 2304) :
    View.ld (Val := Elt Ideal) (e' := .bf16) z (Rect.unit (s := S1024x3456) ![0, 0] ![1024, 2304] inb_S1024x3456_S1024x2304_0_0) (ix2 k j : S1024x2304.Idx) = z (ix2 k ⟨0 + j.val, by omega⟩) := by
  pointwise
/-- The columns of the gates, read in place. -/
theorem mid_at (z : FVec Ideal S1024x3456 .bf16) (k : Fin 1024) (j : Fin 768) :
    View.ld (Val := Elt Ideal) (e' := .bf16) z (Rect.unit (s := S1024x3456) ![0, 2304] ![1024, 768] inb_S1024x3456_S1024x768_0_2304) (ix2 k j : S1024x768.Idx) = z (ix2 k ⟨2304 + j.val, by omega⟩) := by
  pointwise
/-- The columns of the queries, read in place. -/
theorem right_at (z : FVec Ideal S1024x3456 .bf16) (k : Fin 1024) (j : Fin 256) :
    View.ld (Val := Elt Ideal) (e' := .bf16) z (Rect.unit (s := S1024x3456) ![0, 3072] ![1024, 256] inb_S1024x3456_S1024x256_0_3072) (ix2 k j : S1024x256.Idx) = z (ix2 k ⟨3072 + j.val, by omega⟩) := by
  pointwise
/-- Tap 0, read in place. -/
theorem tap0 (z : FVec Ideal S4x2304 .f32) (j : Fin 2304) :
    View.ld (Val := Elt Ideal) (e' := .f32) z (Rect.unit (s := S4x2304) ![0, 0] ![1, 2304] inb_S4x2304_S1x2304_0_0) (ix2 0 j : S1x2304.Idx) = z (ix2 0 j) := by
  pointwise
/-- Tap 1, read in place. -/
theorem tap1 (z : FVec Ideal S4x2304 .f32) (j : Fin 2304) :
    View.ld (Val := Elt Ideal) (e' := .f32) z (Rect.unit (s := S4x2304) ![1, 0] ![1, 2304] inb_S4x2304_S1x2304_1_0) (ix2 0 j : S1x2304.Idx) = z (ix2 1 j) := by
  pointwise
/-- Tap 2, read in place. -/
theorem tap2 (z : FVec Ideal S4x2304 .f32) (j : Fin 2304) :
    View.ld (Val := Elt Ideal) (e' := .f32) z (Rect.unit (s := S4x2304) ![2, 0] ![1, 2304] inb_S4x2304_S1x2304_2_0) (ix2 0 j : S1x2304.Idx) = z (ix2 2 j) := by
  pointwise
/-- Tap 3, read in place. -/
theorem tap3 (z : FVec Ideal S4x2304 .f32) (j : Fin 2304) :
    View.ld (Val := Elt Ideal) (e' := .f32) z (Rect.unit (s := S4x2304) ![3, 0] ![1, 2304] inb_S4x2304_S1x2304_3_0) (ix2 0 j : S1x2304.Idx) = z (ix2 3 j) := by
  pointwise
/-- The rows kept for the next block. -/
theorem kept_at (U : FVec Ideal S256x2304 .f32) (i : Fin 8) (j : Fin 2304) : k0_pay1 (F := Ideal) (k0_pay20 U) (ix2 i j) = U (ix2 ⟨248 + i.val, by omega⟩ j) := by
  pointwise [k0_pay1, k0_pay20]
/-- The new history as written. -/
theorem last_at (U : FVec Ideal S256x2304 .f32) (i : Fin 3) (j : Fin 2304) : k0_pay21 (F := Ideal) U (ix3 0 i j) = U (ix2 ⟨248 + (5 + i.val), by omega⟩ j) := by
  pointwise [k0_pay21, k0_pay20]
/-- The history as stored. -/
theorem old_at (x : FVec Ideal S1x3x2304 .f32) (i : Fin 3) (j : Fin 2304) : k0_pay4 (F := Ideal) x (ix2 i j) = x (ix3 0 i j) := by
  pointwise [k0_pay4]

/-- The history's rows stored at row 5, over other rows. -/
abbrev stored (a : FVec Ideal S3x2304 .f32) (b : FVec Ideal S8x2304 .f32) : List (View.Piece (Elt Ideal) S8x2304 .f32) :=
  [⟨Rect.unit ![5, 0] ![3, 2304] inb_S8x2304_S3x2304_5_0, a⟩, ⟨Rect.unit ![0, 0] ![8, 2304] inb_S8x2304_S8x2304_0_0, b⟩]

/-- The last three of the stored rows are the history's. -/
theorem canon_old (a : FVec Ideal S3x2304 .f32) (b : FVec Ideal S8x2304 .f32) (i : Fin 3) (j : Fin 2304) :
    View.canon (stored a b) (ix2 ⟨5 + i.val, by omega⟩ j : S8x2304.Idx) = a (ix2 i j) := by
  have he : (ix2 ⟨5 + i.val, by omega⟩ j : S8x2304.Idx) = (Rect.unit (s := S8x2304) ![5, 0] ![3, 2304] inb_S8x2304_S3x2304_5_0).emb (ix2 i j : S3x2304.Idx) := by
    funext q; apply Fin.ext; fin_cases q
    · show 5 + i.val = 5 + 1 * i.val; omega
    · show j.val = 0 + 1 * j.val; omega
  rw [he]
  exact View.canon_cons_emb _ _ _ _

/-- The last three of the stored rows, read. -/
theorem read_old {v : View sig .tc .vmem S8x2304 .f32} (a : FVec Ideal S3x2304 .f32) (b : FVec Ideal S8x2304 .f32) (i : Fin 3) (j : Fin 2304) :
    v.readCov (stored a b) (Rect.unit (s := S8x2304) ![0, 0] ![8, 2304] inb_S8x2304_S8x2304_0_0).toLoadRect (ix2 ⟨5 + i.val, by omega⟩ j : S8x2304.Idx) = a (ix2 i j) := by
  rw [View.readCov_eq_canon']
  refine Eq.trans (congrArg (View.canon (stored a b)) ?_) (canon_old a b i j)
  funext q; apply Fin.ext; fin_cases q
  · show 0 + 1 * (5 + i.val) = 5 + i.val; omega
  · show 0 + 1 * j.val = j.val; omega

/-- One row of the rows' block. -/
theorem blk_x (c : Dev nD) (t : Fin cfg0.N) (ht : t.val < 64) (r : Fin 256) (k : Fin 1024) : iblk m c 0 t (ix2 r k : S256x1024.Idx) = V m c main_v1 (ix2 ⟨256 * t.val + r.val, by omega⟩ k : S16384x1024.Idx) := by
  blk_point [iblk, idx0 t]
/-- The gains' block. -/
theorem blk_g (c : Dev nD) (t : Fin cfg0.N) (k : Fin 1024) : iblk m c 1 t (ix2 0 k : S1x1024.Idx) = V m c main_v12 (ix2 0 k : S1x1024.Idx) := by
  blk_point [iblk, idx0 t]
/-- The weights' block. -/
theorem blk_w (c : Dev nD) (t : Fin cfg0.N) (k : Fin 1024) (j : Fin 3456) : iblk m c 2 t (ix2 k j : S1024x3456.Idx) = V m c main_v10 (ix2 k j : S1024x3456.Idx) := by
  blk_point [iblk, idx0 t]
/-- The history's block. -/
theorem blk_h (c : Dev nD) (t : Fin cfg0.N) (ht : t.val < 64) (i : Fin 3) (j : Fin 2304) : iblk m c 3 t (ix3 0 i j : S1x3x2304.Idx) = V m c main_v0 (ix3 ⟨t.val / 32, by omega⟩ i j : S2x3x2304.Idx) := by
  blk_point [iblk, idx0 t]
/-- The taps' block. -/
theorem blk_c (c : Dev nD) (t : Fin cfg0.N) (i : Fin 4) (j : Fin 2304) : iblk m c 4 t (ix2 i j : S4x2304.Idx) = V m c main_v11 (ix2 i j : S4x2304.Idx) := by
  blk_point [iblk, idx0 t]

/-- A projected row's column. -/
def col (X : FVec Ideal S16384x1024 .f32) (G : FVec Ideal S1x1024 .f32) (W : FVec Ideal S1024x3456 .bf16) (R : Fin 16384) (j : Fin 3456) : EReal :=
  proj (fun k => X (ix2 R k)) (fun k => G (ix2 0 k)) (fun k => W (ix2 k j))

/-- The columns that are convolved, at one grid point. -/
abbrev uTile (c : Dev nD) (t : Fin cfg0.N) : FVec Ideal S256x2304 .f32 :=
  k0_pay5 (F := Ideal) (iblk m c 0 t) (iblk m c 1 t) (View.ld (iblk m c 2 t) (Rect.unit ![0, 0] ![1024, 2304] inb_S1024x3456_S1024x2304_0_0))

/-- One entry of them. -/
theorem uTile_at (c : Dev nD) (t : Fin cfg0.N) (ht : t.val < 64) (r : Fin 256) (j : Fin 2304) :
    uTile m c t (ix2 r j) = col (V m c main_v1) (V m c main_v12) (V m c main_v10) ⟨256 * t.val + r.val, by omega⟩ ⟨0 + j.val, by omega⟩ :=
  (left_rows _ _ _ r j).trans (proj_congr (fun k => blk_x m c t ht r k) (fun k => blk_g m c t k) (fun k => (left_at _ k j).trans (blk_w m c t k _)))

end Cert.Kernel9Ideal.Conv
end
-- ==== Proof.ConvPromptCalls.lean ====
module

public import proofs.«01_k».proof.Proof.Gen.Kernel9Ideal.Frame
public import proofs.«01_k».proof.Proof.ConvPromptParts
public import Idealize.ShloMosaic.Lib.Pipeline.ValueKit
public import Idealize.ShloMosaic.Lib.Pipeline.ReadBack
public import Idealize.ShloMosaic.Lib.Routing.OpsSet
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Conv
open Cert.Kernel9Ideal Cert.Kernel9Ideal.Gen
open Cert.Rows (normed proj)
open Cert.Taps (mixed silu padded convAt)

variable (m : (ℓ : Loc nD τ sig) → Buf (Elt Ideal) ℓ)

/-- What a grid point leaves in its block of gates. -/
theorem mid_after (c : Dev nD) (t : Fin cfg0.N) :
    (dats m 0 c).after 6 t = k0_pay6 (F := Ideal) (iblk m c 0 t) (iblk m c 1 t) (View.ld (iblk m c 2 t) (Rect.unit ![0, 2304] ![1024, 768] inb_S1024x3456_S1024x768_0_2304)) := by
  rw [after0_6]
  by_cases h0 : t.val % 32 = 0
  · rw [outsAt0_A m c t h0 (by omega)]; dsimp only; frame_out; rfl
  · by_cases h1 : t.val % 32 = 31
    · rw [outsAt0_C m c t h0 h1]; dsimp only; frame_out; rfl
    · rw [outsAt0_B m c t h0 h1]; dsimp only; frame_out; rfl

/-- What a grid point leaves in its block of queries. -/
theorem right_after (c : Dev nD) (t : Fin cfg0.N) :
    (dats m 0 c).after 7 t = k0_pay7 (F := Ideal) (iblk m c 0 t) (iblk m c 1 t) (View.ld (iblk m c 2 t) (Rect.unit ![0, 3072] ![1024, 256] inb_S1024x3456_S1024x256_0_3072)) := by
  rw [after0_7]
  by_cases h0 : t.val % 32 = 0
  · rw [outsAt0_A m c t h0 (by omega)]; dsimp only; frame_out; rfl
  · by_cases h1 : t.val % 32 = 31
    · rw [outsAt0_C m c t h0 h1]; dsimp only; frame_out; rfl
    · rw [outsAt0_B m c t h0 h1]; dsimp only; frame_out; rfl

/-- The gates, as an array over rows. -/
def midOut (X : FVec Ideal S16384x1024 .f32) (G : FVec Ideal S1x1024 .f32) (W : FVec Ideal S1024x3456 .bf16) : FVec Ideal S16384x768 .f32 := fun i =>
  col X G W (i 0) ⟨2304 + (i 1).val, by have := (i 1).isLt; simp at *; omega⟩
/-- The queries, as an array over rows. -/
def rightOut (X : FVec Ideal S16384x1024 .f32) (G : FVec Ideal S1x1024 .f32) (W : FVec Ideal S1024x3456 .bf16) : FVec Ideal S16384x256 .f32 := fun i =>
  col X G W (i 0) ⟨3072 + (i 1).val, by have := (i 1).isLt; simp at *; omega⟩

/-- One entry of the array of gates. -/
theorem midOut_at (X : FVec Ideal S16384x1024 .f32) (G : FVec Ideal S1x1024 .f32) (W : FVec Ideal S1024x3456 .bf16) (R : Fin 16384) (j : Fin 768) :
    midOut X G W (ix2 R j) = col X G W R ⟨2304 + j.val, by omega⟩ := rfl

/-- One entry of a block of gates. -/
theorem mid_tile (c : Dev nD) (t : Fin cfg0.N) (ht : t.val < 64) (r : Fin 256) (j : Fin 768) :
    k0_pay6 (F := Ideal) (iblk m c 0 t) (iblk m c 1 t) (View.ld (iblk m c 2 t) (Rect.unit ![0, 2304] ![1024, 768] inb_S1024x3456_S1024x768_0_2304)) (ix2 r j)
      = col (V m c main_v1) (V m c main_v12) (V m c main_v10) ⟨256 * t.val + r.val, by omega⟩ ⟨2304 + j.val, by omega⟩ :=
  (mid_rows _ _ _ r j).trans (proj_congr (fun k => blk_x m c t ht r k) (fun k => blk_g m c t k) (fun k => (mid_at _ k j).trans (blk_w m c t k _)))

/-- What the call leaves in its output of gates. -/
theorem mid0 (c : Dev nD) : (dats m 0 c).arrAt 6 cfg0.N = midOut (V m c main_v1) (V m c main_v12) (V m c main_v10) := by
  refine (dats m 0 c).arrAt_eq_of_covers 6 _ (by decide +kernel) fun t hf y => ?_
  have ht : t.val < 64 := lt_of_lt_of_eq t.isLt (by decide +kernel)
  have hA := mid_after m c t
  blk_simp; rw [hA]
  idx_vars y
  have he : ((View.whole main_v13_1).slice (win0_6.rect t)).emb (ix2 y0 y1) = (ix2 ⟨256 * t.val + y0.val, by omega⟩ y1 : S16384x768.Idx) := by blk_ext [idx0 t]
  rw [he, midOut_at]
  exact mid_tile m c t ht y0 y1

/-- One entry of the array of queries. -/
theorem rightOut_at (X : FVec Ideal S16384x1024 .f32) (G : FVec Ideal S1x1024 .f32) (W : FVec Ideal S1024x3456 .bf16) (R : Fin 16384) (j : Fin 256) :
    rightOut X G W (ix2 R j) = col X G W R ⟨3072 + j.val, by omega⟩ := rfl

/-- One entry of a block of queries. -/
theorem right_tile (c : Dev nD) (t : Fin cfg0.N) (ht : t.val < 64) (r : Fin 256) (j : Fin 256) :
    k0_pay7 (F := Ideal) (iblk m c 0 t) (iblk m c 1 t) (View.ld (iblk m c 2 t) (Rect.unit ![0, 3072] ![1024, 256] inb_S1024x3456_S1024x256_0_3072)) (ix2 r j)
      = col (V m c main_v1) (V m c main_v12) (V m c main_v10) ⟨256 * t.val + r.val, by omega⟩ ⟨3072 + j.val, by omega⟩ :=
  (right_rows _ _ _ r j).trans (proj_congr (fun k => blk_x m c t ht r k) (fun k => blk_g m c t k) (fun k => (right_at _ k j).trans (blk_w m c t k _)))

/-- What the call leaves in its output of queries. -/
theorem right0 (c : Dev nD) : (dats m 0 c).arrAt 7 cfg0.N = rightOut (V m c main_v1) (V m c main_v12) (V m c main_v10) := by
  refine (dats m 0 c).arrAt_eq_of_covers 7 _ (by decide +kernel) fun t hf y => ?_
  have ht : t.val < 64 := lt_of_lt_of_eq t.isLt (by decide +kernel)
  have hA := right_after m c t
  blk_simp; rw [hA]
  idx_vars y
  have he : ((View.whole main_v13_2).slice (win0_7.rect t)).emb (ix2 y0 y1) = (ix2 ⟨256 * t.val + y0.val, by omega⟩ y1 : S16384x256.Idx) := by blk_ext [idx0 t]
  rw [he, rightOut_at]
  exact right_tile m c t ht y0 y1

/-- The new histories. -/
def histOut (X : FVec Ideal S16384x1024 .f32) (G : FVec Ideal S1x1024 .f32) (W : FVec Ideal S1024x3456 .bf16) : FVec Ideal S2x3x2304 .f32 := fun i =>
  col X G W ⟨8192 * (i 0).val + (8189 + (i 1).val), by have := (i 0).isLt; have := (i 1).isLt; simp at *; omega⟩ ⟨0 + (i 2).val, by have := (i 2).isLt; simp at *; omega⟩

/-- One entry of the new histories. -/
theorem histOut_at (X : FVec Ideal S16384x1024 .f32) (G : FVec Ideal S1x1024 .f32) (W : FVec Ideal S1024x3456 .bf16) (b : Fin 2) (i : Fin 3) (j : Fin 2304) :
    histOut X G W (ix3 b i j) = col X G W ⟨8192 * b.val + (8189 + i.val), by omega⟩ ⟨0 + j.val, by omega⟩ := rfl

/-- The new histories are written after the last block of each batch entry. -/
theorem flush_hist : ∀ t : Fin cfg0.N, (cfg0.win 9).flush t = true → t.val % 32 = 31 := by
  intro t
  have h : ∀ t : Fin grid0.N, win0_9.flush t = true → t.val % 32 = 31 := by decide +kernel
  exact h t

/-- What the last grid point of a batch entry leaves as the new history. -/
theorem hist_after (c : Dev nD) (t : Fin cfg0.N) (h1 : t.val % 32 = 31) : (dats m 0 c).after 9 t = k0_pay21 (F := Ideal) (uTile m c t) := by
  rw [after0_9, outsAt0_C m c t (by omega) h1]; dsimp only; frame_out; rfl

/-- What the call leaves in its output of new histories. -/
theorem hist0 (c : Dev nD) : (dats m 0 c).arrAt 9 cfg0.N = histOut (V m c main_v1) (V m c main_v12) (V m c main_v10) := by
  refine (dats m 0 c).arrAt_eq_of_covers 9 _ (by decide +kernel) fun t hf y => ?_
  have ht : t.val < 64 := lt_of_lt_of_eq t.isLt (by decide +kernel)
  have h1 := flush_hist t hf
  have hA := hist_after m c t h1
  blk_simp; rw [hA]
  idx_vars y
  obtain rfl : y0 = 0 := Subsingleton.elim _ _
  have he : ((View.whole main_v13_4).slice (win0_9.rect t)).emb (ix3 0 y1 y2) = (ix3 ⟨t.val / 32, by omega⟩ y1 y2 : S2x3x2304.Idx) := by blk_ext [idx0 t]
  rw [he, histOut_at]
  refine (last_at _ y1 y2).trans ((uTile_at m c t ht _ y2).trans ?_)
  refine congrArg (fun R => col (V m c main_v1) (V m c main_v12) (V m c main_v10) R ⟨0 + y2.val, by omega⟩) (Fin.ext ?_)
  show 256 * t.val + (248 + (5 + y1.val)) = 8192 * (t.val / 32) + (8189 + y1.val)
  omega

/-- What a grid point keeps for the next one. -/
theorem kept_after (c : Dev nD) (t : Fin cfg0.N) : (outsAt0 m c t.val t.isLt).2.2.2.2.2 = k0_pay1 (F := Ideal) (k0_pay20 (uTile m c t)) := by
  by_cases h0 : t.val % 32 = 0
  · rw [outsAt0_A m c t h0 (by omega)]; dsimp only; frame_out; rfl
  · by_cases h1 : t.val % 32 = 31
    · rw [outsAt0_C m c t h0 h1]; dsimp only; frame_out; rfl
    · rw [outsAt0_B m c t h0 h1]; dsimp only; frame_out; rfl

/-- A block of convolved rows behind the rows `P`. -/
abbrev block (c : Dev nD) (t : Fin cfg0.N) (P : FVec Ideal S8x2304 .f32) : FVec Ideal S256x2304 .f32 :=
  View.canon (written (uTile m c t) P (View.ld (iblk m c 4 t) (Rect.unit ![0, 0] ![1, 2304] inb_S4x2304_S1x2304_0_0)) (View.ld (iblk m c 4 t) (Rect.unit ![1, 0] ![1, 2304] inb_S4x2304_S1x2304_1_0)) (View.ld (iblk m c 4 t) (Rect.unit ![2, 0] ![1, 2304] inb_S4x2304_S1x2304_2_0)) (View.ld (iblk m c 4 t) (Rect.unit ![3, 0] ![1, 2304] inb_S4x2304_S1x2304_3_0)))

/-- The first block of a batch entry stands behind the history. -/
theorem conv_first (c : Dev nD) (t : Fin cfg0.N) (h0 : t.val % 32 = 0) :
    (dats m 0 c).after 5 t = block m c t ((View.whole cc0_scratch0).readCov (stored (k0_pay4 (F := Ideal) (iblk m c 3 t)) (k0_pay3 (F := Ideal))) (Rect.unit (s := S8x2304) ![0, 0] ![8, 2304] inb_S8x2304_S8x2304_0_0).toLoadRect) := by
  rw [after0_5, outsAt0_A m c t h0 (by omega)]; dsimp only; frame_out; rfl

/-- Every other block stands behind the rows kept before it. -/
theorem conv_next (c : Dev nD) (t : Fin cfg0.N) (h0 : ¬ t.val % 32 = 0) :
    (dats m 0 c).after 5 t = block m c t (outsAt0 m c (t.val - 1) (by omega)).2.2.2.2.2 := by
  by_cases h1 : t.val % 32 = 31
  · rw [after0_5, outsAt0_C m c t h0 h1]; dsimp only; frame_out
    generalize (outsAt0 m c (t.val - 1) _).2.2.2.2.2 = P
    rw [read_unread_whole]; rfl
  · rw [after0_5, outsAt0_B m c t h0 h1]; dsimp only; frame_out
    generalize (outsAt0 m c (t.val - 1) _).2.2.2.2.2 = P
    rw [read_unread_whole]; rfl

/-- The rows of one batch entry, in one column. -/
def seq (X : FVec Ideal S16384x1024 .f32) (G : FVec Ideal S1x1024 .f32) (W : FVec Ideal S1024x3456 .bf16) (b : ℕ) (hb : b < 2) (j : Fin 2304) (q : Fin 8192) : EReal :=
  col X G W ⟨8192 * b + q.val, by omega⟩ ⟨0 + j.val, by omega⟩

/-- A block of rows behind the three rows before it is a part of the whole sequence behind zeros. -/
theorem conv_part {h : Fin 3 → EReal} {u : Fin 256 → EReal} {f : Fin 8192 → EReal} {w w' : Fin 4 → EReal} (s : ℕ) (hs : s < 32)
    (hh : ∀ i : Fin 3, h i = padded (n := 8192) (fun _ => 0) f ⟨256 * s + i.val, by omega⟩) (hu : ∀ i : Fin 256, u i = f ⟨256 * s + i.val, by omega⟩) (hw : ∀ k, w k = w' k) (r : Fin 256) :
    convAt (n := 256) h u w r = convAt (n := 8192) (fun _ => 0) f w' ⟨256 * s + r.val, by omega⟩ := by
  obtain rfl : w = w' := funext hw
  refine congrArg (fun p => silu (mixed p w)) (funext fun k => ?_)
  unfold padded
  by_cases hk : k.val + r.val < 3
  · rw [dif_pos hk, hh]
    unfold padded
    by_cases hz : 256 * s + (k.val + r.val) < 3
    · rw [dif_pos hz, dif_pos (by show k.val + (256 * s + r.val) < 3; omega)]
    · rw [dif_neg hz, dif_neg (by show ¬ k.val + (256 * s + r.val) < 3; omega)]
      exact congrArg f (Fin.ext (by show 256 * s + (k.val + r.val) - 3 = k.val + (256 * s + r.val) - 3; omega))
  · rw [dif_neg hk, hu, dif_neg (by show ¬ k.val + (256 * s + r.val) < 3; omega)]
    exact congrArg f (Fin.ext (by show 256 * s + (k.val + r.val - 3) = k.val + (256 * s + r.val) - 3; omega))

/-- The rows of a block, as a part of the sequence of its batch entry. -/
theorem seq_tile (c : Dev nD) (t : Fin cfg0.N) (ht : t.val < 64) (r : Fin 256) (j : Fin 2304) :
    uTile m c t (ix2 r j) = seq (V m c main_v1) (V m c main_v12) (V m c main_v10) (t.val / 32) (by omega) j ⟨256 * (t.val % 32) + r.val, by omega⟩ := by
  rw [uTile_at m c t ht r j, seq]
  exact congrArg (fun R => col (V m c main_v1) (V m c main_v12) (V m c main_v10) R ⟨0 + j.val, by omega⟩) (Fin.ext (by show 256 * t.val + r.val = 8192 * (t.val / 32) + (256 * (t.val % 32) + r.val); omega))

/-- The taps in one column. -/
theorem taps_at (c : Dev nD) (t : Fin cfg0.N) (j : Fin 2304) (k : Fin 4) :
    (![View.ld (Val := Elt Ideal) (e' := .f32) (iblk m c 4 t) (Rect.unit (s := S4x2304) ![0, 0] ![1, 2304] inb_S4x2304_S1x2304_0_0) (ix2 0 j : S1x2304.Idx), View.ld (Val := Elt Ideal) (e' := .f32) (iblk m c 4 t) (Rect.unit (s := S4x2304) ![1, 0] ![1, 2304] inb_S4x2304_S1x2304_1_0) (ix2 0 j : S1x2304.Idx), View.ld (Val := Elt Ideal) (e' := .f32) (iblk m c 4 t) (Rect.unit (s := S4x2304) ![2, 0] ![1, 2304] inb_S4x2304_S1x2304_2_0) (ix2 0 j : S1x2304.Idx), View.ld (Val := Elt Ideal) (e' := .f32) (iblk m c 4 t) (Rect.unit (s := S4x2304) ![3, 0] ![1, 2304] inb_S4x2304_S1x2304_3_0) (ix2 0 j : S1x2304.Idx)] : Fin 4 → EReal) k = V m c main_v11 (ix2 k j : S4x2304.Idx) := by
  fin_cases k
  · exact (tap0 _ j).trans (blk_c m c t 0 j)
  · exact (tap1 _ j).trans (blk_c m c t 1 j)
  · exact (tap2 _ j).trans (blk_c m c t 2 j)
  · exact (tap3 _ j).trans (blk_c m c t 3 j)

/-- One entry of a block of convolved rows, from a history of zeros. -/
theorem conv_point (hz : ∀ (c : Dev nD) (b : Fin 2) (i : Fin 3) (j : Fin 2304), V m c main_v0 (ix3 b i j : S2x3x2304.Idx) = (0 : EReal)) (c : Dev nD) (t : Fin cfg0.N) (ht : t.val < 64) (r : Fin 256) (j : Fin 2304) :
    (dats m 0 c).after 5 t (ix2 r j : S256x2304.Idx) = convAt (n := 8192) (fun _ => 0) (seq (V m c main_v1) (V m c main_v12) (V m c main_v10) (t.val / 32) (by omega) j)
      (fun k => V m c main_v11 (ix2 k j : S4x2304.Idx)) ⟨256 * (t.val % 32) + r.val, by omega⟩ := by
  by_cases h0 : t.val % 32 = 0
  · rw [conv_first m c t h0]
    refine (tile_at _ _ _ _ _ _ r j).trans (conv_part (t.val % 32) (by omega) (fun i => ?_) (fun i => seq_tile m c t ht i j) (fun k => taps_at m c t j k) r)
    refine (read_old _ _ i j).trans ((old_at _ i j).trans ((blk_h m c t ht i j).trans ((hz c _ i j).trans ?_)))
    unfold padded
    rw [dif_pos (by show 256 * (t.val % 32) + i.val < 3; omega)]
  · rw [conv_next m c t h0]
    refine (tile_at _ _ _ _ _ _ r j).trans (conv_part (t.val % 32) (by omega) (fun i => ?_) (fun i => seq_tile m c t ht i j) (fun k => taps_at m c t j k) r)
    have hk := kept_after m c ⟨t.val - 1, by omega⟩
    refine (congrFun hk (ix2 ⟨5 + i.val, by omega⟩ j : S8x2304.Idx)).trans ((kept_at _ _ j).trans ((seq_tile m c ⟨t.val - 1, by omega⟩ (by show t.val - 1 < 64; omega) _ j).trans ?_))
    unfold padded
    rw [dif_neg (by show ¬ 256 * (t.val % 32) + i.val < 3; omega)]
    unfold seq
    exact congrArg (fun R => col (V m c main_v1) (V m c main_v12) (V m c main_v10) R ⟨0 + j.val, by omega⟩) (Fin.ext (by
      show 8192 * ((t.val - 1) / 32) + (256 * ((t.val - 1) % 32) + (248 + (5 + i.val))) = 8192 * (t.val / 32) + (256 * (t.val % 32) + i.val - 3); omega))

/-- The array of convolved rows. -/
def convOut (X : FVec Ideal S16384x1024 .f32) (G : FVec Ideal S1x1024 .f32) (W : FVec Ideal S1024x3456 .bf16) (C : FVec Ideal S4x2304 .f32) : FVec Ideal S16384x2304 .f32 := fun i =>
  convAt (n := 8192) (fun _ => 0) (seq X G W ((i 0).val / 8192) (by have := (i 0).isLt; simp at *; omega) (i 1)) (fun k => C (ix2 k (i 1))) ⟨(i 0).val % 8192, by omega⟩

/-- One entry of that array. -/
theorem convOut_at (X : FVec Ideal S16384x1024 .f32) (G : FVec Ideal S1x1024 .f32) (W : FVec Ideal S1024x3456 .bf16) (C : FVec Ideal S4x2304 .f32) (b : ℕ) (hb : b < 2) (q : Fin 8192) (R : Fin 16384)
    (hR : R.val = 8192 * b + q.val) (j : Fin 2304) :
    convOut X G W C (ix2 R j) = convAt (n := 8192) (fun _ => 0) (seq X G W b hb j) (fun k => C (ix2 k j)) q := by
  obtain rfl : b = R.val / 8192 := by omega
  have hq : q = ⟨R.val % 8192, by omega⟩ := Fin.ext (by show q.val = R.val % 8192; omega)
  rw [hq]
  rfl

/-- What the call leaves in its output of convolved rows, from a history of zeros. -/
theorem conv0 (hz : ∀ (c : Dev nD) (b : Fin 2) (i : Fin 3) (j : Fin 2304), V m c main_v0 (ix3 b i j : S2x3x2304.Idx) = (0 : EReal)) (c : Dev nD) :
    (dats m 0 c).arrAt 5 cfg0.N = convOut (V m c main_v1) (V m c main_v12) (V m c main_v10) (V m c main_v11) := by
  refine (dats m 0 c).arrAt_eq_of_covers 5 _ (by decide +kernel) fun t hf y => ?_
  have ht : t.val < 64 := lt_of_lt_of_eq t.isLt (by decide +kernel)
  have hp := conv_point m hz c t ht
  revert hp
  blk_simp
  intro hp
  idx_vars y
  have he : ((View.whole main_v13_0).slice (win0_5.rect t)).emb (ix2 y0 y1) = (ix2 ⟨256 * t.val + y0.val, by omega⟩ y1 : S16384x2304.Idx) := by blk_ext [idx0 t]
  rw [he, convOut_at _ _ _ _ (t.val / 32) (by omega) ⟨256 * (t.val % 32) + y0.val, by omega⟩ _ (by show 256 * t.val + y0.val = 8192 * (t.val / 32) + (256 * (t.val % 32) + y0.val); omega) y1]
  exact hp y0 y1

end Cert.Kernel9Ideal.Conv
end
-- ==== Proof.ConvPromptRef.lean ====
module

public import proofs.«01_k».proof.Proof.Gen.Reference9Ideal
public import proofs.«01_k».proof.Proof.Rows
public import proofs.«01_k».proof.Proof.Taps
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference9Ideal.Conv

open Cert.Reference9Ideal Cert.Reference9Ideal.Gen
open Cert.Rows (normed proj)
open Cert.Taps (mixed silu padded convAt)

/-- Every row over its root mean square, times a gain, times a weight matrix. -/
def projRows (x : FVec Ideal S2x8192x1024 .f32) (g : FVec Ideal S1024 .f32) (w : FVec Ideal S1024x3352 .f32) : FVec Ideal S2x8192x3352 .f32 :=
  Host.dotGeneral dot_S2x8192x1024_S1024x3352_S2x8192x3352_2_0_01_1_n_n none
    (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2 g))) w

/-- One entry of `projRows`. -/
theorem projRows_at (x : FVec Ideal S2x8192x1024 .f32) (g : FVec Ideal S1024 .f32) (w : FVec Ideal S1024x3352 .f32) (b : Fin 2) (r : Fin 8192) (j : Fin 3352) :
    projRows x g w (ix3 b r j) = proj (fun k => x (ix3 b r k)) (fun k => g (ix1 k)) (fun k => w (ix2 k j)) := by
  pointwise [projRows]
  rfl

/-- The gains of the first layer. -/
def gain (g : FVec Ideal S2x1024 .f32) : FVec Ideal S1024 .f32 := shapeCast S1024 (extractStridedSlice S1x1024 ![0, 0] g slices_S2x1024_S1x1024_0_0) shapeCasts_S1x1024_S1024
/-- One gain. -/
theorem gain_at (g : FVec Ideal S2x1024 .f32) (k : Fin 1024) : gain g (ix1 k) = g (ix2 0 k) := by
  pointwise [gain]
/-- The weights of the layer. -/
def weights (w : FVec Ideal S1x1024x3352 .f32) : FVec Ideal S1024x3352 .f32 := shapeCast S1024x3352 w shapeCasts_S1x1024x3352_S1024x3352
/-- One weight. -/
theorem weights_at (w : FVec Ideal S1x1024x3352 .f32) (k : Fin 1024) (j : Fin 3352) : weights w (ix2 k j) = w (ix3 0 k j) := by
  pointwise [weights]

/-- The projected rows. -/
def rows (x : FVec Ideal S2x8192x1024 .f32) (g : FVec Ideal S2x1024 .f32) (w : FVec Ideal S1x1024x3352 .f32) : FVec Ideal S2x8192x3352 .f32 := projRows x (gain g) (weights w)
/-- One entry of the projected rows. -/
theorem rows_at (x : FVec Ideal S2x8192x1024 .f32) (g : FVec Ideal S2x1024 .f32) (w : FVec Ideal S1x1024x3352 .f32) (b : Fin 2) (t : Fin 8192) (j : Fin 3352) :
    rows x g w (ix3 b t j) = proj (fun k => x (ix3 b t k)) (fun k => g (ix2 0 k)) (fun k => w (ix3 0 k j)) := by
  rw [rows, projRows_at]
  simp only [gain_at, weights_at]

/-- The rows that are convolved. -/
def uRows (y : FVec Ideal S2x8192x3352 .f32) : FVec Ideal S2x8192x2304 .f32 := extractStridedSlice S2x8192x2304 ![0, 0, 0] y slices_S2x8192x3352_S2x8192x2304_0_0_0
/-- The gates. -/
def gates (y : FVec Ideal S2x8192x3352 .f32) : FVec Ideal S2x8192x768 .f32 := extractStridedSlice S2x8192x768 ![0, 0, 2304] y slices_S2x8192x3352_S2x8192x768_0_0_2304
/-- The queries to the memory. -/
def queries (y : FVec Ideal S2x8192x3352 .f32) : FVec Ideal S2x8192x256 .f32 := extractStridedSlice S2x8192x256 ![0, 0, 3096] y slices_S2x8192x3352_S2x8192x256_0_0_3096
/-- One entry of `uRows`. -/
theorem uRows_at (y : FVec Ideal S2x8192x3352 .f32) (b : Fin 2) (t : Fin 8192) (j : Fin 2304) : uRows y (ix3 b t j) = y (ix3 b t ⟨j.val, by omega⟩) := by
  pointwise [uRows]
/-- One entry of `gates`. -/
theorem gates_at (y : FVec Ideal S2x8192x3352 .f32) (b : Fin 2) (t : Fin 8192) (j : Fin 768) : gates y (ix3 b t j) = y (ix3 b t ⟨2304 + j.val, by omega⟩) := by
  pointwise [gates]
/-- One entry of `queries`. -/
theorem queries_at (y : FVec Ideal S2x8192x3352 .f32) (b : Fin 2) (t : Fin 8192) (j : Fin 256) : queries y (ix3 b t j) = y (ix3 b t ⟨3096 + j.val, by omega⟩) := by
  pointwise [queries]

/-- The history before the rows. -/
def joined (h : FVec Ideal S2x3x2304 .f32) (u : FVec Ideal S2x8192x2304 .f32) : FVec Ideal S2x8195x2304 .f32 :=
  concatenate S2x8195x2304 1 [⟨S2x3x2304, h⟩, ⟨S2x8192x2304, u⟩] concatenates_S2x3x2304_S2x8192x2304_S2x8195x2304_d1
/-- One entry of `joined`. -/
theorem joined_at (h : FVec Ideal S2x3x2304 .f32) (u : FVec Ideal S2x8192x2304 .f32) (b : Fin 2) (q : Fin 8195) (j : Fin 2304) :
    joined h u (ix3 b q j) = padded (n := 8192) (fun i => h (ix3 b i j)) (fun i => u (ix3 b i j)) q := by
  pointwise [joined]
  rfl

/-- Four weighted neighbours of every row, added. -/
def mix (up : FVec Ideal S2x8195x2304 .f32) (w : FVec Ideal S4x2304 .f32) : FVec Ideal S2x8192x2304 .f32 :=
  addf (addf (addf (addf (broadcastInDim S2x8192x2304 ![] bcast_S_S2x8192x2304 (constant S_ .f32 0x00000000#32)) (mulf (extractStridedSlice S2x8192x2304 ![0, 0, 0] up slices_S2x8195x2304_S2x8192x2304_0_0_0) (broadcastInDim S2x8192x2304 ![0, 1, 2] bcast_S1x1x2304_S2x8192x2304_0_1_2 (broadcastInDim S1x1x2304 ![2] bcast_S2304_S1x1x2304_2 (shapeCast S2304 (extractStridedSlice S1x2304 ![0, 0] w slices_S4x2304_S1x2304_0_0) shapeCasts_S1x2304_S2304)))))
    (mulf (extractStridedSlice S2x8192x2304 ![0, 1, 0] up slices_S2x8195x2304_S2x8192x2304_0_1_0) (broadcastInDim S2x8192x2304 ![0, 1, 2] bcast_S1x1x2304_S2x8192x2304_0_1_2 (broadcastInDim S1x1x2304 ![2] bcast_S2304_S1x1x2304_2 (shapeCast S2304 (extractStridedSlice S1x2304 ![1, 0] w slices_S4x2304_S1x2304_1_0) shapeCasts_S1x2304_S2304)))))
    (mulf (extractStridedSlice S2x8192x2304 ![0, 2, 0] up slices_S2x8195x2304_S2x8192x2304_0_2_0) (broadcastInDim S2x8192x2304 ![0, 1, 2] bcast_S1x1x2304_S2x8192x2304_0_1_2 (broadcastInDim S1x1x2304 ![2] bcast_S2304_S1x1x2304_2 (shapeCast S2304 (extractStridedSlice S1x2304 ![2, 0] w slices_S4x2304_S1x2304_2_0) shapeCasts_S1x2304_S2304)))))
    (mulf (extractStridedSlice S2x8192x2304 ![0, 3, 0] up slices_S2x8195x2304_S2x8192x2304_0_3_0) (broadcastInDim S2x8192x2304 ![0, 1, 2] bcast_S1x1x2304_S2x8192x2304_0_1_2 (broadcastInDim S1x1x2304 ![2] bcast_S2304_S1x1x2304_2 (shapeCast S2304 (extractStridedSlice S1x2304 ![3, 0] w slices_S4x2304_S1x2304_3_0) shapeCasts_S1x2304_S2304))))
/-- One entry of `mix`. -/
theorem mix_at (up : FVec Ideal S2x8195x2304 .f32) (w : FVec Ideal S4x2304 .f32) (b : Fin 2) (t : Fin 8192) (j : Fin 2304) :
    mix up w (ix3 b t j) = mixed (fun i => up (ix3 b ⟨i.val + t.val, by omega⟩ j)) (fun i => w (ix2 i j)) := by
  pointwise [mix]
  have h : ∀ q : Fin 8195, q = ⟨0 + t.val, by omega⟩ → up (ix3 b q j) * w (ix2 0 j) + up (ix3 b ⟨1 + t.val, by omega⟩ j) * w (ix2 1 j) + up (ix3 b ⟨2 + t.val, by omega⟩ j) * w (ix2 2 j) + up (ix3 b ⟨3 + t.val, by omega⟩ j) * w (ix2 3 j) = mixed (fun i => up (ix3 b ⟨i.val + t.val, by omega⟩ j)) (fun i => w (ix2 i j)) := by
    intro q e
    rw [e]
    rfl
  exact h _ (Fin.ext (Nat.zero_add _).symm)

/-- `silu` of every entry. -/
def act (y : FVec Ideal S2x8192x2304 .f32) : FVec Ideal S2x8192x2304 .f32 :=
  mulf y (Host.divf (broadcastInDim S2x8192x2304 ![] bcast_S_S2x8192x2304 (constant S_ .f32 0x3F800000#32)) (addf (broadcastInDim S2x8192x2304 ![] bcast_S_S2x8192x2304 (constant S_ .f32 0x3F800000#32)) (Host.exp (Host.negf y))))
/-- One entry of `act`. -/
theorem act_at (y : FVec Ideal S2x8192x2304 .f32) (b : Fin 2) (t : Fin 8192) (j : Fin 2304) : act y (ix3 b t j) = silu (y (ix3 b t j)) := by
  pointwise [act]
  rfl

/-- A history of zeros. -/
def zeros : FVec Ideal S2x3x2304 .f32 := broadcastInDim S2x3x2304 ![] bcast_S_S2x3x2304 (constant S_ .f32 0x00000000#32)
/-- One entry of `zeros`. -/
theorem old_at (b : Fin 2) (i : Fin 3) (j : Fin 2304) : zeros (ix3 b i j) = (0 : EReal) := by
  pointwise [zeros]

/-- The reference's convolved rows. -/
def conv (x : FVec Ideal S2x8192x1024 .f32) (g : FVec Ideal S2x1024 .f32) (w : FVec Ideal S1x1024x3352 .f32) (c : FVec Ideal S1x4x2304 .f32) : FVec Ideal S2x8192x2304 .f32 :=
  act (mix (joined zeros (uRows (rows x g w))) (shapeCast S4x2304 c shapeCasts_S1x4x2304_S4x2304))
/-- The reference's new history. -/
def hist (x : FVec Ideal S2x8192x1024 .f32) (g : FVec Ideal S2x1024 .f32) (w : FVec Ideal S1x1024x3352 .f32) : FVec Ideal S1x2x3x2304 .f32 :=
  broadcastInDim S1x2x3x2304 ![1, 2, 3] bcast_S2x3x2304_S1x2x3x2304_1_2_3 (extractStridedSlice S2x3x2304 ![0, 8192, 0] (joined zeros (uRows (rows x g w))) slices_S2x8195x2304_S2x3x2304_0_8192_0)

/-- One tap as the program reads it. -/
theorem tap_at (c : FVec Ideal S1x4x2304 .f32) (i : Fin 4) (j : Fin 2304) : shapeCast S4x2304 c shapeCasts_S1x4x2304_S4x2304 (ix2 i j) = c (ix3 0 i j) := by
  pointwise

/-- One entry of the convolved rows. -/
theorem conv_at (x : FVec Ideal S2x8192x1024 .f32) (g : FVec Ideal S2x1024 .f32) (w : FVec Ideal S1x1024x3352 .f32) (c : FVec Ideal S1x4x2304 .f32) (b : Fin 2) (t : Fin 8192) (j : Fin 2304) :
    conv x g w c (ix3 b t j) = convAt (fun _ => 0) (fun i => proj (fun k => x (ix3 b i k)) (fun k => g (ix2 0 k)) (fun k => w (ix3 0 k ⟨j.val, by omega⟩))) (fun i => c (ix3 0 i j)) t := by
  rw [conv, act_at, mix_at]
  simp only [joined_at, tap_at, old_at, uRows_at, rows_at]
  rfl

/-- One entry of the new history. -/
theorem hist_at (x : FVec Ideal S2x8192x1024 .f32) (g : FVec Ideal S2x1024 .f32) (w : FVec Ideal S1x1024x3352 .f32) (b : Fin 2) (i : Fin 3) (j : Fin 2304) :
    hist x g w (ix4 0 b i j) = proj (fun k => x (ix3 b ⟨8189 + i.val, by omega⟩ k)) (fun k => g (ix2 0 k)) (fun k => w (ix3 0 k ⟨j.val, by omega⟩)) := by
  have e : hist x g w (ix4 0 b i j) = joined zeros (uRows (rows x g w)) (ix3 b ⟨8192 + i.val, by omega⟩ j) := by
    pointwise [hist]
  rw [e, joined_at, padded, dif_neg (by show ¬ 8192 + i.val < 3; omega), uRows_at, rows_at]
  have f : (⟨8192 + i.val - 3, by omega⟩ : Fin 8192) = ⟨8189 + i.val, by omega⟩ := Fin.ext (by show 8192 + i.val - 3 = 8189 + i.val; omega)
  rw [f]

set_option maxHeartbeats 2000000 in
/-- What the reference ends with: its results, the arguments as launched. -/
theorem ends_with (m : (ℓ : Loc nD τ sig) → Buf (Elt Ideal) ℓ) (ρ : Dev nD → PrngReg) : θ_run (defs (F := Ideal)) (onTc (τ := τ) (main (F := Ideal))) ⟨m, fun _ => 0, ρ⟩ (fun r => ∀ c : Dev nD,
      r.2.mem ((c.tc : Thread nD τ).loc main_v54) = conv (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v18) = gates (rows (m ((c.tc : Thread nD τ).loc main_arg0)) (m ((c.tc : Thread nD τ).loc main_arg1)) (m ((c.tc : Thread nD τ).loc main_arg2)))
      ∧ r.2.mem ((c.tc : Thread nD τ).loc main_v21) = queries (rows (m ((c.tc : Thread nD τ).loc main_arg0)) (m ((c.tc : Thread nD τ).loc main_arg1)) (m ((c.tc : Thread nD τ).loc main_arg2)))
      ∧ r.2.mem ((c.tc : Thread nD τ).loc main_v56) = hist (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine θ_run_mono (Idealize.ShloMosaic.StableHlo.run_hlo _ _ (by hlo_seq) (by decide) (by decide) (by simp) (by intro _ h; (repeat (cases h with | head => rfl | tail _ h => ?_)); exact nomatch h) _ _) ?_
  intro r hr c
  refine ⟨(hr c main_v54).trans ?_, (hr c main_v18).trans ?_, (hr c main_v21).trans ?_, (hr c main_v56).trans ?_, (hr c main_arg0).trans ?_, (hr c main_arg1).trans ?_, (hr c main_arg2).trans ?_, (hr c main_arg3).trans ?_⟩
  all_goals after_results_simp
  all_goals rfl

end Cert.Reference9Ideal.Conv
end
-- ==== Proof.ConvPromptEntry.lean ====
module

public import proofs.«01_k».proof.Proof.Gen.Kernel9Ideal.Frame
public import proofs.«01_k».proof.Proof.ConvPromptCalls
public import proofs.«01_k».proof.Proof.ConvPromptRef
public import Idealize.ShloMosaic.Lib.Pipeline.ValueKit
public import Idealize.ShloMosaic.Lib.Routing.OpsSet
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Conv
open Cert.Kernel9Ideal Cert.Kernel9Ideal.Gen
open Cert.Rows (normed proj)
open Cert.Taps (mixed silu padded convAt)

open Cert.Reference9Ideal.Conv (conv conv_at hist hist_at gates gates_at queries queries_at rows rows_at)

variable (m : (ℓ : Loc nD τ sig) → Buf (Elt Ideal) ℓ) (ρ : Dev nD → PrngReg)

/-- The rows of both batch entries, one after the other. -/
theorem flat_at (y : FVec Ideal S2x8192x1024 .f32) (b : Fin 2) (t : Fin 8192) (k : Fin 1024) : shapeCast S16384x1024 y shapeCasts_S2x8192x1024_S16384x1024 (ix2 ⟨b.val * 8192 + t.val, by omega⟩ k) = y (ix3 b t k) := by
  pointwise
/-- The gains, through the host's reshapes. -/
theorem gains_at (y : FVec Ideal S2x1024 .f32) (k : Fin 1024) :
    shapeCast S1x1024 (shapeCast S1024 (extractStridedSlice S1x1024 ![0, 0] y slices_S2x1024_S1x1024_0_0) shapeCasts_S1x1024_S1024) shapeCasts_S1024_S1x1024 (ix2 0 k) = y (ix2 0 k) := by
  pointwise
/-- The taps, through the host's reshape. -/
theorem tapsIn_at (y : FVec Ideal S1x4x2304 .f32) (i : Fin 4) (j : Fin 2304) : shapeCast S4x2304 y shapeCasts_S1x4x2304_S4x2304 (ix2 i j) = y (ix3 0 i j) := by
  pointwise

/-- The weights as the host joins them. -/
def joinedW (a : FVec Ideal S1x1024x3352 .f32) (z : FVec Ideal S1024x128 .f32) : FVec Ideal S1024x3456 .bf16 :=
  truncf .bf16 (concatenate S1024x3456 1 [⟨S1024x3072, extractStridedSlice S1024x3072 ![0, 0] (shapeCast S1024x3352 a shapeCasts_S1x1024x3352_S1024x3352) slices_S1024x3352_S1024x3072_0_0⟩,
    ⟨S1024x256, extractStridedSlice S1024x256 ![0, 3096] (shapeCast S1024x3352 a shapeCasts_S1x1024x3352_S1024x3352) slices_S1024x3352_S1024x256_0_3096⟩, ⟨S1024x128, z⟩] concatenates_S1024x3072_S1024x256_S1024x128_S1024x3456_d1) bitsLt_bf16_f32
/-- One of their first columns. -/
theorem joinedW_left (a : FVec Ideal S1x1024x3352 .f32) (z : FVec Ideal S1024x128 .f32) (k : Fin 1024) (j : Fin 3456) (hj : j.val < 3072) : joinedW a z (ix2 k j) = a (ix3 0 k ⟨j.val, by omega⟩) := by
  pointwise [joinedW]
  exact dif_pos hj
/-- One of the columns of the queries. -/
theorem joinedW_right (a : FVec Ideal S1x1024x3352 .f32) (z : FVec Ideal S1024x128 .f32) (k : Fin 1024) (j : Fin 256) : joinedW a z (ix2 k ⟨3072 + j.val, by omega⟩) = a (ix3 0 k ⟨3096 + j.val, by omega⟩) := by
  pointwise [joinedW]

/-- The buffers after the host's first operations. -/
abbrev W1 (c : Dev nD) : Valuation τ sig (Elt Ideal) := StableHlo.after hostOps0 (fun b => m (c, b))
/-- The buffers after the padding. -/
abbrev W2 (c : Dev nD) : Valuation τ sig (Elt Ideal) := StableHlo.after hostOps0_1 (W1 m c)
/-- The buffers when the call starts. -/
theorem V_eq (c : Dev nD) (b : Ref sig .tc) : V m c b = StableHlo.after hostOps0_2 (W2 m c) (Proc.devRef .tc b) := rfl

/-- One entry of the rows, as the call finds them. -/
theorem in_x (c : Dev nD) (b : Fin 2) (t : Fin 8192) (k : Fin 1024) (R : Fin 16384) (hR : R.val = 8192 * b.val + t.val) :
    V m c main_v1 (ix2 R k : S16384x1024.Idx) = m ((c : Thread nD τ).loc main_arg0) (ix3 b t k : S2x8192x1024.Idx) := by
  have h : V m c main_v1 = shapeCast S16384x1024 (m ((c : Thread nD τ).loc main_arg0) : FVec Ideal S2x8192x1024 .f32) shapeCasts_S2x8192x1024_S16384x1024 := by
    rw [V_eq]; after_results; rfl
  have hr : R = ⟨b.val * 8192 + t.val, by omega⟩ := Fin.ext (by show R.val = b.val * 8192 + t.val; omega)
  rw [hr]
  exact (congrFun h _).trans (flat_at _ b t k)

/-- One entry of the history the call finds. -/
theorem in_h (c : Dev nD) (b : Fin 2) (i : Fin 3) (j : Fin 2304) : V m c main_v0 (ix3 b i j : S2x3x2304.Idx) = (0 : EReal) := by
  have h : V m c main_v0 = (broadcastInDim S2x3x2304 ![] bcast_S_S2x3x2304 (constant (F := Ideal) S_ .f32 0x00000000#32)) := by
    rw [V_eq]; after_results
  rw [h]
  pointwise

/-- One gain, as the call finds it. -/
theorem in_g (c : Dev nD) (k : Fin 1024) : V m c main_v12 (ix2 0 k : S1x1024.Idx) = m ((c : Thread nD τ).loc main_arg1) (ix2 0 k : S2x1024.Idx) := by
  have h : V m c main_v12 = shapeCast S1x1024 (shapeCast S1024 (extractStridedSlice S1x1024 ![0, 0] (m ((c : Thread nD τ).loc main_arg1) : FVec Ideal S2x1024 .f32) slices_S2x1024_S1x1024_0_0) shapeCasts_S1x1024_S1024) shapeCasts_S1024_S1x1024 := by
    rw [V_eq]; after_results; rfl
  exact (congrFun h _).trans (gains_at _ k)

/-- One tap, as the call finds it. -/
theorem in_c (c : Dev nD) (i : Fin 4) (j : Fin 2304) : V m c main_v11 (ix2 i j : S4x2304.Idx) = m ((c : Thread nD τ).loc main_arg3) (ix3 0 i j : S1x4x2304.Idx) := by
  have h : V m c main_v11 = shapeCast S4x2304 (m ((c : Thread nD τ).loc main_arg3) : FVec Ideal S1x4x2304 .f32) shapeCasts_S1x4x2304_S4x2304 := by
    rw [V_eq]; after_results; rfl
  exact (congrFun h _).trans (tapsIn_at _ i j)

/-- The weights of the convolved columns and the gates, as the host leaves them. -/
theorem w2_v5 (c : Dev nD) : W2 m c (Proc.devRef .tc main_v5) = extractStridedSlice S1024x3072 ![0, 0] (shapeCast S1024x3352 (m ((c : Thread nD τ).loc main_arg2) : FVec Ideal S1x1024x3352 .f32) shapeCasts_S1x1024x3352_S1024x3352) slices_S1024x3352_S1024x3072_0_0 := by
  show StableHlo.after hostOps0_1 (StableHlo.after hostOps0 (fun b => m (c, b))) (Proc.devRef .tc main_v5) = _
  after_results; rfl
/-- The weights of the queries, as the host leaves them. -/
theorem w2_v7 (c : Dev nD) : W2 m c (Proc.devRef .tc main_v7) = extractStridedSlice S1024x256 ![0, 3096] (shapeCast S1024x3352 (m ((c : Thread nD τ).loc main_arg2) : FVec Ideal S1x1024x3352 .f32) shapeCasts_S1x1024x3352_S1024x3352) slices_S1024x3352_S1024x256_0_3096 := by
  show StableHlo.after hostOps0_1 (StableHlo.after hostOps0 (fun b => m (c, b))) (Proc.devRef .tc main_v7) = _
  after_results; rfl
/-- The weights, as the call finds them. -/
theorem v_v10 (c : Dev nD) : V m c main_v10 = (truncf .bf16 (concatenate S1024x3456 1 [⟨S1024x3072, (W2 m c (Proc.devRef .tc main_v5) : FVec Ideal S1024x3072 .f32)⟩, ⟨S1024x256, (W2 m c (Proc.devRef .tc main_v7) : FVec Ideal S1024x256 .f32)⟩, ⟨S1024x128, (W2 m c (Proc.devRef .tc main_v8) : FVec Ideal S1024x128 .f32)⟩] concatenates_S1024x3072_S1024x256_S1024x128_S1024x3456_d1) bitsLt_bf16_f32 : FVec Ideal S1024x3456 .bf16) := by
  rw [V_eq]
  generalize W2 m c = W
  after_results
  rfl

/-- The weights, as the call finds them, from the arguments. -/
theorem v_w (c : Dev nD) : V m c main_v10 = joinedW (m ((c : Thread nD τ).loc main_arg2) : FVec Ideal S1x1024x3352 .f32) (W2 m c (Proc.devRef .tc main_v8) : FVec Ideal S1024x128 .f32) := by
  rw [v_v10, w2_v5, w2_v7, joinedW]

/-- One weight of the convolved columns and the gates. -/
theorem in_w (c : Dev nD) (k : Fin 1024) (j : Fin 3456) (hj : j.val < 3072) : V m c main_v10 (ix2 k j : S1024x3456.Idx) = m ((c : Thread nD τ).loc main_arg2) (ix3 0 k ⟨j.val, by omega⟩ : S1x1024x3352.Idx) :=
  (congrFun (v_w m c) _).trans (joinedW_left _ _ k j hj)
/-- One weight of the queries. -/
theorem in_wq (c : Dev nD) (k : Fin 1024) (j : Fin 256) : V m c main_v10 (ix2 k ⟨3072 + j.val, by omega⟩ : S1024x3456.Idx) = m ((c : Thread nD τ).loc main_arg2) (ix3 0 k ⟨3096 + j.val, by omega⟩ : S1x1024x3352.Idx) :=
  (congrFun (v_w m c) _).trans (joinedW_right _ _ k j)

/-- One projected entry of the convolved columns and the gates, from the arguments. -/
theorem col_at (c : Dev nD) (b : Fin 2) (t : Fin 8192) (R : Fin 16384) (hR : R.val = 8192 * b.val + t.val) (j : Fin 3456) (q : Fin 3352) (hj : j.val < 3072) (hq : q.val = j.val) :
    col (V m c main_v1) (V m c main_v12) (V m c main_v10) R j
      = proj (fun k => m ((c : Thread nD τ).loc main_arg0) (ix3 b t k : S2x8192x1024.Idx)) (fun k => m ((c : Thread nD τ).loc main_arg1) (ix2 0 k : S2x1024.Idx)) (fun k => m ((c : Thread nD τ).loc main_arg2) (ix3 0 k q : S1x1024x3352.Idx)) := by
  have hq' : q = ⟨j.val, by omega⟩ := Fin.ext hq
  rw [hq']
  exact proj_congr (fun k => in_x m c b t k R hR) (in_g m c) (fun k => in_w m c k j hj)
/-- One projected entry of the queries, from the arguments. -/
theorem colq_at (c : Dev nD) (b : Fin 2) (t : Fin 8192) (R : Fin 16384) (hR : R.val = 8192 * b.val + t.val) (j : Fin 256) :
    col (V m c main_v1) (V m c main_v12) (V m c main_v10) R ⟨3072 + j.val, by omega⟩
      = proj (fun k => m ((c : Thread nD τ).loc main_arg0) (ix3 b t k : S2x8192x1024.Idx)) (fun k => m ((c : Thread nD τ).loc main_arg1) (ix2 0 k : S2x1024.Idx)) (fun k => m ((c : Thread nD τ).loc main_arg2) (ix3 0 k ⟨3096 + j.val, by omega⟩ : S1x1024x3352.Idx)) :=
  proj_congr (fun k => in_x m c b t k R hR) (in_g m c) (fun k => in_wq m c k j)

/-- The buffers when the host's last operations start. -/
abbrev W4 (c : Dev nD) : Valuation τ sig (Elt Ideal) := Pipeline.withArrays (cfgs 0).spec c (V0 m c) fun w => (dats m 0 c).arrAt w (cfgs 0).N
/-- A buffer at the end. -/
theorem end_eq (c : Dev nD) (b : Ref sig .tc) : Pipeline.afterTail₀ cfgs (dats m) 0 (V0 m) [hostOps1] c b = StableHlo.after hostOps1 (W4 m c) (Proc.devRef .tc b) := rfl
/-- The call's arrays at the end. -/
theorem W4_arr (c : Dev nD) (w : Fin 10) : W4 m c (Proc.devRef .tc (Pipeline.arrRef (cfgs 0).spec w)) = (dats m 0 c).arrAt w (cfgs 0).N :=
  Pipeline.withArrays_arr (cfgs 0).spec launch0.win.arr_inj c (V0 m c) (fun w => (dats m 0 c).arrAt w (cfgs 0).N) w

end Cert.Kernel9Ideal.Conv
end
-- ==== Proof.ConvPrompt.lean ====
module

public import proofs.«01_k».proof.Proof.Gen.Kernel9Ideal.Frame
public import proofs.«01_k».proof.Proof.ConvPromptEntry
public import Idealize.ShloMosaic.Lib.Pipeline.ValueKit
public import Idealize.ShloMosaic.Lib.Routing.OpsSet
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Conv
open Cert.Kernel9Ideal Cert.Kernel9Ideal.Gen
open Cert.Rows (normed proj)
open Cert.Taps (mixed silu padded convAt)

open Cert.Reference9Ideal.Conv (conv conv_at hist hist_at gates gates_at queries queries_at rows rows_at)

variable (m : (ℓ : Loc nD τ sig) → Buf (Elt Ideal) ℓ) (ρ : Dev nD → PrngReg)

/-- The convolved rows, as two batch entries. -/
theorem split_u (y : FVec Ideal S16384x2304 .f32) (b : Fin 2) (t : Fin 8192) (j : Fin 2304) : shapeCast S2x8192x2304 y shapeCasts_S16384x2304_S2x8192x2304 (ix3 b t j) = y (ix2 ⟨b.val * 8192 + t.val, by omega⟩ j) := by
  pointwise
/-- The gates, as two batch entries. -/
theorem split_g (y : FVec Ideal S16384x768 .f32) (b : Fin 2) (t : Fin 8192) (j : Fin 768) : shapeCast S2x8192x768 y shapeCasts_S16384x768_S2x8192x768 (ix3 b t j) = y (ix2 ⟨b.val * 8192 + t.val, by omega⟩ j) := by
  pointwise
/-- The queries, as two batch entries. -/
theorem split_q (y : FVec Ideal S16384x256 .f32) (b : Fin 2) (t : Fin 8192) (j : Fin 256) : shapeCast S2x8192x256 y shapeCasts_S16384x256_S2x8192x256 (ix3 b t j) = y (ix2 ⟨b.val * 8192 + t.val, by omega⟩ j) := by
  pointwise
/-- The new histories, under one layer. -/
theorem lift_h (y : FVec Ideal S2x3x2304 .f32) (b : Fin 2) (i : Fin 3) (j : Fin 2304) : broadcastInDim S1x2x3x2304 ![1, 2, 3] bcast_S2x3x2304_S1x2x3x2304_1_2_3 y (ix4 0 b i j) = y (ix3 b i j) := by
  pointwise

/-- The convolved rows of equal sequences and taps. -/
theorem convAt_congr {h : Fin 3 → EReal} {u u' : Fin 8192 → EReal} {w w' : Fin 4 → EReal} (r : Fin 8192) (hu : ∀ i, u i = u' i) (hw : ∀ i, w i = w' i) :
    convAt (n := 8192) h u w r = convAt (n := 8192) h u' w' r := by
  obtain rfl : u = u' := funext hu
  obtain rfl : w = w' := funext hw
  rfl

/-- The convolved rows the program ends with are the reference's. -/
theorem final_conv (c : Dev nD) : Pipeline.afterTail₀ cfgs (dats m) 0 (V0 m) [hostOps1] c main_v14 = conv (m ((c : Thread nD τ).loc main_arg0)) (m ((c : Thread nD τ).loc main_arg1)) (m ((c : Thread nD τ).loc main_arg2)) (m ((c : Thread nD τ).loc main_arg3)) := by
  have h : Pipeline.afterTail₀ cfgs (dats m) 0 (V0 m) [hostOps1] c main_v14 = shapeCast S2x8192x2304 (W4 m c (Proc.devRef .tc main_v13_0) : FVec Ideal S16384x2304 .f32) shapeCasts_S16384x2304_S2x8192x2304 := by
    rw [end_eq]; generalize W4 m c = W; after_results; rfl
  have h6 : W4 m c (Proc.devRef .tc main_v13_0) = _ := (W4_arr m c 5).trans (conv0 m (in_h m) c)
  rw [h, h6]
  funext i
  idx_vars i
  rw [split_u, conv_at, convOut_at _ _ _ _ i0.val i0.isLt i1 _ (by show i0.val * 8192 + i1.val = 8192 * i0.val + i1.val; omega) i2]
  exact convAt_congr i1 (fun q => col_at m c i0 q _ rfl _ _ (by show 0 + i2.val < 3072; omega) (by show i2.val = 0 + i2.val; omega)) (fun k => in_c m c k i2)

/-- The gates the program ends with are the reference's. -/
theorem final_gates (c : Dev nD) : Pipeline.afterTail₀ cfgs (dats m) 0 (V0 m) [hostOps1] c main_v15 = gates (rows (m ((c : Thread nD τ).loc main_arg0)) (m ((c : Thread nD τ).loc main_arg1)) (m ((c : Thread nD τ).loc main_arg2))) := by
  have h : Pipeline.afterTail₀ cfgs (dats m) 0 (V0 m) [hostOps1] c main_v15 = shapeCast S2x8192x768 (W4 m c (Proc.devRef .tc main_v13_1) : FVec Ideal S16384x768 .f32) shapeCasts_S16384x768_S2x8192x768 := by
    rw [end_eq]; generalize W4 m c = W; after_results; rfl
  have h6 : W4 m c (Proc.devRef .tc main_v13_1) = _ := (W4_arr m c 6).trans (mid0 m c)
  rw [h, h6]
  funext i
  idx_vars i
  rw [split_g, gates_at, rows_at, midOut_at]
  exact col_at m c i0 i1 _ (by show i0.val * 8192 + i1.val = 8192 * i0.val + i1.val; omega) _ _ (by show 2304 + i2.val < 3072; omega) rfl

/-- The queries the program ends with are the reference's. -/
theorem final_queries (c : Dev nD) : Pipeline.afterTail₀ cfgs (dats m) 0 (V0 m) [hostOps1] c main_v16 = queries (rows (m ((c : Thread nD τ).loc main_arg0)) (m ((c : Thread nD τ).loc main_arg1)) (m ((c : Thread nD τ).loc main_arg2))) := by
  have h : Pipeline.afterTail₀ cfgs (dats m) 0 (V0 m) [hostOps1] c main_v16 = shapeCast S2x8192x256 (W4 m c (Proc.devRef .tc main_v13_2) : FVec Ideal S16384x256 .f32) shapeCasts_S16384x256_S2x8192x256 := by
    rw [end_eq]; generalize W4 m c = W; after_results; rfl
  have h6 : W4 m c (Proc.devRef .tc main_v13_2) = _ := (W4_arr m c 7).trans (right0 m c)
  rw [h, h6]
  funext i
  idx_vars i
  rw [split_q, queries_at, rows_at, rightOut_at]
  exact colq_at m c i0 i1 _ (by show i0.val * 8192 + i1.val = 8192 * i0.val + i1.val; omega) i2

/-- The new history the program ends with is the reference's. -/
theorem final_hist (c : Dev nD) : Pipeline.afterTail₀ cfgs (dats m) 0 (V0 m) [hostOps1] c main_v17 = hist (m ((c : Thread nD τ).loc main_arg0)) (m ((c : Thread nD τ).loc main_arg1)) (m ((c : Thread nD τ).loc main_arg2)) := by
  have h : Pipeline.afterTail₀ cfgs (dats m) 0 (V0 m) [hostOps1] c main_v17 = broadcastInDim S1x2x3x2304 ![1, 2, 3] bcast_S2x3x2304_S1x2x3x2304_1_2_3 (W4 m c (Proc.devRef .tc main_v13_4) : FVec Ideal S2x3x2304 .f32) := by
    rw [end_eq]; generalize W4 m c = W; after_results
  have h6 : W4 m c (Proc.devRef .tc main_v13_4) = _ := (W4_arr m c 9).trans (hist0 m c)
  rw [h, h6]
  funext i
  idx_vars i
  obtain rfl : i0 = 0 := Subsingleton.elim _ _
  rw [lift_h, hist_at, histOut_at]
  exact col_at m c i1 ⟨8189 + i2.val, by omega⟩ _ rfl _ _ (by show 0 + i3.val < 3072; omega) (by show i3.val = 0 + i3.val; omega)

/-- What the program ends with: the reference's results, the arguments as launched. -/
theorem ends_with : θ_run defs (onTc (τ := τ) main) ⟨m, fun _ => 0, ρ⟩ (fun r => ∀ c : Dev nD,
      r.2.mem ((c.tc : Thread nD τ).loc main_v14) = conv (m ((c : Thread nD τ).loc main_arg0)) (m ((c : Thread nD τ).loc main_arg1)) (m ((c : Thread nD τ).loc main_arg2)) (m ((c : Thread nD τ).loc main_arg3))
      ∧ r.2.mem ((c.tc : Thread nD τ).loc main_v15) = gates (rows (m ((c : Thread nD τ).loc main_arg0)) (m ((c : Thread nD τ).loc main_arg1)) (m ((c : Thread nD τ).loc main_arg2)))
      ∧ r.2.mem ((c.tc : Thread nD τ).loc main_v16) = queries (rows (m ((c : Thread nD τ).loc main_arg0)) (m ((c : Thread nD τ).loc main_arg1)) (m ((c : Thread nD τ).loc main_arg2)))
      ∧ r.2.mem ((c.tc : Thread nD τ).loc main_v17) = hist (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  run_from Cert.Kernel9Ideal.Gen.run_main m ρ & Cert.Kernel9Ideal.Gen.unchanged m ρ
  · exact final_conv m c
  · exact final_gates m c
  · exact final_queries m c
  · exact final_hist m c

end Cert.Kernel9Ideal.Conv
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.FfnLast
public import proofs.«01_k».proof.Proof.FfnStep
public import proofs.«01_k».proof.Proof.MemAttn
public import proofs.«01_k».proof.Proof.FfnSample
public import proofs.«01_k».proof.Proof.MemKv
public import proofs.«01_k».proof.Proof.KvSample
public import proofs.«01_k».proof.Proof.KvPrompt
public import proofs.«01_k».proof.Proof.ConvSample
public import proofs.«01_k».proof.Proof.ConvPrompt
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The shapes the precondition's operations take. -/
theorem finite_facts : Cert.Pre_finite.Facts := ⟨by decide, by decide⟩

/-- The reference of call 1 runs to its end and leaves its arguments as they were. -/
theorem frame_reference : Cert.quiescent_ReferenceIdeal (hReferenceIdeal := Cert.ReferenceIdeal.Gen.facts) := by
  intro m g _
  hlo_run
  all_goals first
    | exact fun _ => by simp
    | exact sem_eq_zero_of_no_sems (sig := Cert.ReferenceIdeal.sig) (by decide) _

/-- The last feed-forward half step and the final normalization leaves the reference's result. -/
theorem value_ffn_last : Cert.algebraic_KernelIdeal_ReferenceIdeal (hKernelIdeal := Cert.KernelIdeal.Gen.facts)
    (hReferenceIdeal := Cert.ReferenceIdeal.Gen.facts) := by
  pair_intro
  · run_from Cert.KernelIdeal.Gen.run_main m g
  · hlo_run
    exact (Cert.KernelIdeal.Rows.final m c).symm

/-- The reference of call 2 runs to its end and leaves its arguments as they were. -/
theorem frame_reference2 : Cert.quiescent_Reference2Ideal (hReference2Ideal := Cert.Reference2Ideal.Gen.facts) := by
  intro m g _
  hlo_run
  all_goals first
    | exact fun _ => by simp
    | exact sem_eq_zero_of_no_sems (sig := Cert.Reference2Ideal.sig) (by decide) _

/-- A feed-forward half step leaves the reference's result. -/
theorem value_ffn : Cert.algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g
  · hlo_run
    exact (Cert.Kernel2Ideal.Rows.final m c).symm

/-- The reference of call 3 runs to its end and leaves its arguments as they were. -/
theorem frame_reference3 : Cert.quiescent_Reference3Ideal (hReference3Ideal := Cert.Reference3Ideal.Gen.facts) := by
  intro m g _
  hlo_run
  all_goals first
    | exact fun _ => by simp
    | exact sem_eq_zero_of_no_sems (sig := Cert.Reference3Ideal.sig) (by decide) _

/-- The attention over the memory leaves the reference's result, where the queries and the keys are finite. -/
theorem value_mem_attn : Cert.algebraic_Kernel3Ideal_Reference3Ideal_pre_finite (hKernel3Ideal := Cert.Kernel3Ideal.Gen.facts)
    (hReference3Ideal := Cert.Reference3Ideal.Gen.facts) (hPre_finite := finite_facts) := by
  pair_intro
  · run_from Cert.Kernel3Ideal.Gen.run_main m g
  · hlo_run
    exact (Cert.Kernel3Ideal.Attn.final m c (fun i => Cert.Kernel3Ideal.Attn.real_of_finite _ i (congrFun (hpre c).1 i))
      (fun i => Cert.Kernel3Ideal.Attn.real_of_finite _ i (congrFun (hpre c).2 i))).symm

/-- The reference of call 4 runs to its end and leaves its arguments as they were. -/
theorem frame_reference4 : Cert.quiescent_Reference4Ideal (hReference4Ideal := Cert.Reference4Ideal.Gen.facts) := by
  intro m g _
  hlo_run
  all_goals first
    | exact fun _ => by simp
    | exact sem_eq_zero_of_no_sems (sig := Cert.Reference4Ideal.sig) (by decide) _

/-- The last feed-forward half step on the sample batch leaves the reference's result. -/
theorem value_ffn_last_s : Cert.algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g
  · hlo_run
    exact (Cert.Kernel4Ideal.Rows.final m c).symm

/-- The reference of call 5 runs to its end and leaves its arguments as they were. -/
theorem frame_reference5 : Cert.quiescent_Reference5Ideal (hReference5Ideal := Cert.Reference5Ideal.Gen.facts) := by
  intro m g _
  hlo_run
  all_goals first
    | exact fun _ => by simp
    | exact sem_eq_zero_of_no_sems (sig := Cert.Reference5Ideal.sig) (by decide) _

/-- The projection of the memory leaves the reference's result. -/
theorem value_mem_kv : Cert.algebraic_Kernel5Ideal_Reference5Ideal (hKernel5Ideal := Cert.Kernel5Ideal.Gen.facts)
    (hReference5Ideal := Cert.Reference5Ideal.Gen.facts) := by
  pair_intro
  · run_from Cert.Kernel5Ideal.MemKv.ends_with m g
  · run_from Cert.Reference5Ideal.MemKv.ends_with m' g'

/-- The reference of call 6 runs to its end and leaves its arguments as they were. -/
theorem frame_reference6 : Cert.quiescent_Reference6Ideal (hReference6Ideal := Cert.Reference6Ideal.Gen.facts) := by
  intro m g _
  hlo_run
  all_goals first
    | exact fun _ => by simp
    | exact sem_eq_zero_of_no_sems (sig := Cert.Reference6Ideal.sig) (by decide) _

/-- The projection to keys and values on the sample batch leaves the reference's result. -/
theorem value_kv_s : Cert.algebraic_Kernel6Ideal_Reference6Ideal (hKernel6Ideal := Cert.Kernel6Ideal.Gen.facts)
    (hReference6Ideal := Cert.Reference6Ideal.Gen.facts) := by
  pair_intro
  · run_from Cert.Kernel6Ideal.Kv.ends_with m g
  · run_from Cert.Reference6Ideal.Kv.ends_with m' g'

/-- The reference of call 7 runs to its end and leaves its arguments as they were. -/
theorem frame_reference7 : Cert.quiescent_Reference7Ideal (hReference7Ideal := Cert.Reference7Ideal.Gen.facts) := by
  intro m g _
  hlo_run
  all_goals first
    | exact fun _ => by simp
    | exact sem_eq_zero_of_no_sems (sig := Cert.Reference7Ideal.sig) (by decide) _

/-- The projection to keys and values leaves the reference's result. -/
theorem value_kv_pp : Cert.algebraic_Kernel7Ideal_Reference7Ideal (hKernel7Ideal := Cert.Kernel7Ideal.Gen.facts)
    (hReference7Ideal := Cert.Reference7Ideal.Gen.facts) := by
  pair_intro
  · run_from Cert.Kernel7Ideal.Kv.ends_with m g
  · run_from Cert.Reference7Ideal.Kv.ends_with m' g'

/-- The reference of call 8 runs to its end and leaves its arguments as they were. -/
theorem frame_reference8 : Cert.quiescent_Reference8Ideal (hReference8Ideal := Cert.Reference8Ideal.Gen.facts) := by
  intro m g _
  hlo_run
  all_goals first
    | exact fun _ => by simp
    | exact sem_eq_zero_of_no_sems (sig := Cert.Reference8Ideal.sig) (by decide) _

/-- The first projection and the short convolution on the sample batch leaves the reference's result. -/
theorem value_conv_s : Cert.algebraic_Kernel8Ideal_Reference8Ideal (hKernel8Ideal := Cert.Kernel8Ideal.Gen.facts)
    (hReference8Ideal := Cert.Reference8Ideal.Gen.facts) := by
  pair_intro
  · run_from Cert.Kernel8Ideal.Conv.ends_with m g
  · refine Idealize.ShloMosaic.θ_run_mono (Cert.Reference8Ideal.Conv.ends_with m' g') ?_
    intro r hr c
    obtain ⟨h0, h1, h2, h3, h⟩ := hr c
    obtain ⟨e0, e1, e2, e3, e4⟩ := hagree c
    rw [e0, e1, e2, e3, e4] at h0
    rw [e0, e1, e2, e3] at h3
    rw [e0, e1, e2] at h1 h2
    exact ⟨h0, h1, h2, h3, h⟩

/-- The reference of call 9 runs to its end and leaves its arguments as they were. -/
theorem frame_reference9 : Cert.quiescent_Reference9Ideal (hReference9Ideal := Cert.Reference9Ideal.Gen.facts) := by
  intro m g _
  hlo_run
  all_goals first
    | exact fun _ => by simp
    | exact sem_eq_zero_of_no_sems (sig := Cert.Reference9Ideal.sig) (by decide) _

/-- The first projection and the short convolution leaves the reference's result. -/
theorem value_conv_p : Cert.algebraic_Kernel9Ideal_Reference9Ideal (hKernel9Ideal := Cert.Kernel9Ideal.Gen.facts)
    (hReference9Ideal := Cert.Reference9Ideal.Gen.facts) := by
  pair_intro
  · run_from Cert.Kernel9Ideal.Conv.ends_with m g
  · refine Idealize.ShloMosaic.θ_run_mono (Cert.Reference9Ideal.Conv.ends_with m' g') ?_
    intro r hr c
    obtain ⟨h0, h1, h2, h3, h⟩ := hr c
    obtain ⟨e0, e1, e2, e3⟩ := hagree c
    rw [e0, e1, e2, e3] at h0
    rw [e0, e1, e2] at h3
    rw [e0, e1, e2] at h1 h2
    exact ⟨h0, h1, h2, h3, h⟩

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  finite_facts,
  fun m ρ _ => Cert.Kernel.Gen.frame m ρ,
  fun m ρ _ => Cert.KernelIdeal.Gen.frame m ρ,
  frame_reference,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  fun m ρ _ => Cert.Kernel3Ideal.Gen.frame m ρ,
  frame_reference3,
  fun m g _ => frame_reference3 m g trivial,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  trivial,
  value_ffn_last,
  trivial,
  value_ffn,
  trivial,
  value_mem_attn,
  trivial,
  value_ffn_last_s,
  trivial,
  value_mem_kv,
  trivial,
  value_kv_s,
  trivial,
  value_kv_pp,
  trivial,
  value_conv_s,
  trivial,
  value_conv_p⟩

end Cert.Proof

end
